-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_classes [hPre_labels_in_classes : Cert.Pre_labels_in_classes.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_classes [hPre_labels_in_classes : Cert.Pre_labels_in_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_classes [hKernelIdeal : Cert.KernelIdeal.Facts] [hPre_labels_in_classes : Cert.Pre_labels_in_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_classes m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_classes [hReferenceIdeal : Cert.ReferenceIdeal.Facts] [hPre_labels_in_classes : Cert.Pre_labels_in_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_in_classes [hKernelIdeal : Cert.KernelIdeal.Facts] [hReferenceIdeal : Cert.ReferenceIdeal.Facts] [hPre_labels_in_classes : Cert.Pre_labels_in_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_classes : Cert.Pre_labels_in_classes.Facts),
    quiescent_Kernel (hKernel := hKernel)
    ∧ quiescent_KernelIdeal (hKernelIdeal := hKernelIdeal)
    ∧ quiescent_KernelIdeal_pre_labels_in_classes (hKernelIdeal := hKernelIdeal) (hPre_labels_in_classes := hPre_labels_in_classes)
    ∧ quiescent_ReferenceIdeal (hReferenceIdeal := hReferenceIdeal)
    ∧ quiescent_ReferenceIdeal_pre_labels_in_classes (hReferenceIdeal := hReferenceIdeal) (hPre_labels_in_classes := hPre_labels_in_classes)
    ∧ preserves_Kernel_KernelIdeal
    ∧ algebraic_KernelIdeal_ReferenceIdeal_pre_labels_in_classes (hKernelIdeal := hKernelIdeal) (hReferenceIdeal := hReferenceIdeal) (hPre_labels_in_classes := hPre_labels_in_classes)
-- ==== Pre_labels_in_classes.lean ====
abbrev S4096x128 : Shape := ⟨2, ![4096, 128]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4096x128 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 128#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S4096x128 : Shape := ⟨2, ![4096, 128]⟩
abbrev S4096 : Shape := ⟨1, ![4096]⟩
abbrev S1x4096 : Shape := ⟨2, ![1, 4096]⟩
abbrev S8x128 : Shape := ⟨2, ![8, 128]⟩
abbrev S4096x1 : Shape := ⟨2, ![4096, 1]⟩
abbrev S128x4096 : Shape := ⟨2, ![128, 4096]⟩
abbrev S128x128 : Shape := ⟨2, ![128, 128]⟩
abbrev S128 : Shape := ⟨1, ![128]⟩
abbrev S1x128x128 : Shape := ⟨3, ![1, 128, 128]⟩
abbrev S1 : Shape := ⟨1, ![1]⟩
abbrev S1x1x1 : Shape := ⟨3, ![1, 1, 1]⟩
abbrev S1x128 : Shape := ⟨2, ![1, 128]⟩
abbrev S1x1 : Shape := ⟨2, ![1, 1]⟩
abbrev S1x4096x128 : Shape := ⟨3, ![1, 4096, 128]⟩
abbrev S16384x128 : Shape := ⟨2, ![16384, 128]⟩
abbrev S512x128 : Shape := ⟨2, ![512, 128]⟩
abbrev S512x1 : Shape := ⟨2, ![512, 1]⟩
abbrev S1x512 : Shape := ⟨2, ![1, 512]⟩
abbrev S512x512 : Shape := ⟨2, ![512, 512]⟩
abbrev S128x512 : Shape := ⟨2, ![128, 512]⟩
abbrev S2097152 : Shape := ⟨1, ![2097152]⟩
abbrev S131072 : Shape := ⟨1, ![131072]⟩
abbrev S2x32768 : Shape := ⟨2, ![2, 32768]⟩
abbrev S_ : Shape := ⟨0, ![]⟩
abbrev S16 : Shape := ⟨1, ![16]⟩
abbrev S1x32768 : Shape := ⟨2, ![1, 32768]⟩
abbrev S32768 : Shape := ⟨1, ![32768]⟩
abbrev S1x16 : Shape := ⟨2, ![1, 16]⟩
abbrev S8192x128 : Shape := ⟨2, ![8192, 128]⟩
abbrev S1048576 : Shape := ⟨1, ![1048576]⟩
abbrev S32x256x16 : Shape := ⟨3, ![32, 256, 16]⟩
abbrev S256 : Shape := ⟨1, ![256]⟩
abbrev S100 : Shape := ⟨1, ![100]⟩

abbrev nBuf : Table → Nat
  | .hbm => 66
  | .local .tc .vmem => 34
  | .local .scVector .vmem => 6
  | _ => 0

abbrev bufTy : (tb : Table) → Fin (nBuf tb) → BufTy
  | .hbm, ⟨0, _⟩ => ⟨S4096x128, .f32⟩
  | .hbm, ⟨1, _⟩ => ⟨S4096, .i32⟩
  | .hbm, ⟨2, _⟩ => ⟨S1x4096, .i32⟩
  | .hbm, ⟨3, _⟩ => ⟨S4096x128, .f32⟩
  | .hbm, ⟨4, _⟩ => ⟨S8x128, .f32⟩
  | .hbm, ⟨5, _⟩ => ⟨S4096x1, .i32⟩
  | .hbm, ⟨6, _⟩ => ⟨S1x4096, .i32⟩
  | .hbm, ⟨7, _⟩ => ⟨S16384x128, .i32⟩
  | .hbm, ⟨8, _⟩ => ⟨S2097152, .i32⟩
  | .hbm, ⟨9, _⟩ => ⟨S131072, .f32⟩
  | .hbm, ⟨10, _⟩ => ⟨S4096x1, .i32⟩
  | .hbm, ⟨11, _⟩ => ⟨S1x4096, .i32⟩
  | .hbm, ⟨12, _⟩ => ⟨S8192x128, .i32⟩
  | .hbm, ⟨13, _⟩ => ⟨S1048576, .i32⟩
  | .hbm, ⟨14, _⟩ => ⟨S131072, .f32⟩
  | .hbm, ⟨15, _⟩ => ⟨S131072, .f32⟩
  | .hbm, ⟨16, _⟩ => ⟨S4096x1, .i32⟩
  | .hbm, ⟨17, _⟩ => ⟨S1x4096, .i32⟩
  | .hbm, ⟨18, _⟩ => ⟨S8192x128, .i32⟩
  | .hbm, ⟨19, _⟩ => ⟨S1048576, .i32⟩
  | .hbm, ⟨20, _⟩ => ⟨S131072, .f32⟩
  | .hbm, ⟨21, _⟩ => ⟨S131072, .f32⟩
  | .hbm, ⟨22, _⟩ => ⟨S32x256x16, .f32⟩
  | .hbm, ⟨23, _⟩ => ⟨S_, .f32⟩
  | .hbm, ⟨24, _⟩ => ⟨S256, .f32⟩
  | .hbm, ⟨25, _⟩ => ⟨S100, .f32⟩
  | .hbm, ⟨26, _⟩ => ⟨S100, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S100, .f32⟩
  | .hbm, ⟨32, _⟩ => ⟨S100, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S100, .f32⟩
  | .hbm, ⟨38, _⟩ => ⟨S100, .f32⟩
  | .hbm, ⟨39, _⟩ => ⟨S100, .f32⟩
  | .hbm, ⟨40, _⟩ => ⟨S_, .f32⟩
  | .hbm, ⟨41, _⟩ => ⟨S_, .f32⟩
  | .hbm, ⟨42, _⟩ => ⟨S1x1, .f32⟩
  | .hbm, ⟨43, _⟩ => ⟨S_, .f32⟩
  | .hbm, ⟨44, _⟩ => ⟨S1x1, .f32⟩
  | .hbm, ⟨45, _⟩ => ⟨S_, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local .tc .vmem, ⟨0, _⟩ => ⟨S4096x128, .f32⟩
  | .local .tc .vmem, ⟨1, _⟩ => ⟨S1x4096, .i32⟩
  | .local .tc .vmem, ⟨2, _⟩ => ⟨S4096x128, .f32⟩
  | .local .tc .vmem, ⟨3, _⟩ => ⟨S8x128, .f32⟩
  | .local .tc .vmem, ⟨4, _⟩ => ⟨S512x128, .f32⟩
  | .local .tc .vmem, ⟨5, _⟩ => ⟨S512x128, .f32⟩
  | .local .tc .vmem, ⟨6, _⟩ => ⟨S512x128, .f32⟩
  | .local .tc .vmem, ⟨7, _⟩ => ⟨S512x128, .f32⟩
  | .local .tc .vmem, ⟨8, _⟩ => ⟨S512x1, .i32⟩
  | .local .tc .vmem, ⟨9, _⟩ => ⟨S512x1, .i32⟩
  | .local .tc .vmem, ⟨10, _⟩ => ⟨S1x512, .i32⟩
  | .local .tc .vmem, ⟨11, _⟩ => ⟨S1x512, .i32⟩
  | .local .tc .vmem, ⟨12, _⟩ => ⟨S512x128, .i32⟩
  | .local .tc .vmem, ⟨13, _⟩ => ⟨S512x128, .i32⟩
  | .local .tc .vmem, ⟨14, _⟩ => ⟨S512x128, .f32⟩
  | .local .tc .vmem, ⟨15, _⟩ => ⟨S512x128, .f32⟩
  | .local .tc .vmem, ⟨16, _⟩ => ⟨S512x128, .f32⟩
  | .local .tc .vmem, ⟨17, _⟩ => ⟨S512x128, .f32⟩
  | .local .tc .vmem, ⟨18, _⟩ => ⟨S512x1, .i32⟩
  | .local .tc .vmem, ⟨19, _⟩ => ⟨S512x1, .i32⟩
  | .local .tc .vmem, ⟨20, _⟩ => ⟨S1x512, .i32⟩
  | .local .tc .vmem, ⟨21, _⟩ => ⟨S1x512, .i32⟩
  | .local .tc .vmem, ⟨22, _⟩ => ⟨S512x128, .i32⟩
  | .local .tc .vmem, ⟨23, _⟩ => ⟨S512x128, .i32⟩
  | .local .tc .vmem, ⟨24, _⟩ => ⟨S512x128, .f32⟩
  | .local .tc .vmem, ⟨25, _⟩ => ⟨S512x128, .f32⟩
  | .local .tc .vmem, ⟨26, _⟩ => ⟨S512x128, .f32⟩
  | .local .tc .vmem, ⟨27, _⟩ => ⟨S512x128, .f32⟩
  | .local .tc .vmem, ⟨28, _⟩ => ⟨S512x1, .i32⟩
  | .local .tc .vmem, ⟨29, _⟩ => ⟨S512x1, .i32⟩
  | .local .tc .vmem, ⟨30, _⟩ => ⟨S1x512, .i32⟩
  | .local .tc .vmem, ⟨31, _⟩ => ⟨S1x512, .i32⟩
  | .local .tc .vmem, ⟨32, _⟩ => ⟨S512x128, .i32⟩
  | .local .tc .vmem, ⟨33, _⟩ => ⟨S512x128, .i32⟩
  | .local .scVector .vmem, ⟨0, _⟩ => ⟨S2x32768, .i32⟩
  | .local .scVector .vmem, ⟨1, _⟩ => ⟨S4096, .f32⟩
  | .local .scVector .vmem, ⟨2, _⟩ => ⟨S2x32768, .i32⟩
  | .local .scVector .vmem, ⟨3, _⟩ => ⟨S4096, .f32⟩
  | .local .scVector .vmem, ⟨4, _⟩ => ⟨S2x32768, .i32⟩
  | .local .scVector .vmem, ⟨5, _⟩ => ⟨S4096, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => false
  | ⟨41, _⟩ => false
  | ⟨42, _⟩ => false
  | _ => false

abbrev sig : RefSig :=
  ofTables nBuf rfl bufTy 4 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_call0_cst : Ref sig .tc := ⟨.hbm, 63, rfl⟩
abbrev main_v50 : Ref sig .tc := ⟨.hbm, 64, rfl⟩
abbrev main_v51 : Ref sig .tc := ⟨.hbm, 65, rfl⟩
abbrev main_v5_scv : Ref sig .scVector := ⟨.hbm, 8, rfl⟩
abbrev main_v6_scv : Ref sig .scVector := ⟨.hbm, 9, rfl⟩
abbrev main_v10_scv : Ref sig .scVector := ⟨.hbm, 13, rfl⟩
abbrev main_v11_scv : Ref sig .scVector := ⟨.hbm, 14, rfl⟩
abbrev main_v16_scv : Ref sig .scVector := ⟨.hbm, 19, rfl⟩
abbrev main_v17_scv : Ref sig .scVector := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc5_stg4_0 : Ref sig .tc := ⟨.vmem, 32, rfl⟩
abbrev cc5_stg4_1 : Ref sig .tc := ⟨.vmem, 33, rfl⟩
abbrev cc2_scratch0 : Ref sig .scVector := ⟨.vmem, 0, rfl⟩
abbrev cc2_scratch1 : Ref sig .scVector := ⟨.vmem, 1, rfl⟩
abbrev cc4_scratch0 : Ref sig .scVector := ⟨.vmem, 2, rfl⟩
abbrev cc4_scratch1 : Ref sig .scVector := ⟨.vmem, 3, rfl⟩
abbrev cc6_scratch0 : Ref sig .scVector := ⟨.vmem, 4, rfl⟩
abbrev cc6_scratch1 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38
abbrev cc5_sem4_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![4, 8], ![false, false]⟩

def k1_cond1 (i : grid1.Coords) : BitVec 1 :=
  let arg0 : BitVec 32 := BitVec.ofNat 32 (i 0).val
  let c0_i32 : BitVec 32 := 0#32
  let v0 : BitVec 32 := Scalar.addi arg0 c0_i32
  let arg1 : BitVec 32 := BitVec.ofNat 32 (i 1).val
  let v22 : BitVec 1 := Scalar.cmpi .eq v0 arg1
  let v23 : BitVec 32 := Scalar.extui v22
  let c0_i32_11 : BitVec 32 := 0#32
  let v24 : BitVec 1 := Scalar.cmpi .ne v23 c0_i32_11
  v24

def k1_cond2 (i : grid1.Coords) : BitVec 1 :=
  let arg0 : BitVec 32 := BitVec.ofNat 32 (i 0).val
  let c0_i32 : BitVec 32 := 0#32
  let v0 : BitVec 32 := Scalar.addi arg0 c0_i32
  let arg1 : BitVec 32 := BitVec.ofNat 32 (i 1).val
  let v25 : BitVec 1 := Scalar.cmpi .ne v0 arg1
  let v26 : BitVec 32 := Scalar.extui v25
  let c0_i32_12 : BitVec 32 := 0#32
  let v27 : BitVec 1 := Scalar.cmpi .ne v26 c0_i32_12
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 16], ![false, false]⟩

@[reducible] def k2_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k2_off1 (k2_t1 : Fin k2_t1_loop.trips) : Fin 1 → Nat :=
  let c0_i32_0 : BitVec 32 := 0#32
  let c1_i32 : BitVec 32 := 1#32
  let arg8 : BitVec 32 := Scf.iv c0_i32_0 c1_i32 k2_t1
  let c16_i32 : BitVec 32 := 16#32
  let v36 : BitVec 32 := Scalar.muli arg8 c16_i32
  let v37 : Index := Scalar.indexCast v36
  ![v37.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
def k2_off3 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c32768_i32 : BitVec 32 := 32768#32
  let v14 : BitVec 32 := Scalar.addi v2 c32768_i32
  ![v14.toNat]
@[reducible] def k2_t2_loop : Scf.Loop 32 :=
  let c0_i32_12 : BitVec 32 := 0#32
  let c256_i32_13 : BitVec 32 := 256#32
  let v27 : BitVec 32 := Scalar.addi c0_i32_12 c256_i32_13
  let c1_i32_14 : BitVec 32 := 1#32
  ⟨c0_i32_12, v27, c1_i32_14⟩
def k2_off4 (k2_t2 : Fin k2_t2_loop.trips) : Fin 2 → Nat :=
  let c0_i32_25 : BitVec 32 := 0#32
  let v39 : Index := Scalar.indexCast c0_i32_25
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c0_i32_24 : BitVec 32 := 0#32
  let v38 : BitVec 32 := Scalar.addi v37 c0_i32_24
  let v40 : Index := Scalar.indexCast v38
  ![0, v40.toNat]

def k2_chk1 (v58 : IVec S16 32) : Prop :=
  (∀ a x, ((![v58] : Fin 1 → IVec S16 32) a x).toNat < S4096.size a)
theorem k2_idx1_inb : ∀ (v58 : IVec S16 32) (k2_hw1 : k2_chk1 v58), ∀ a x, ((![v58] : Fin 1 → IVec S16 32) a x).toNat < S4096.size a := fun v58 k2_hw1 => k2_hw1

def k2_chk2 (v59 : IVec S16 32) : Prop :=
  (∀ a x, ((![v59] : Fin 1 → IVec S16 32) a x).toNat < S4096.size a)
theorem k2_idx2_inb : ∀ (v59 : IVec S16 32) (k2_hw2 : k2_chk2 v59), ∀ a x, ((![v59] : Fin 1 → IVec S16 32) a x).toNat < S4096.size a := fun v59 k2_hw2 => k2_hw2

def k2_chk3 (v60 : IVec S16 32) : Prop :=
  (∀ a x, ((![v60] : Fin 1 → IVec S16 32) a x).toNat < S4096.size a)
theorem k2_idx3_inb : ∀ (v60 : IVec S16 32) (k2_hw3 : k2_chk3 v60), ∀ a x, ((![v60] : Fin 1 → IVec S16 32) a x).toNat < S4096.size a := fun v60 k2_hw3 => k2_hw3

def k2_chk4 (v61 : IVec S16 32) : Prop :=
  (∀ a x, ((![v61] : Fin 1 → IVec S16 32) a x).toNat < S4096.size a)
theorem k2_idx4_inb : ∀ (v61 : IVec S16 32) (k2_hw4 : k2_chk4 v61), ∀ a x, ((![v61] : Fin 1 → IVec S16 32) a x).toNat < S4096.size a := fun v61 k2_hw4 => k2_hw4
def k2_off5 (k2_t2 : Fin k2_t2_loop.trips) : Fin 2 → Nat :=
  let c0_i32_30 : BitVec 32 := 0#32
  let v63 : Index := Scalar.indexCast c0_i32_30
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c16_i32 : BitVec 32 := 16#32
  let v62 : BitVec 32 := Scalar.addi v37 c16_i32
  let v64 : Index := Scalar.indexCast v62
  ![0, v64.toNat]

def k2_chk5 (v82 : IVec S16 32) : Prop :=
  (∀ a x, ((![v82] : Fin 1 → IVec S16 32) a x).toNat < S4096.size a)
theorem k2_idx5_inb : ∀ (v82 : IVec S16 32) (k2_hw5 : k2_chk5 v82), ∀ a x, ((![v82] : Fin 1 → IVec S16 32) a x).toNat < S4096.size a := fun v82 k2_hw5 => k2_hw5

def k2_chk6 (v83 : IVec S16 32) : Prop :=
  (∀ a x, ((![v83] : Fin 1 → IVec S16 32) a x).toNat < S4096.size a)
theorem k2_idx6_inb : ∀ (v83 : IVec S16 32) (k2_hw6 : k2_chk6 v83), ∀ a x, ((![v83] : Fin 1 → IVec S16 32) a x).toNat < S4096.size a := fun v83 k2_hw6 => k2_hw6

def k2_chk7 (v84 : IVec S16 32) : Prop :=
  (∀ a x, ((![v84] : Fin 1 → IVec S16 32) a x).toNat < S4096.size a)
theorem k2_idx7_inb : ∀ (v84 : IVec S16 32) (k2_hw7 : k2_chk7 v84), ∀ a x, ((![v84] : Fin 1 → IVec S16 32) a x).toNat < S4096.size a := fun v84 k2_hw7 => k2_hw7

def k2_chk8 (v85 : IVec S16 32) : Prop :=
  (∀ a x, ((![v85] : Fin 1 → IVec S16 32) a x).toNat < S4096.size a)
theorem k2_idx8_inb : ∀ (v85 : IVec S16 32) (k2_hw8 : k2_chk8 v85), ∀ a x, ((![v85] : Fin 1 → IVec S16 32) a x).toNat < S4096.size a := fun v85 k2_hw8 => k2_hw8
def k2_off6 (k2_t2 : Fin k2_t2_loop.trips) : Fin 2 → Nat :=
  let c0_i32_39 : BitVec 32 := 0#32
  let v87 : Index := Scalar.indexCast c0_i32_39
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c32_i32 : BitVec 32 := 32#32
  let v86 : BitVec 32 := Scalar.addi v37 c32_i32
  let v88 : Index := Scalar.indexCast v86
  ![0, v88.toNat]

def k2_chk9 (v106 : IVec S16 32) : Prop :=
  (∀ a x, ((![v106] : Fin 1 → IVec S16 32) a x).toNat < S4096.size a)
theorem k2_idx9_inb : ∀ (v106 : IVec S16 32) (k2_hw9 : k2_chk9 v106), ∀ a x, ((![v106] : Fin 1 → IVec S16 32) a x).toNat < S4096.size a := fun v106 k2_hw9 => k2_hw9

def k2_chk10 (v107 : IVec S16 32) : Prop :=
  (∀ a x, ((![v107] : Fin 1 → IVec S16 32) a x).toNat < S4096.size a)
theorem k2_idx10_inb : ∀ (v107 : IVec S16 32) (k2_hw10 : k2_chk10 v107), ∀ a x, ((![v107] : Fin 1 → IVec S16 32) a x).toNat < S4096.size a := fun v107 k2_hw10 => k2_hw10

def k2_chk11 (v108 : IVec S16 32) : Prop :=
  (∀ a x, ((![v108] : Fin 1 → IVec S16 32) a x).toNat < S4096.size a)
theorem k2_idx11_inb : ∀ (v108 : IVec S16 32) (k2_hw11 : k2_chk11 v108), ∀ a x, ((![v108] : Fin 1 → IVec S16 32) a x).toNat < S4096.size a := fun v108 k2_hw11 => k2_hw11

def k2_chk12 (v109 : IVec S16 32) : Prop :=
  (∀ a x, ((![v109] : Fin 1 → IVec S16 32) a x).toNat < S4096.size a)
theorem k2_idx12_inb : ∀ (v109 : IVec S16 32) (k2_hw12 : k2_chk12 v109), ∀ a x, ((![v109] : Fin 1 → IVec S16 32) a x).toNat < S4096.size a := fun v109 k2_hw12 => k2_hw12
def k2_off7 (k2_t2 : Fin k2_t2_loop.trips) : Fin 2 → Nat :=
  let c0_i32_48 : BitVec 32 := 0#32
  let v111 : Index := Scalar.indexCast c0_i32_48
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c48_i32 : BitVec 32 := 48#32
  let v110 : BitVec 32 := Scalar.addi v37 c48_i32
  let v112 : Index := Scalar.indexCast v110
  ![0, v112.toNat]

def k2_chk13 (v130 : IVec S16 32) : Prop :=
  (∀ a x, ((![v130] : Fin 1 → IVec S16 32) a x).toNat < S4096.size a)
theorem k2_idx13_inb : ∀ (v130 : IVec S16 32) (k2_hw13 : k2_chk13 v130), ∀ a x, ((![v130] : Fin 1 → IVec S16 32) a x).toNat < S4096.size a := fun v130 k2_hw13 => k2_hw13

def k2_chk14 (v131 : IVec S16 32) : Prop :=
  (∀ a x, ((![v131] : Fin 1 → IVec S16 32) a x).toNat < S4096.size a)
theorem k2_idx14_inb : ∀ (v131 : IVec S16 32) (k2_hw14 : k2_chk14 v131), ∀ a x, ((![v131] : Fin 1 → IVec S16 32) a x).toNat < S4096.size a := fun v131 k2_hw14 => k2_hw14

def k2_chk15 (v132 : IVec S16 32) : Prop :=
  (∀ a x, ((![v132] : Fin 1 → IVec S16 32) a x).toNat < S4096.size a)
theorem k2_idx15_inb : ∀ (v132 : IVec S16 32) (k2_hw15 : k2_chk15 v132), ∀ a x, ((![v132] : Fin 1 → IVec S16 32) a x).toNat < S4096.size a := fun v132 k2_hw15 => k2_hw15

def k2_chk16 (v133 : IVec S16 32) : Prop :=
  (∀ a x, ((![v133] : Fin 1 → IVec S16 32) a x).toNat < S4096.size a)
theorem k2_idx16_inb : ∀ (v133 : IVec S16 32) (k2_hw16 : k2_chk16 v133), ∀ a x, ((![v133] : Fin 1 → IVec S16 32) a x).toNat < S4096.size a := fun v133 k2_hw16 => k2_hw16
def k2_off8 (k2_t2 : Fin k2_t2_loop.trips) : Fin 2 → Nat :=
  let c0_i32_57 : BitVec 32 := 0#32
  let v135 : Index := Scalar.indexCast c0_i32_57
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c64_i32 : BitVec 32 := 64#32
  let v134 : BitVec 32 := Scalar.addi v37 c64_i32
  let v136 : Index := Scalar.indexCast v134
  ![0, v136.toNat]

def k2_chk17 (v154 : IVec S16 32) : Prop :=
  (∀ a x, ((![v154] : Fin 1 → IVec S16 32) a x).toNat < S4096.size a)
theorem k2_idx17_inb : ∀ (v154 : IVec S16 32) (k2_hw17 : k2_chk17 v154), ∀ a x, ((![v154] : Fin 1 → IVec S16 32) a x).toNat < S4096.size a := fun v154 k2_hw17 => k2_hw17

def k2_chk18 (v155 : IVec S16 32) : Prop :=
  (∀ a x, ((![v155] : Fin 1 → IVec S16 32) a x).toNat < S4096.size a)
theorem k2_idx18_inb : ∀ (v155 : IVec S16 32) (k2_hw18 : k2_chk18 v155), ∀ a x, ((![v155] : Fin 1 → IVec S16 32) a x).toNat < S4096.size a := fun v155 k2_hw18 => k2_hw18

def k2_chk19 (v156 : IVec S16 32) : Prop :=
  (∀ a x, ((![v156] : Fin 1 → IVec S16 32) a x).toNat < S4096.size a)
theorem k2_idx19_inb : ∀ (v156 : IVec S16 32) (k2_hw19 : k2_chk19 v156), ∀ a x, ((![v156] : Fin 1 → IVec S16 32) a x).toNat < S4096.size a := fun v156 k2_hw19 => k2_hw19

def k2_chk20 (v157 : IVec S16 32) : Prop :=
  (∀ a x, ((![v157] : Fin 1 → IVec S16 32) a x).toNat < S4096.size a)
theorem k2_idx20_inb : ∀ (v157 : IVec S16 32) (k2_hw20 : k2_chk20 v157), ∀ a x, ((![v157] : Fin 1 → IVec S16 32) a x).toNat < S4096.size a := fun v157 k2_hw20 => k2_hw20
def k2_off9 (k2_t2 : Fin k2_t2_loop.trips) : Fin 2 → Nat :=
  let c0_i32_66 : BitVec 32 := 0#32
  let v159 : Index := Scalar.indexCast c0_i32_66
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c80_i32 : BitVec 32 := 80#32
  let v158 : BitVec 32 := Scalar.addi v37 c80_i32
  let v160 : Index := Scalar.indexCast v158
  ![0, v160.toNat]

def k2_chk21 (v178 : IVec S16 32) : Prop :=
  (∀ a x, ((![v178] : Fin 1 → IVec S16 32) a x).toNat < S4096.size a)
theorem k2_idx21_inb : ∀ (v178 : IVec S16 32) (k2_hw21 : k2_chk21 v178), ∀ a x, ((![v178] : Fin 1 → IVec S16 32) a x).toNat < S4096.size a := fun v178 k2_hw21 => k2_hw21

def k2_chk22 (v179 : IVec S16 32) : Prop :=
  (∀ a x, ((![v179] : Fin 1 → IVec S16 32) a x).toNat < S4096.size a)
theorem k2_idx22_inb : ∀ (v179 : IVec S16 32) (k2_hw22 : k2_chk22 v179), ∀ a x, ((![v179] : Fin 1 → IVec S16 32) a x).toNat < S4096.size a := fun v179 k2_hw22 => k2_hw22

def k2_chk23 (v180 : IVec S16 32) : Prop :=
  (∀ a x, ((![v180] : Fin 1 → IVec S16 32) a x).toNat < S4096.size a)
theorem k2_idx23_inb : ∀ (v180 : IVec S16 32) (k2_hw23 : k2_chk23 v180), ∀ a x, ((![v180] : Fin 1 → IVec S16 32) a x).toNat < S4096.size a := fun v180 k2_hw23 => k2_hw23

def k2_chk24 (v181 : IVec S16 32) : Prop :=
  (∀ a x, ((![v181] : Fin 1 → IVec S16 32) a x).toNat < S4096.size a)
theorem k2_idx24_inb : ∀ (v181 : IVec S16 32) (k2_hw24 : k2_chk24 v181), ∀ a x, ((![v181] : Fin 1 → IVec S16 32) a x).toNat < S4096.size a := fun v181 k2_hw24 => k2_hw24
def k2_off10 (k2_t2 : Fin k2_t2_loop.trips) : Fin 2 → Nat :=
  let c0_i32_75 : BitVec 32 := 0#32
  let v183 : Index := Scalar.indexCast c0_i32_75
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c96_i32 : BitVec 32 := 96#32
  let v182 : BitVec 32 := Scalar.addi v37 c96_i32
  let v184 : Index := Scalar.indexCast v182
  ![0, v184.toNat]

def k2_chk25 (v202 : IVec S16 32) : Prop :=
  (∀ a x, ((![v202] : Fin 1 → IVec S16 32) a x).toNat < S4096.size a)
theorem k2_idx25_inb : ∀ (v202 : IVec S16 32) (k2_hw25 : k2_chk25 v202), ∀ a x, ((![v202] : Fin 1 → IVec S16 32) a x).toNat < S4096.size a := fun v202 k2_hw25 => k2_hw25

def k2_chk26 (v203 : IVec S16 32) : Prop :=
  (∀ a x, ((![v203] : Fin 1 → IVec S16 32) a x).toNat < S4096.size a)
theorem k2_idx26_inb : ∀ (v203 : IVec S16 32) (k2_hw26 : k2_chk26 v203), ∀ a x, ((![v203] : Fin 1 → IVec S16 32) a x).toNat < S4096.size a := fun v203 k2_hw26 => k2_hw26

def k2_chk27 (v204 : IVec S16 32) : Prop :=
  (∀ a x, ((![v204] : Fin 1 → IVec S16 32) a x).toNat < S4096.size a)
theorem k2_idx27_inb : ∀ (v204 : IVec S16 32) (k2_hw27 : k2_chk27 v204), ∀ a x, ((![v204] : Fin 1 → IVec S16 32) a x).toNat < S4096.size a := fun v204 k2_hw27 => k2_hw27

def k2_chk28 (v205 : IVec S16 32) : Prop :=
  (∀ a x, ((![v205] : Fin 1 → IVec S16 32) a x).toNat < S4096.size a)
theorem k2_idx28_inb : ∀ (v205 : IVec S16 32) (k2_hw28 : k2_chk28 v205), ∀ a x, ((![v205] : Fin 1 → IVec S16 32) a x).toNat < S4096.size a := fun v205 k2_hw28 => k2_hw28
def k2_off11 (k2_t2 : Fin k2_t2_loop.trips) : Fin 2 → Nat :=
  let c0_i32_84 : BitVec 32 := 0#32
  let v207 : Index := Scalar.indexCast c0_i32_84
  let c0_i32_23 : BitVec 32 := 0#32
  let c0_i32_12 : BitVec 32 := 0#32
  let c1_i32_14 : BitVec 32 := 1#32
  let arg8 : BitVec 32 := Scf.iv c0_i32_12 c1_i32_14 k2_t2
  let c128_i32 : BitVec 32 := 128#32
  let v36 : BitVec 32 := Scalar.muli arg8 c128_i32
  let v37 : BitVec 32 := Scalar.addi c0_i32_23 v36
  let c112_i32 : BitVec 32 := 112#32
  let v206 : BitVec 32 := Scalar.addi v37 c112_i32
  let v208 : Index := Scalar.indexCast v206
  ![0, v208.toNat]

def k2_chk29 (v226 : IVec S16 32) : Prop :=
  (∀ a x, ((![v226] : Fin 1 → IVec S16 32) a x).toNat < S4096.size a)
theorem k2_idx29_inb : ∀ (v226 : IVec S16 32) (k2_hw29 : k2_chk29 v226), ∀ a x, ((![v226] : Fin 1 → IVec S16 32) a x).toNat < S4096.size a := fun v226 k2_hw29 => k2_hw29

def k2_chk30 (v227 : IVec S16 32) : Prop :=
  (∀ a x, ((![v227] : Fin 1 → IVec S16 32) a x).toNat < S4096.size a)
theorem k2_idx30_inb : ∀ (v227 : IVec S16 32) (k2_hw30 : k2_chk30 v227), ∀ a x, ((![v227] : Fin 1 → IVec S16 32) a x).toNat < S4096.size a := fun v227 k2_hw30 => k2_hw30

def k2_chk31 (v228 : IVec S16 32) : Prop :=
  (∀ a x, ((![v228] : Fin 1 → IVec S16 32) a x).toNat < S4096.size a)
theorem k2_idx31_inb : ∀ (v228 : IVec S16 32) (k2_hw31 : k2_chk31 v228), ∀ a x, ((![v228] : Fin 1 → IVec S16 32) a x).toNat < S4096.size a := fun v228 k2_hw31 => k2_hw31

def k2_chk32 (v229 : IVec S16 32) : Prop :=
  (∀ a x, ((![v229] : Fin 1 → IVec S16 32) a x).toNat < S4096.size a)
theorem k2_idx32_inb : ∀ (v229 : IVec S16 32) (k2_hw32 : k2_chk32 v229), ∀ a x, ((![v229] : Fin 1 → IVec S16 32) a x).toNat < S4096.size a := fun v229 k2_hw32 => k2_hw32
@[reducible] def k2_t3_loop : Scf.Loop 32 :=
  let c0_i32_19 : BitVec 32 := 0#32
  let c256_i32_20 : BitVec 32 := 256#32
  let v34 : BitVec 32 := Scalar.addi c0_i32_19 c256_i32_20
  let c1_i32_21 : BitVec 32 := 1#32
  ⟨c0_i32_19, v34, c1_i32_21⟩
def k2_off12 (k2_t3 : Fin k2_t3_loop.trips) : Fin 2 → Nat :=
  let c1_i32_25 : BitVec 32 := 1#32
  let v39 : Index := Scalar.indexCast c1_i32_25
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c0_i32_24 : BitVec 32 := 0#32
  let v38 : BitVec 32 := Scalar.addi v37 c0_i32_24
  let v40 : Index := Scalar.indexCast v38
  ![1, v40.toNat]

def k2_chk33 (v58 : IVec S16 32) : Prop :=
  (∀ a x, ((![v58] : Fin 1 → IVec S16 32) a x).toNat < S4096.size a)
theorem k2_idx33_inb : ∀ (v58 : IVec S16 32) (k2_hw33 : k2_chk33 v58), ∀ a x, ((![v58] : Fin 1 → IVec S16 32) a x).toNat < S4096.size a := fun v58 k2_hw33 => k2_hw33

def k2_chk34 (v59 : IVec S16 32) : Prop :=
  (∀ a x, ((![v59] : Fin 1 → IVec S16 32) a x).toNat < S4096.size a)
theorem k2_idx34_inb : ∀ (v59 : IVec S16 32) (k2_hw34 : k2_chk34 v59), ∀ a x, ((![v59] : Fin 1 → IVec S16 32) a x).toNat < S4096.size a := fun v59 k2_hw34 => k2_hw34

def k2_chk35 (v60 : IVec S16 32) : Prop :=
  (∀ a x, ((![v60] : Fin 1 → IVec S16 32) a x).toNat < S4096.size a)
theorem k2_idx35_inb : ∀ (v60 : IVec S16 32) (k2_hw35 : k2_chk35 v60), ∀ a x, ((![v60] : Fin 1 → IVec S16 32) a x).toNat < S4096.size a := fun v60 k2_hw35 => k2_hw35

def k2_chk36 (v61 : IVec S16 32) : Prop :=
  (∀ a x, ((![v61] : Fin 1 → IVec S16 32) a x).toNat < S4096.size a)
theorem k2_idx36_inb : ∀ (v61 : IVec S16 32) (k2_hw36 : k2_chk36 v61), ∀ a x, ((![v61] : Fin 1 → IVec S16 32) a x).toNat < S4096.size a := fun v61 k2_hw36 => k2_hw36
def k2_off13 (k2_t3 : Fin k2_t3_loop.trips) : Fin 2 → Nat :=
  let c1_i32_30 : BitVec 32 := 1#32
  let v63 : Index := Scalar.indexCast c1_i32_30
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c16_i32 : BitVec 32 := 16#32
  let v62 : BitVec 32 := Scalar.addi v37 c16_i32
  let v64 : Index := Scalar.indexCast v62
  ![1, v64.toNat]

def k2_chk37 (v82 : IVec S16 32) : Prop :=
  (∀ a x, ((![v82] : Fin 1 → IVec S16 32) a x).toNat < S4096.size a)
theorem k2_idx37_inb : ∀ (v82 : IVec S16 32) (k2_hw37 : k2_chk37 v82), ∀ a x, ((![v82] : Fin 1 → IVec S16 32) a x).toNat < S4096.size a := fun v82 k2_hw37 => k2_hw37

def k2_chk38 (v83 : IVec S16 32) : Prop :=
  (∀ a x, ((![v83] : Fin 1 → IVec S16 32) a x).toNat < S4096.size a)
theorem k2_idx38_inb : ∀ (v83 : IVec S16 32) (k2_hw38 : k2_chk38 v83), ∀ a x, ((![v83] : Fin 1 → IVec S16 32) a x).toNat < S4096.size a := fun v83 k2_hw38 => k2_hw38

def k2_chk39 (v84 : IVec S16 32) : Prop :=
  (∀ a x, ((![v84] : Fin 1 → IVec S16 32) a x).toNat < S4096.size a)
theorem k2_idx39_inb : ∀ (v84 : IVec S16 32) (k2_hw39 : k2_chk39 v84), ∀ a x, ((![v84] : Fin 1 → IVec S16 32) a x).toNat < S4096.size a := fun v84 k2_hw39 => k2_hw39

def k2_chk40 (v85 : IVec S16 32) : Prop :=
  (∀ a x, ((![v85] : Fin 1 → IVec S16 32) a x).toNat < S4096.size a)
theorem k2_idx40_inb : ∀ (v85 : IVec S16 32) (k2_hw40 : k2_chk40 v85), ∀ a x, ((![v85] : Fin 1 → IVec S16 32) a x).toNat < S4096.size a := fun v85 k2_hw40 => k2_hw40
def k2_off14 (k2_t3 : Fin k2_t3_loop.trips) : Fin 2 → Nat :=
  let c1_i32_39 : BitVec 32 := 1#32
  let v87 : Index := Scalar.indexCast c1_i32_39
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c32_i32 : BitVec 32 := 32#32
  let v86 : BitVec 32 := Scalar.addi v37 c32_i32
  let v88 : Index := Scalar.indexCast v86
  ![1, v88.toNat]

def k2_chk41 (v106 : IVec S16 32) : Prop :=
  (∀ a x, ((![v106] : Fin 1 → IVec S16 32) a x).toNat < S4096.size a)
theorem k2_idx41_inb : ∀ (v106 : IVec S16 32) (k2_hw41 : k2_chk41 v106), ∀ a x, ((![v106] : Fin 1 → IVec S16 32) a x).toNat < S4096.size a := fun v106 k2_hw41 => k2_hw41

def k2_chk42 (v107 : IVec S16 32) : Prop :=
  (∀ a x, ((![v107] : Fin 1 → IVec S16 32) a x).toNat < S4096.size a)
theorem k2_idx42_inb : ∀ (v107 : IVec S16 32) (k2_hw42 : k2_chk42 v107), ∀ a x, ((![v107] : Fin 1 → IVec S16 32) a x).toNat < S4096.size a := fun v107 k2_hw42 => k2_hw42

def k2_chk43 (v108 : IVec S16 32) : Prop :=
  (∀ a x, ((![v108] : Fin 1 → IVec S16 32) a x).toNat < S4096.size a)
theorem k2_idx43_inb : ∀ (v108 : IVec S16 32) (k2_hw43 : k2_chk43 v108), ∀ a x, ((![v108] : Fin 1 → IVec S16 32) a x).toNat < S4096.size a := fun v108 k2_hw43 => k2_hw43

def k2_chk44 (v109 : IVec S16 32) : Prop :=
  (∀ a x, ((![v109] : Fin 1 → IVec S16 32) a x).toNat < S4096.size a)
theorem k2_idx44_inb : ∀ (v109 : IVec S16 32) (k2_hw44 : k2_chk44 v109), ∀ a x, ((![v109] : Fin 1 → IVec S16 32) a x).toNat < S4096.size a := fun v109 k2_hw44 => k2_hw44
def k2_off15 (k2_t3 : Fin k2_t3_loop.trips) : Fin 2 → Nat :=
  let c1_i32_48 : BitVec 32 := 1#32
  let v111 : Index := Scalar.indexCast c1_i32_48
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c48_i32 : BitVec 32 := 48#32
  let v110 : BitVec 32 := Scalar.addi v37 c48_i32
  let v112 : Index := Scalar.indexCast v110
  ![1, v112.toNat]

def k2_chk45 (v130 : IVec S16 32) : Prop :=
  (∀ a x, ((![v130] : Fin 1 → IVec S16 32) a x).toNat < S4096.size a)
theorem k2_idx45_inb : ∀ (v130 : IVec S16 32) (k2_hw45 : k2_chk45 v130), ∀ a x, ((![v130] : Fin 1 → IVec S16 32) a x).toNat < S4096.size a := fun v130 k2_hw45 => k2_hw45

def k2_chk46 (v131 : IVec S16 32) : Prop :=
  (∀ a x, ((![v131] : Fin 1 → IVec S16 32) a x).toNat < S4096.size a)
theorem k2_idx46_inb : ∀ (v131 : IVec S16 32) (k2_hw46 : k2_chk46 v131), ∀ a x, ((![v131] : Fin 1 → IVec S16 32) a x).toNat < S4096.size a := fun v131 k2_hw46 => k2_hw46

def k2_chk47 (v132 : IVec S16 32) : Prop :=
  (∀ a x, ((![v132] : Fin 1 → IVec S16 32) a x).toNat < S4096.size a)
theorem k2_idx47_inb : ∀ (v132 : IVec S16 32) (k2_hw47 : k2_chk47 v132), ∀ a x, ((![v132] : Fin 1 → IVec S16 32) a x).toNat < S4096.size a := fun v132 k2_hw47 => k2_hw47

def k2_chk48 (v133 : IVec S16 32) : Prop :=
  (∀ a x, ((![v133] : Fin 1 → IVec S16 32) a x).toNat < S4096.size a)
theorem k2_idx48_inb : ∀ (v133 : IVec S16 32) (k2_hw48 : k2_chk48 v133), ∀ a x, ((![v133] : Fin 1 → IVec S16 32) a x).toNat < S4096.size a := fun v133 k2_hw48 => k2_hw48
def k2_off16 (k2_t3 : Fin k2_t3_loop.trips) : Fin 2 → Nat :=
  let c1_i32_57 : BitVec 32 := 1#32
  let v135 : Index := Scalar.indexCast c1_i32_57
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c64_i32 : BitVec 32 := 64#32
  let v134 : BitVec 32 := Scalar.addi v37 c64_i32
  let v136 : Index := Scalar.indexCast v134
  ![1, v136.toNat]

def k2_chk49 (v154 : IVec S16 32) : Prop :=
  (∀ a x, ((![v154] : Fin 1 → IVec S16 32) a x).toNat < S4096.size a)
theorem k2_idx49_inb : ∀ (v154 : IVec S16 32) (k2_hw49 : k2_chk49 v154), ∀ a x, ((![v154] : Fin 1 → IVec S16 32) a x).toNat < S4096.size a := fun v154 k2_hw49 => k2_hw49

def k2_chk50 (v155 : IVec S16 32) : Prop :=
  (∀ a x, ((![v155] : Fin 1 → IVec S16 32) a x).toNat < S4096.size a)
theorem k2_idx50_inb : ∀ (v155 : IVec S16 32) (k2_hw50 : k2_chk50 v155), ∀ a x, ((![v155] : Fin 1 → IVec S16 32) a x).toNat < S4096.size a := fun v155 k2_hw50 => k2_hw50

def k2_chk51 (v156 : IVec S16 32) : Prop :=
  (∀ a x, ((![v156] : Fin 1 → IVec S16 32) a x).toNat < S4096.size a)
theorem k2_idx51_inb : ∀ (v156 : IVec S16 32) (k2_hw51 : k2_chk51 v156), ∀ a x, ((![v156] : Fin 1 → IVec S16 32) a x).toNat < S4096.size a := fun v156 k2_hw51 => k2_hw51

def k2_chk52 (v157 : IVec S16 32) : Prop :=
  (∀ a x, ((![v157] : Fin 1 → IVec S16 32) a x).toNat < S4096.size a)
theorem k2_idx52_inb : ∀ (v157 : IVec S16 32) (k2_hw52 : k2_chk52 v157), ∀ a x, ((![v157] : Fin 1 → IVec S16 32) a x).toNat < S4096.size a := fun v157 k2_hw52 => k2_hw52
def k2_off17 (k2_t3 : Fin k2_t3_loop.trips) : Fin 2 → Nat :=
  let c1_i32_66 : BitVec 32 := 1#32
  let v159 : Index := Scalar.indexCast c1_i32_66
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c80_i32 : BitVec 32 := 80#32
  let v158 : BitVec 32 := Scalar.addi v37 c80_i32
  let v160 : Index := Scalar.indexCast v158
  ![1, v160.toNat]

def k2_chk53 (v178 : IVec S16 32) : Prop :=
  (∀ a x, ((![v178] : Fin 1 → IVec S16 32) a x).toNat < S4096.size a)
theorem k2_idx53_inb : ∀ (v178 : IVec S16 32) (k2_hw53 : k2_chk53 v178), ∀ a x, ((![v178] : Fin 1 → IVec S16 32) a x).toNat < S4096.size a := fun v178 k2_hw53 => k2_hw53

def k2_chk54 (v179 : IVec S16 32) : Prop :=
  (∀ a x, ((![v179] : Fin 1 → IVec S16 32) a x).toNat < S4096.size a)
theorem k2_idx54_inb : ∀ (v179 : IVec S16 32) (k2_hw54 : k2_chk54 v179), ∀ a x, ((![v179] : Fin 1 → IVec S16 32) a x).toNat < S4096.size a := fun v179 k2_hw54 => k2_hw54

def k2_chk55 (v180 : IVec S16 32) : Prop :=
  (∀ a x, ((![v180] : Fin 1 → IVec S16 32) a x).toNat < S4096.size a)
theorem k2_idx55_inb : ∀ (v180 : IVec S16 32) (k2_hw55 : k2_chk55 v180), ∀ a x, ((![v180] : Fin 1 → IVec S16 32) a x).toNat < S4096.size a := fun v180 k2_hw55 => k2_hw55

def k2_chk56 (v181 : IVec S16 32) : Prop :=
  (∀ a x, ((![v181] : Fin 1 → IVec S16 32) a x).toNat < S4096.size a)
theorem k2_idx56_inb : ∀ (v181 : IVec S16 32) (k2_hw56 : k2_chk56 v181), ∀ a x, ((![v181] : Fin 1 → IVec S16 32) a x).toNat < S4096.size a := fun v181 k2_hw56 => k2_hw56
def k2_off18 (k2_t3 : Fin k2_t3_loop.trips) : Fin 2 → Nat :=
  let c1_i32_75 : BitVec 32 := 1#32
  let v183 : Index := Scalar.indexCast c1_i32_75
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c96_i32 : BitVec 32 := 96#32
  let v182 : BitVec 32 := Scalar.addi v37 c96_i32
  let v184 : Index := Scalar.indexCast v182
  ![1, v184.toNat]

def k2_chk57 (v202 : IVec S16 32) : Prop :=
  (∀ a x, ((![v202] : Fin 1 → IVec S16 32) a x).toNat < S4096.size a)
theorem k2_idx57_inb : ∀ (v202 : IVec S16 32) (k2_hw57 : k2_chk57 v202), ∀ a x, ((![v202] : Fin 1 → IVec S16 32) a x).toNat < S4096.size a := fun v202 k2_hw57 => k2_hw57

def k2_chk58 (v203 : IVec S16 32) : Prop :=
  (∀ a x, ((![v203] : Fin 1 → IVec S16 32) a x).toNat < S4096.size a)
theorem k2_idx58_inb : ∀ (v203 : IVec S16 32) (k2_hw58 : k2_chk58 v203), ∀ a x, ((![v203] : Fin 1 → IVec S16 32) a x).toNat < S4096.size a := fun v203 k2_hw58 => k2_hw58

def k2_chk59 (v204 : IVec S16 32) : Prop :=
  (∀ a x, ((![v204] : Fin 1 → IVec S16 32) a x).toNat < S4096.size a)
theorem k2_idx59_inb : ∀ (v204 : IVec S16 32) (k2_hw59 : k2_chk59 v204), ∀ a x, ((![v204] : Fin 1 → IVec S16 32) a x).toNat < S4096.size a := fun v204 k2_hw59 => k2_hw59

def k2_chk60 (v205 : IVec S16 32) : Prop :=
  (∀ a x, ((![v205] : Fin 1 → IVec S16 32) a x).toNat < S4096.size a)
theorem k2_idx60_inb : ∀ (v205 : IVec S16 32) (k2_hw60 : k2_chk60 v205), ∀ a x, ((![v205] : Fin 1 → IVec S16 32) a x).toNat < S4096.size a := fun v205 k2_hw60 => k2_hw60
def k2_off19 (k2_t3 : Fin k2_t3_loop.trips) : Fin 2 → Nat :=
  let c1_i32_84 : BitVec 32 := 1#32
  let v207 : Index := Scalar.indexCast c1_i32_84
  let c0_i32_23 : BitVec 32 := 0#32
  let c0_i32_19 : BitVec 32 := 0#32
  let c1_i32_21 : BitVec 32 := 1#32
  let arg8 : BitVec 32 := Scf.iv c0_i32_19 c1_i32_21 k2_t3
  let c128_i32 : BitVec 32 := 128#32
  let v36 : BitVec 32 := Scalar.muli arg8 c128_i32
  let v37 : BitVec 32 := Scalar.addi c0_i32_23 v36
  let c112_i32 : BitVec 32 := 112#32
  let v206 : BitVec 32 := Scalar.addi v37 c112_i32
  let v208 : Index := Scalar.indexCast v206
  ![1, v208.toNat]

def k2_chk61 (v226 : IVec S16 32) : Prop :=
  (∀ a x, ((![v226] : Fin 1 → IVec S16 32) a x).toNat < S4096.size a)
theorem k2_idx61_inb : ∀ (v226 : IVec S16 32) (k2_hw61 : k2_chk61 v226), ∀ a x, ((![v226] : Fin 1 → IVec S16 32) a x).toNat < S4096.size a := fun v226 k2_hw61 => k2_hw61

def k2_chk62 (v227 : IVec S16 32) : Prop :=
  (∀ a x, ((![v227] : Fin 1 → IVec S16 32) a x).toNat < S4096.size a)
theorem k2_idx62_inb : ∀ (v227 : IVec S16 32) (k2_hw62 : k2_chk62 v227), ∀ a x, ((![v227] : Fin 1 → IVec S16 32) a x).toNat < S4096.size a := fun v227 k2_hw62 => k2_hw62

def k2_chk63 (v228 : IVec S16 32) : Prop :=
  (∀ a x, ((![v228] : Fin 1 → IVec S16 32) a x).toNat < S4096.size a)
theorem k2_idx63_inb : ∀ (v228 : IVec S16 32) (k2_hw63 : k2_chk63 v228), ∀ a x, ((![v228] : Fin 1 → IVec S16 32) a x).toNat < S4096.size a := fun v228 k2_hw63 => k2_hw63

def k2_chk64 (v229 : IVec S16 32) : Prop :=
  (∀ a x, ((![v229] : Fin 1 → IVec S16 32) a x).toNat < S4096.size a)
theorem k2_idx64_inb : ∀ (v229 : IVec S16 32) (k2_hw64 : k2_chk64 v229), ∀ a x, ((![v229] : Fin 1 → IVec S16 32) a x).toNat < S4096.size a := fun v229 k2_hw64 => k2_hw64
def k2_off20 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v35 : BitVec 32 := Scalar.muli v1 c4096_i32
  ![v35.toNat]
abbrev grid3 : Pipeline.Grid := ⟨2, ![2, 8], ![false, false]⟩

def k3_cond1 (i : grid3.Coords) : BitVec 1 :=
  let arg0 : BitVec 32 := BitVec.ofNat 32 (i 0).val
  let c4_i32 : BitVec 32 := 4#32
  let v0 : BitVec 32 := Scalar.addi arg0 c4_i32
  let arg1 : BitVec 32 := BitVec.ofNat 32 (i 1).val
  let v22 : BitVec 1 := Scalar.cmpi .eq v0 arg1
  let v23 : BitVec 32 := Scalar.extui v22
  let c0_i32 : BitVec 32 := 0#32
  let v24 : BitVec 1 := Scalar.cmpi .ne v23 c0_i32
  v24

def k3_cond2 (i : grid3.Coords) : BitVec 1 :=
  let arg0 : BitVec 32 := BitVec.ofNat 32 (i 0).val
  let c4_i32 : BitVec 32 := 4#32
  let v0 : BitVec 32 := Scalar.addi arg0 c4_i32
  let arg1 : BitVec 32 := BitVec.ofNat 32 (i 1).val
  let v25 : BitVec 1 := Scalar.cmpi .ne v0 arg1
  let v26 : BitVec 32 := Scalar.extui v25
  let c0_i32_11 : BitVec 32 := 0#32
  let v27 : BitVec 1 := Scalar.cmpi .ne v26 c0_i32_11
  v27

def cc3_transform_0 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x128 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 16], ![false, false]⟩

@[reducible] def k4_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k4_off1 (k4_t1 : Fin k4_t1_loop.trips) : Fin 1 → Nat :=
  let c0_i32_0 : BitVec 32 := 0#32
  let c1_i32 : BitVec 32 := 1#32
  let arg8 : BitVec 32 := Scf.iv c0_i32_0 c1_i32 k4_t1
  let c16_i32 : BitVec 32 := 16#32
  let v22 : BitVec 32 := Scalar.muli arg8 c16_i32
  let v23 : Index := Scalar.indexCast v22
  ![v23.toNat]
def k4_off2 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k4_t2_loop : Scf.Loop 32 :=
  let c0_i32_9 : BitVec 32 := 0#32
  let c256_i32_10 : BitVec 32 := 256#32
  let v20 : BitVec 32 := Scalar.addi c0_i32_9 c256_i32_10
  let c1_i32_11 : BitVec 32 := 1#32
  ⟨c0_i32_9, v20, c1_i32_11⟩
def k4_off3 (k4_t2 : Fin k4_t2_loop.trips) : Fin 2 → Nat :=
  let c0_i32_15 : BitVec 32 := 0#32
  let v25 : Index := Scalar.indexCast c0_i32_15
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c0_i32_14 : BitVec 32 := 0#32
  let v24 : BitVec 32 := Scalar.addi v23 c0_i32_14
  let v26 : Index := Scalar.indexCast v24
  ![0, v26.toNat]

def k4_chk1 (v44 : IVec S16 32) : Prop :=
  (∀ a x, ((![v44] : Fin 1 → IVec S16 32) a x).toNat < S4096.size a)
theorem k4_idx1_inb : ∀ (v44 : IVec S16 32) (k4_hw1 : k4_chk1 v44), ∀ a x, ((![v44] : Fin 1 → IVec S16 32) a x).toNat < S4096.size a := fun v44 k4_hw1 => k4_hw1

def k4_chk2 (v45 : IVec S16 32) : Prop :=
  (∀ a x, ((![v45] : Fin 1 → IVec S16 32) a x).toNat < S4096.size a)
theorem k4_idx2_inb : ∀ (v45 : IVec S16 32) (k4_hw2 : k4_chk2 v45), ∀ a x, ((![v45] : Fin 1 → IVec S16 32) a x).toNat < S4096.size a := fun v45 k4_hw2 => k4_hw2

def k4_chk3 (v46 : IVec S16 32) : Prop :=
  (∀ a x, ((![v46] : Fin 1 → IVec S16 32) a x).toNat < S4096.size a)
theorem k4_idx3_inb : ∀ (v46 : IVec S16 32) (k4_hw3 : k4_chk3 v46), ∀ a x, ((![v46] : Fin 1 → IVec S16 32) a x).toNat < S4096.size a := fun v46 k4_hw3 => k4_hw3

def k4_chk4 (v47 : IVec S16 32) : Prop :=
  (∀ a x, ((![v47] : Fin 1 → IVec S16 32) a x).toNat < S4096.size a)
theorem k4_idx4_inb : ∀ (v47 : IVec S16 32) (k4_hw4 : k4_chk4 v47), ∀ a x, ((![v47] : Fin 1 → IVec S16 32) a x).toNat < S4096.size a := fun v47 k4_hw4 => k4_hw4
def k4_off4 (k4_t2 : Fin k4_t2_loop.trips) : Fin 2 → Nat :=
  let c0_i32_20 : BitVec 32 := 0#32
  let v49 : Index := Scalar.indexCast c0_i32_20
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c16_i32 : BitVec 32 := 16#32
  let v48 : BitVec 32 := Scalar.addi v23 c16_i32
  let v50 : Index := Scalar.indexCast v48
  ![0, v50.toNat]

def k4_chk5 (v68 : IVec S16 32) : Prop :=
  (∀ a x, ((![v68] : Fin 1 → IVec S16 32) a x).toNat < S4096.size a)
theorem k4_idx5_inb : ∀ (v68 : IVec S16 32) (k4_hw5 : k4_chk5 v68), ∀ a x, ((![v68] : Fin 1 → IVec S16 32) a x).toNat < S4096.size a := fun v68 k4_hw5 => k4_hw5

def k4_chk6 (v69 : IVec S16 32) : Prop :=
  (∀ a x, ((![v69] : Fin 1 → IVec S16 32) a x).toNat < S4096.size a)
theorem k4_idx6_inb : ∀ (v69 : IVec S16 32) (k4_hw6 : k4_chk6 v69), ∀ a x, ((![v69] : Fin 1 → IVec S16 32) a x).toNat < S4096.size a := fun v69 k4_hw6 => k4_hw6

def k4_chk7 (v70 : IVec S16 32) : Prop :=
  (∀ a x, ((![v70] : Fin 1 → IVec S16 32) a x).toNat < S4096.size a)
theorem k4_idx7_inb : ∀ (v70 : IVec S16 32) (k4_hw7 : k4_chk7 v70), ∀ a x, ((![v70] : Fin 1 → IVec S16 32) a x).toNat < S4096.size a := fun v70 k4_hw7 => k4_hw7

def k4_chk8 (v71 : IVec S16 32) : Prop :=
  (∀ a x, ((![v71] : Fin 1 → IVec S16 32) a x).toNat < S4096.size a)
theorem k4_idx8_inb : ∀ (v71 : IVec S16 32) (k4_hw8 : k4_chk8 v71), ∀ a x, ((![v71] : Fin 1 → IVec S16 32) a x).toNat < S4096.size a := fun v71 k4_hw8 => k4_hw8
def k4_off5 (k4_t2 : Fin k4_t2_loop.trips) : Fin 2 → Nat :=
  let c0_i32_29 : BitVec 32 := 0#32
  let v73 : Index := Scalar.indexCast c0_i32_29
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c32_i32 : BitVec 32 := 32#32
  let v72 : BitVec 32 := Scalar.addi v23 c32_i32
  let v74 : Index := Scalar.indexCast v72
  ![0, v74.toNat]

def k4_chk9 (v92 : IVec S16 32) : Prop :=
  (∀ a x, ((![v92] : Fin 1 → IVec S16 32) a x).toNat < S4096.size a)
theorem k4_idx9_inb : ∀ (v92 : IVec S16 32) (k4_hw9 : k4_chk9 v92), ∀ a x, ((![v92] : Fin 1 → IVec S16 32) a x).toNat < S4096.size a := fun v92 k4_hw9 => k4_hw9

def k4_chk10 (v93 : IVec S16 32) : Prop :=
  (∀ a x, ((![v93] : Fin 1 → IVec S16 32) a x).toNat < S4096.size a)
theorem k4_idx10_inb : ∀ (v93 : IVec S16 32) (k4_hw10 : k4_chk10 v93), ∀ a x, ((![v93] : Fin 1 → IVec S16 32) a x).toNat < S4096.size a := fun v93 k4_hw10 => k4_hw10

def k4_chk11 (v94 : IVec S16 32) : Prop :=
  (∀ a x, ((![v94] : Fin 1 → IVec S16 32) a x).toNat < S4096.size a)
theorem k4_idx11_inb : ∀ (v94 : IVec S16 32) (k4_hw11 : k4_chk11 v94), ∀ a x, ((![v94] : Fin 1 → IVec S16 32) a x).toNat < S4096.size a := fun v94 k4_hw11 => k4_hw11

def k4_chk12 (v95 : IVec S16 32) : Prop :=
  (∀ a x, ((![v95] : Fin 1 → IVec S16 32) a x).toNat < S4096.size a)
theorem k4_idx12_inb : ∀ (v95 : IVec S16 32) (k4_hw12 : k4_chk12 v95), ∀ a x, ((![v95] : Fin 1 → IVec S16 32) a x).toNat < S4096.size a := fun v95 k4_hw12 => k4_hw12
def k4_off6 (k4_t2 : Fin k4_t2_loop.trips) : Fin 2 → Nat :=
  let c0_i32_38 : BitVec 32 := 0#32
  let v97 : Index := Scalar.indexCast c0_i32_38
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c48_i32 : BitVec 32 := 48#32
  let v96 : BitVec 32 := Scalar.addi v23 c48_i32
  let v98 : Index := Scalar.indexCast v96
  ![0, v98.toNat]

def k4_chk13 (v116 : IVec S16 32) : Prop :=
  (∀ a x, ((![v116] : Fin 1 → IVec S16 32) a x).toNat < S4096.size a)
theorem k4_idx13_inb : ∀ (v116 : IVec S16 32) (k4_hw13 : k4_chk13 v116), ∀ a x, ((![v116] : Fin 1 → IVec S16 32) a x).toNat < S4096.size a := fun v116 k4_hw13 => k4_hw13

def k4_chk14 (v117 : IVec S16 32) : Prop :=
  (∀ a x, ((![v117] : Fin 1 → IVec S16 32) a x).toNat < S4096.size a)
theorem k4_idx14_inb : ∀ (v117 : IVec S16 32) (k4_hw14 : k4_chk14 v117), ∀ a x, ((![v117] : Fin 1 → IVec S16 32) a x).toNat < S4096.size a := fun v117 k4_hw14 => k4_hw14

def k4_chk15 (v118 : IVec S16 32) : Prop :=
  (∀ a x, ((![v118] : Fin 1 → IVec S16 32) a x).toNat < S4096.size a)
theorem k4_idx15_inb : ∀ (v118 : IVec S16 32) (k4_hw15 : k4_chk15 v118), ∀ a x, ((![v118] : Fin 1 → IVec S16 32) a x).toNat < S4096.size a := fun v118 k4_hw15 => k4_hw15

def k4_chk16 (v119 : IVec S16 32) : Prop :=
  (∀ a x, ((![v119] : Fin 1 → IVec S16 32) a x).toNat < S4096.size a)
theorem k4_idx16_inb : ∀ (v119 : IVec S16 32) (k4_hw16 : k4_chk16 v119), ∀ a x, ((![v119] : Fin 1 → IVec S16 32) a x).toNat < S4096.size a := fun v119 k4_hw16 => k4_hw16
def k4_off7 (k4_t2 : Fin k4_t2_loop.trips) : Fin 2 → Nat :=
  let c0_i32_47 : BitVec 32 := 0#32
  let v121 : Index := Scalar.indexCast c0_i32_47
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c64_i32 : BitVec 32 := 64#32
  let v120 : BitVec 32 := Scalar.addi v23 c64_i32
  let v122 : Index := Scalar.indexCast v120
  ![0, v122.toNat]

def k4_chk17 (v140 : IVec S16 32) : Prop :=
  (∀ a x, ((![v140] : Fin 1 → IVec S16 32) a x).toNat < S4096.size a)
theorem k4_idx17_inb : ∀ (v140 : IVec S16 32) (k4_hw17 : k4_chk17 v140), ∀ a x, ((![v140] : Fin 1 → IVec S16 32) a x).toNat < S4096.size a := fun v140 k4_hw17 => k4_hw17

def k4_chk18 (v141 : IVec S16 32) : Prop :=
  (∀ a x, ((![v141] : Fin 1 → IVec S16 32) a x).toNat < S4096.size a)
theorem k4_idx18_inb : ∀ (v141 : IVec S16 32) (k4_hw18 : k4_chk18 v141), ∀ a x, ((![v141] : Fin 1 → IVec S16 32) a x).toNat < S4096.size a := fun v141 k4_hw18 => k4_hw18

def k4_chk19 (v142 : IVec S16 32) : Prop :=
  (∀ a x, ((![v142] : Fin 1 → IVec S16 32) a x).toNat < S4096.size a)
theorem k4_idx19_inb : ∀ (v142 : IVec S16 32) (k4_hw19 : k4_chk19 v142), ∀ a x, ((![v142] : Fin 1 → IVec S16 32) a x).toNat < S4096.size a := fun v142 k4_hw19 => k4_hw19

def k4_chk20 (v143 : IVec S16 32) : Prop :=
  (∀ a x, ((![v143] : Fin 1 → IVec S16 32) a x).toNat < S4096.size a)
theorem k4_idx20_inb : ∀ (v143 : IVec S16 32) (k4_hw20 : k4_chk20 v143), ∀ a x, ((![v143] : Fin 1 → IVec S16 32) a x).toNat < S4096.size a := fun v143 k4_hw20 => k4_hw20
def k4_off8 (k4_t2 : Fin k4_t2_loop.trips) : Fin 2 → Nat :=
  let c0_i32_56 : BitVec 32 := 0#32
  let v145 : Index := Scalar.indexCast c0_i32_56
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c80_i32 : BitVec 32 := 80#32
  let v144 : BitVec 32 := Scalar.addi v23 c80_i32
  let v146 : Index := Scalar.indexCast v144
  ![0, v146.toNat]

def k4_chk21 (v164 : IVec S16 32) : Prop :=
  (∀ a x, ((![v164] : Fin 1 → IVec S16 32) a x).toNat < S4096.size a)
theorem k4_idx21_inb : ∀ (v164 : IVec S16 32) (k4_hw21 : k4_chk21 v164), ∀ a x, ((![v164] : Fin 1 → IVec S16 32) a x).toNat < S4096.size a := fun v164 k4_hw21 => k4_hw21

def k4_chk22 (v165 : IVec S16 32) : Prop :=
  (∀ a x, ((![v165] : Fin 1 → IVec S16 32) a x).toNat < S4096.size a)
theorem k4_idx22_inb : ∀ (v165 : IVec S16 32) (k4_hw22 : k4_chk22 v165), ∀ a x, ((![v165] : Fin 1 → IVec S16 32) a x).toNat < S4096.size a := fun v165 k4_hw22 => k4_hw22

def k4_chk23 (v166 : IVec S16 32) : Prop :=
  (∀ a x, ((![v166] : Fin 1 → IVec S16 32) a x).toNat < S4096.size a)
theorem k4_idx23_inb : ∀ (v166 : IVec S16 32) (k4_hw23 : k4_chk23 v166), ∀ a x, ((![v166] : Fin 1 → IVec S16 32) a x).toNat < S4096.size a := fun v166 k4_hw23 => k4_hw23

def k4_chk24 (v167 : IVec S16 32) : Prop :=
  (∀ a x, ((![v167] : Fin 1 → IVec S16 32) a x).toNat < S4096.size a)
theorem k4_idx24_inb : ∀ (v167 : IVec S16 32) (k4_hw24 : k4_chk24 v167), ∀ a x, ((![v167] : Fin 1 → IVec S16 32) a x).toNat < S4096.size a := fun v167 k4_hw24 => k4_hw24
def k4_off9 (k4_t2 : Fin k4_t2_loop.trips) : Fin 2 → Nat :=
  let c0_i32_65 : BitVec 32 := 0#32
  let v169 : Index := Scalar.indexCast c0_i32_65
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c96_i32 : BitVec 32 := 96#32
  let v168 : BitVec 32 := Scalar.addi v23 c96_i32
  let v170 : Index := Scalar.indexCast v168
  ![0, v170.toNat]

def k4_chk25 (v188 : IVec S16 32) : Prop :=
  (∀ a x, ((![v188] : Fin 1 → IVec S16 32) a x).toNat < S4096.size a)
theorem k4_idx25_inb : ∀ (v188 : IVec S16 32) (k4_hw25 : k4_chk25 v188), ∀ a x, ((![v188] : Fin 1 → IVec S16 32) a x).toNat < S4096.size a := fun v188 k4_hw25 => k4_hw25

def k4_chk26 (v189 : IVec S16 32) : Prop :=
  (∀ a x, ((![v189] : Fin 1 → IVec S16 32) a x).toNat < S4096.size a)
theorem k4_idx26_inb : ∀ (v189 : IVec S16 32) (k4_hw26 : k4_chk26 v189), ∀ a x, ((![v189] : Fin 1 → IVec S16 32) a x).toNat < S4096.size a := fun v189 k4_hw26 => k4_hw26

def k4_chk27 (v190 : IVec S16 32) : Prop :=
  (∀ a x, ((![v190] : Fin 1 → IVec S16 32) a x).toNat < S4096.size a)
theorem k4_idx27_inb : ∀ (v190 : IVec S16 32) (k4_hw27 : k4_chk27 v190), ∀ a x, ((![v190] : Fin 1 → IVec S16 32) a x).toNat < S4096.size a := fun v190 k4_hw27 => k4_hw27

def k4_chk28 (v191 : IVec S16 32) : Prop :=
  (∀ a x, ((![v191] : Fin 1 → IVec S16 32) a x).toNat < S4096.size a)
theorem k4_idx28_inb : ∀ (v191 : IVec S16 32) (k4_hw28 : k4_chk28 v191), ∀ a x, ((![v191] : Fin 1 → IVec S16 32) a x).toNat < S4096.size a := fun v191 k4_hw28 => k4_hw28
def k4_off10 (k4_t2 : Fin k4_t2_loop.trips) : Fin 2 → Nat :=
  let c0_i32_74 : BitVec 32 := 0#32
  let v193 : Index := Scalar.indexCast c0_i32_74
  let c0_i32_13 : BitVec 32 := 0#32
  let c0_i32_9 : BitVec 32 := 0#32
  let c1_i32_11 : BitVec 32 := 1#32
  let arg8 : BitVec 32 := Scf.iv c0_i32_9 c1_i32_11 k4_t2
  let c128_i32 : BitVec 32 := 128#32
  let v22 : BitVec 32 := Scalar.muli arg8 c128_i32
  let v23 : BitVec 32 := Scalar.addi c0_i32_13 v22
  let c112_i32 : BitVec 32 := 112#32
  let v192 : BitVec 32 := Scalar.addi v23 c112_i32
  let v194 : Index := Scalar.indexCast v192
  ![0, v194.toNat]

def k4_chk29 (v212 : IVec S16 32) : Prop :=
  (∀ a x, ((![v212] : Fin 1 → IVec S16 32) a x).toNat < S4096.size a)
theorem k4_idx29_inb : ∀ (v212 : IVec S16 32) (k4_hw29 : k4_chk29 v212), ∀ a x, ((![v212] : Fin 1 → IVec S16 32) a x).toNat < S4096.size a := fun v212 k4_hw29 => k4_hw29

def k4_chk30 (v213 : IVec S16 32) : Prop :=
  (∀ a x, ((![v213] : Fin 1 → IVec S16 32) a x).toNat < S4096.size a)
theorem k4_idx30_inb : ∀ (v213 : IVec S16 32) (k4_hw30 : k4_chk30 v213), ∀ a x, ((![v213] : Fin 1 → IVec S16 32) a x).toNat < S4096.size a := fun v213 k4_hw30 => k4_hw30

def k4_chk31 (v214 : IVec S16 32) : Prop :=
  (∀ a x, ((![v214] : Fin 1 → IVec S16 32) a x).toNat < S4096.size a)
theorem k4_idx31_inb : ∀ (v214 : IVec S16 32) (k4_hw31 : k4_chk31 v214), ∀ a x, ((![v214] : Fin 1 → IVec S16 32) a x).toNat < S4096.size a := fun v214 k4_hw31 => k4_hw31

def k4_chk32 (v215 : IVec S16 32) : Prop :=
  (∀ a x, ((![v215] : Fin 1 → IVec S16 32) a x).toNat < S4096.size a)
theorem k4_idx32_inb : ∀ (v215 : IVec S16 32) (k4_hw32 : k4_chk32 v215), ∀ a x, ((![v215] : Fin 1 → IVec S16 32) a x).toNat < S4096.size a := fun v215 k4_hw32 => k4_hw32
def k4_off11 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v21 : BitVec 32 := Scalar.muli v1 c4096_i32
  ![v21.toNat]
abbrev grid5 : Pipeline.Grid := ⟨2, ![2, 8], ![false, false]⟩

def k5_cond1 (i : grid5.Coords) : BitVec 1 :=
  let arg0 : BitVec 32 := BitVec.ofNat 32 (i 0).val
  let c6_i32 : BitVec 32 := 6#32
  let v0 : BitVec 32 := Scalar.addi arg0 c6_i32
  let arg1 : BitVec 32 := BitVec.ofNat 32 (i 1).val
  let v22 : BitVec 1 := Scalar.cmpi .eq v0 arg1
  let v23 : BitVec 32 := Scalar.extui v22
  let c0_i32 : BitVec 32 := 0#32
  let v24 : BitVec 1 := Scalar.cmpi .ne v23 c0_i32
  v24

def k5_cond2 (i : grid5.Coords) : BitVec 1 :=
  let arg0 : BitVec 32 := BitVec.ofNat 32 (i 0).val
  let c6_i32 : BitVec 32 := 6#32
  let v0 : BitVec 32 := Scalar.addi arg0 c6_i32
  let arg1 : BitVec 32 := BitVec.ofNat 32 (i 1).val
  let v25 : BitVec 1 := Scalar.cmpi .ne v0 arg1
  let v26 : BitVec 32 := Scalar.extui v25
  let c0_i32_11 : BitVec 32 := 0#32
  let v27 : BitVec 1 := Scalar.cmpi .ne v26 c0_i32_11
  v27

def cc5_transform_0 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage5_0 : Fin 2 → Memref sig .tc .vmem S512x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x512 .i32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S512x128 .i32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![2, 16], ![false, false]⟩

@[reducible] def k6_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k6_off1 (k6_t1 : Fin k6_t1_loop.trips) : Fin 1 → Nat :=
  let c0_i32_0 : BitVec 32 := 0#32
  let c1_i32 : BitVec 32 := 1#32
  let arg8 : BitVec 32 := Scf.iv c0_i32_0 c1_i32 k6_t1
  let c16_i32 : BitVec 32 := 16#32
  let v22 : BitVec 32 := Scalar.muli arg8 c16_i32
  let v23 : Index := Scalar.indexCast v22
  ![v23.toNat]
def k6_off2 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
@[reducible] def k6_t2_loop : Scf.Loop 32 :=
  let c0_i32_9 : BitVec 32 := 0#32
  let c256_i32_10 : BitVec 32 := 256#32
  let v20 : BitVec 32 := Scalar.addi c0_i32_9 c256_i32_10
  let c1_i32_11 : BitVec 32 := 1#32
  ⟨c0_i32_9, v20, c1_i32_11⟩
def k6_off3 (k6_t2 : Fin k6_t2_loop.trips) : Fin 2 → Nat :=
  let c0_i32_15 : BitVec 32 := 0#32
  let v25 : Index := Scalar.indexCast c0_i32_15
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c0_i32_14 : BitVec 32 := 0#32
  let v24 : BitVec 32 := Scalar.addi v23 c0_i32_14
  let v26 : Index := Scalar.indexCast v24
  ![0, v26.toNat]

def k6_chk1 (v44 : IVec S16 32) : Prop :=
  (∀ a x, ((![v44] : Fin 1 → IVec S16 32) a x).toNat < S4096.size a)
theorem k6_idx1_inb : ∀ (v44 : IVec S16 32) (k6_hw1 : k6_chk1 v44), ∀ a x, ((![v44] : Fin 1 → IVec S16 32) a x).toNat < S4096.size a := fun v44 k6_hw1 => k6_hw1

def k6_chk2 (v45 : IVec S16 32) : Prop :=
  (∀ a x, ((![v45] : Fin 1 → IVec S16 32) a x).toNat < S4096.size a)
theorem k6_idx2_inb : ∀ (v45 : IVec S16 32) (k6_hw2 : k6_chk2 v45), ∀ a x, ((![v45] : Fin 1 → IVec S16 32) a x).toNat < S4096.size a := fun v45 k6_hw2 => k6_hw2

def k6_chk3 (v46 : IVec S16 32) : Prop :=
  (∀ a x, ((![v46] : Fin 1 → IVec S16 32) a x).toNat < S4096.size a)
theorem k6_idx3_inb : ∀ (v46 : IVec S16 32) (k6_hw3 : k6_chk3 v46), ∀ a x, ((![v46] : Fin 1 → IVec S16 32) a x).toNat < S4096.size a := fun v46 k6_hw3 => k6_hw3

def k6_chk4 (v47 : IVec S16 32) : Prop :=
  (∀ a x, ((![v47] : Fin 1 → IVec S16 32) a x).toNat < S4096.size a)
theorem k6_idx4_inb : ∀ (v47 : IVec S16 32) (k6_hw4 : k6_chk4 v47), ∀ a x, ((![v47] : Fin 1 → IVec S16 32) a x).toNat < S4096.size a := fun v47 k6_hw4 => k6_hw4
def k6_off4 (k6_t2 : Fin k6_t2_loop.trips) : Fin 2 → Nat :=
  let c0_i32_20 : BitVec 32 := 0#32
  let v49 : Index := Scalar.indexCast c0_i32_20
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c16_i32 : BitVec 32 := 16#32
  let v48 : BitVec 32 := Scalar.addi v23 c16_i32
  let v50 : Index := Scalar.indexCast v48
  ![0, v50.toNat]

def k6_chk5 (v68 : IVec S16 32) : Prop :=
  (∀ a x, ((![v68] : Fin 1 → IVec S16 32) a x).toNat < S4096.size a)
theorem k6_idx5_inb : ∀ (v68 : IVec S16 32) (k6_hw5 : k6_chk5 v68), ∀ a x, ((![v68] : Fin 1 → IVec S16 32) a x).toNat < S4096.size a := fun v68 k6_hw5 => k6_hw5

def k6_chk6 (v69 : IVec S16 32) : Prop :=
  (∀ a x, ((![v69] : Fin 1 → IVec S16 32) a x).toNat < S4096.size a)
theorem k6_idx6_inb : ∀ (v69 : IVec S16 32) (k6_hw6 : k6_chk6 v69), ∀ a x, ((![v69] : Fin 1 → IVec S16 32) a x).toNat < S4096.size a := fun v69 k6_hw6 => k6_hw6

def k6_chk7 (v70 : IVec S16 32) : Prop :=
  (∀ a x, ((![v70] : Fin 1 → IVec S16 32) a x).toNat < S4096.size a)
theorem k6_idx7_inb : ∀ (v70 : IVec S16 32) (k6_hw7 : k6_chk7 v70), ∀ a x, ((![v70] : Fin 1 → IVec S16 32) a x).toNat < S4096.size a := fun v70 k6_hw7 => k6_hw7

def k6_chk8 (v71 : IVec S16 32) : Prop :=
  (∀ a x, ((![v71] : Fin 1 → IVec S16 32) a x).toNat < S4096.size a)
theorem k6_idx8_inb : ∀ (v71 : IVec S16 32) (k6_hw8 : k6_chk8 v71), ∀ a x, ((![v71] : Fin 1 → IVec S16 32) a x).toNat < S4096.size a := fun v71 k6_hw8 => k6_hw8
def k6_off5 (k6_t2 : Fin k6_t2_loop.trips) : Fin 2 → Nat :=
  let c0_i32_29 : BitVec 32 := 0#32
  let v73 : Index := Scalar.indexCast c0_i32_29
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c32_i32 : BitVec 32 := 32#32
  let v72 : BitVec 32 := Scalar.addi v23 c32_i32
  let v74 : Index := Scalar.indexCast v72
  ![0, v74.toNat]

def k6_chk9 (v92 : IVec S16 32) : Prop :=
  (∀ a x, ((![v92] : Fin 1 → IVec S16 32) a x).toNat < S4096.size a)
theorem k6_idx9_inb : ∀ (v92 : IVec S16 32) (k6_hw9 : k6_chk9 v92), ∀ a x, ((![v92] : Fin 1 → IVec S16 32) a x).toNat < S4096.size a := fun v92 k6_hw9 => k6_hw9

def k6_chk10 (v93 : IVec S16 32) : Prop :=
  (∀ a x, ((![v93] : Fin 1 → IVec S16 32) a x).toNat < S4096.size a)
theorem k6_idx10_inb : ∀ (v93 : IVec S16 32) (k6_hw10 : k6_chk10 v93), ∀ a x, ((![v93] : Fin 1 → IVec S16 32) a x).toNat < S4096.size a := fun v93 k6_hw10 => k6_hw10

def k6_chk11 (v94 : IVec S16 32) : Prop :=
  (∀ a x, ((![v94] : Fin 1 → IVec S16 32) a x).toNat < S4096.size a)
theorem k6_idx11_inb : ∀ (v94 : IVec S16 32) (k6_hw11 : k6_chk11 v94), ∀ a x, ((![v94] : Fin 1 → IVec S16 32) a x).toNat < S4096.size a := fun v94 k6_hw11 => k6_hw11

def k6_chk12 (v95 : IVec S16 32) : Prop :=
  (∀ a x, ((![v95] : Fin 1 → IVec S16 32) a x).toNat < S4096.size a)
theorem k6_idx12_inb : ∀ (v95 : IVec S16 32) (k6_hw12 : k6_chk12 v95), ∀ a x, ((![v95] : Fin 1 → IVec S16 32) a x).toNat < S4096.size a := fun v95 k6_hw12 => k6_hw12
def k6_off6 (k6_t2 : Fin k6_t2_loop.trips) : Fin 2 → Nat :=
  let c0_i32_38 : BitVec 32 := 0#32
  let v97 : Index := Scalar.indexCast c0_i32_38
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c48_i32 : BitVec 32 := 48#32
  let v96 : BitVec 32 := Scalar.addi v23 c48_i32
  let v98 : Index := Scalar.indexCast v96
  ![0, v98.toNat]

def k6_chk13 (v116 : IVec S16 32) : Prop :=
  (∀ a x, ((![v116] : Fin 1 → IVec S16 32) a x).toNat < S4096.size a)
theorem k6_idx13_inb : ∀ (v116 : IVec S16 32) (k6_hw13 : k6_chk13 v116), ∀ a x, ((![v116] : Fin 1 → IVec S16 32) a x).toNat < S4096.size a := fun v116 k6_hw13 => k6_hw13

def k6_chk14 (v117 : IVec S16 32) : Prop :=
  (∀ a x, ((![v117] : Fin 1 → IVec S16 32) a x).toNat < S4096.size a)
theorem k6_idx14_inb : ∀ (v117 : IVec S16 32) (k6_hw14 : k6_chk14 v117), ∀ a x, ((![v117] : Fin 1 → IVec S16 32) a x).toNat < S4096.size a := fun v117 k6_hw14 => k6_hw14

def k6_chk15 (v118 : IVec S16 32) : Prop :=
  (∀ a x, ((![v118] : Fin 1 → IVec S16 32) a x).toNat < S4096.size a)
theorem k6_idx15_inb : ∀ (v118 : IVec S16 32) (k6_hw15 : k6_chk15 v118), ∀ a x, ((![v118] : Fin 1 → IVec S16 32) a x).toNat < S4096.size a := fun v118 k6_hw15 => k6_hw15

def k6_chk16 (v119 : IVec S16 32) : Prop :=
  (∀ a x, ((![v119] : Fin 1 → IVec S16 32) a x).toNat < S4096.size a)
theorem k6_idx16_inb : ∀ (v119 : IVec S16 32) (k6_hw16 : k6_chk16 v119), ∀ a x, ((![v119] : Fin 1 → IVec S16 32) a x).toNat < S4096.size a := fun v119 k6_hw16 => k6_hw16
def k6_off7 (k6_t2 : Fin k6_t2_loop.trips) : Fin 2 → Nat :=
  let c0_i32_47 : BitVec 32 := 0#32
  let v121 : Index := Scalar.indexCast c0_i32_47
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c64_i32 : BitVec 32 := 64#32
  let v120 : BitVec 32 := Scalar.addi v23 c64_i32
  let v122 : Index := Scalar.indexCast v120
  ![0, v122.toNat]

def k6_chk17 (v140 : IVec S16 32) : Prop :=
  (∀ a x, ((![v140] : Fin 1 → IVec S16 32) a x).toNat < S4096.size a)
theorem k6_idx17_inb : ∀ (v140 : IVec S16 32) (k6_hw17 : k6_chk17 v140), ∀ a x, ((![v140] : Fin 1 → IVec S16 32) a x).toNat < S4096.size a := fun v140 k6_hw17 => k6_hw17

def k6_chk18 (v141 : IVec S16 32) : Prop :=
  (∀ a x, ((![v141] : Fin 1 → IVec S16 32) a x).toNat < S4096.size a)
theorem k6_idx18_inb : ∀ (v141 : IVec S16 32) (k6_hw18 : k6_chk18 v141), ∀ a x, ((![v141] : Fin 1 → IVec S16 32) a x).toNat < S4096.size a := fun v141 k6_hw18 => k6_hw18

def k6_chk19 (v142 : IVec S16 32) : Prop :=
  (∀ a x, ((![v142] : Fin 1 → IVec S16 32) a x).toNat < S4096.size a)
theorem k6_idx19_inb : ∀ (v142 : IVec S16 32) (k6_hw19 : k6_chk19 v142), ∀ a x, ((![v142] : Fin 1 → IVec S16 32) a x).toNat < S4096.size a := fun v142 k6_hw19 => k6_hw19

def k6_chk20 (v143 : IVec S16 32) : Prop :=
  (∀ a x, ((![v143] : Fin 1 → IVec S16 32) a x).toNat < S4096.size a)
theorem k6_idx20_inb : ∀ (v143 : IVec S16 32) (k6_hw20 : k6_chk20 v143), ∀ a x, ((![v143] : Fin 1 → IVec S16 32) a x).toNat < S4096.size a := fun v143 k6_hw20 => k6_hw20
def k6_off8 (k6_t2 : Fin k6_t2_loop.trips) : Fin 2 → Nat :=
  let c0_i32_56 : BitVec 32 := 0#32
  let v145 : Index := Scalar.indexCast c0_i32_56
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c80_i32 : BitVec 32 := 80#32
  let v144 : BitVec 32 := Scalar.addi v23 c80_i32
  let v146 : Index := Scalar.indexCast v144
  ![0, v146.toNat]

def k6_chk21 (v164 : IVec S16 32) : Prop :=
  (∀ a x, ((![v164] : Fin 1 → IVec S16 32) a x).toNat < S4096.size a)
theorem k6_idx21_inb : ∀ (v164 : IVec S16 32) (k6_hw21 : k6_chk21 v164), ∀ a x, ((![v164] : Fin 1 → IVec S16 32) a x).toNat < S4096.size a := fun v164 k6_hw21 => k6_hw21

def k6_chk22 (v165 : IVec S16 32) : Prop :=
  (∀ a x, ((![v165] : Fin 1 → IVec S16 32) a x).toNat < S4096.size a)
theorem k6_idx22_inb : ∀ (v165 : IVec S16 32) (k6_hw22 : k6_chk22 v165), ∀ a x, ((![v165] : Fin 1 → IVec S16 32) a x).toNat < S4096.size a := fun v165 k6_hw22 => k6_hw22

def k6_chk23 (v166 : IVec S16 32) : Prop :=
  (∀ a x, ((![v166] : Fin 1 → IVec S16 32) a x).toNat < S4096.size a)
theorem k6_idx23_inb : ∀ (v166 : IVec S16 32) (k6_hw23 : k6_chk23 v166), ∀ a x, ((![v166] : Fin 1 → IVec S16 32) a x).toNat < S4096.size a := fun v166 k6_hw23 => k6_hw23

def k6_chk24 (v167 : IVec S16 32) : Prop :=
  (∀ a x, ((![v167] : Fin 1 → IVec S16 32) a x).toNat < S4096.size a)
theorem k6_idx24_inb : ∀ (v167 : IVec S16 32) (k6_hw24 : k6_chk24 v167), ∀ a x, ((![v167] : Fin 1 → IVec S16 32) a x).toNat < S4096.size a := fun v167 k6_hw24 => k6_hw24
def k6_off9 (k6_t2 : Fin k6_t2_loop.trips) : Fin 2 → Nat :=
  let c0_i32_65 : BitVec 32 := 0#32
  let v169 : Index := Scalar.indexCast c0_i32_65
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c96_i32 : BitVec 32 := 96#32
  let v168 : BitVec 32 := Scalar.addi v23 c96_i32
  let v170 : Index := Scalar.indexCast v168
  ![0, v170.toNat]

def k6_chk25 (v188 : IVec S16 32) : Prop :=
  (∀ a x, ((![v188] : Fin 1 → IVec S16 32) a x).toNat < S4096.size a)
theorem k6_idx25_inb : ∀ (v188 : IVec S16 32) (k6_hw25 : k6_chk25 v188), ∀ a x, ((![v188] : Fin 1 → IVec S16 32) a x).toNat < S4096.size a := fun v188 k6_hw25 => k6_hw25

def k6_chk26 (v189 : IVec S16 32) : Prop :=
  (∀ a x, ((![v189] : Fin 1 → IVec S16 32) a x).toNat < S4096.size a)
theorem k6_idx26_inb : ∀ (v189 : IVec S16 32) (k6_hw26 : k6_chk26 v189), ∀ a x, ((![v189] : Fin 1 → IVec S16 32) a x).toNat < S4096.size a := fun v189 k6_hw26 => k6_hw26

def k6_chk27 (v190 : IVec S16 32) : Prop :=
  (∀ a x, ((![v190] : Fin 1 → IVec S16 32) a x).toNat < S4096.size a)
theorem k6_idx27_inb : ∀ (v190 : IVec S16 32) (k6_hw27 : k6_chk27 v190), ∀ a x, ((![v190] : Fin 1 → IVec S16 32) a x).toNat < S4096.size a := fun v190 k6_hw27 => k6_hw27

def k6_chk28 (v191 : IVec S16 32) : Prop :=
  (∀ a x, ((![v191] : Fin 1 → IVec S16 32) a x).toNat < S4096.size a)
theorem k6_idx28_inb : ∀ (v191 : IVec S16 32) (k6_hw28 : k6_chk28 v191), ∀ a x, ((![v191] : Fin 1 → IVec S16 32) a x).toNat < S4096.size a := fun v191 k6_hw28 => k6_hw28
def k6_off10 (k6_t2 : Fin k6_t2_loop.trips) : Fin 2 → Nat :=
  let c0_i32_74 : BitVec 32 := 0#32
  let v193 : Index := Scalar.indexCast c0_i32_74
  let c0_i32_13 : BitVec 32 := 0#32
  let c0_i32_9 : BitVec 32 := 0#32
  let c1_i32_11 : BitVec 32 := 1#32
  let arg8 : BitVec 32 := Scf.iv c0_i32_9 c1_i32_11 k6_t2
  let c128_i32 : BitVec 32 := 128#32
  let v22 : BitVec 32 := Scalar.muli arg8 c128_i32
  let v23 : BitVec 32 := Scalar.addi c0_i32_13 v22
  let c112_i32 : BitVec 32 := 112#32
  let v192 : BitVec 32 := Scalar.addi v23 c112_i32
  let v194 : Index := Scalar.indexCast v192
  ![0, v194.toNat]

def k6_chk29 (v212 : IVec S16 32) : Prop :=
  (∀ a x, ((![v212] : Fin 1 → IVec S16 32) a x).toNat < S4096.size a)
theorem k6_idx29_inb : ∀ (v212 : IVec S16 32) (k6_hw29 : k6_chk29 v212), ∀ a x, ((![v212] : Fin 1 → IVec S16 32) a x).toNat < S4096.size a := fun v212 k6_hw29 => k6_hw29

def k6_chk30 (v213 : IVec S16 32) : Prop :=
  (∀ a x, ((![v213] : Fin 1 → IVec S16 32) a x).toNat < S4096.size a)
theorem k6_idx30_inb : ∀ (v213 : IVec S16 32) (k6_hw30 : k6_chk30 v213), ∀ a x, ((![v213] : Fin 1 → IVec S16 32) a x).toNat < S4096.size a := fun v213 k6_hw30 => k6_hw30

def k6_chk31 (v214 : IVec S16 32) : Prop :=
  (∀ a x, ((![v214] : Fin 1 → IVec S16 32) a x).toNat < S4096.size a)
theorem k6_idx31_inb : ∀ (v214 : IVec S16 32) (k6_hw31 : k6_chk31 v214), ∀ a x, ((![v214] : Fin 1 → IVec S16 32) a x).toNat < S4096.size a := fun v214 k6_hw31 => k6_hw31

def k6_chk32 (v215 : IVec S16 32) : Prop :=
  (∀ a x, ((![v215] : Fin 1 → IVec S16 32) a x).toNat < S4096.size a)
theorem k6_idx32_inb : ∀ (v215 : IVec S16 32) (k6_hw32 : k6_chk32 v215), ∀ a x, ((![v215] : Fin 1 → IVec S16 32) a x).toNat < S4096.size a := fun v215 k6_hw32 => k6_hw32
def k6_off11 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v21 : BitVec 32 := Scalar.muli v1 c4096_i32
  ![v21.toNat]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S128x4096 : Shape := ⟨2, ![128, 4096]⟩
abbrev S4096x4096 : Shape := ⟨2, ![4096, 4096]⟩
abbrev S1x4096 : Shape := ⟨2, ![1, 4096]⟩
abbrev S16777216 : Shape := ⟨1, ![16777216]⟩
abbrev S100 : Shape := ⟨1, ![100]⟩
abbrev S16777216x1 : Shape := ⟨2, ![16777216, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S128x4096, .f32⟩
  | .hbm, ⟨13, _⟩ => ⟨S4096x4096, .f32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .f32⟩
  | .hbm, ⟨27, _⟩ => ⟨S4096x4096, .f32⟩
  | .hbm, ⟨28, _⟩ => ⟨S4096x4096, .i1⟩
  | .hbm, ⟨29, _⟩ => ⟨S4096x4096, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S16777216, .f32⟩
  | .hbm, ⟨35, _⟩ => ⟨S16777216, .f32⟩
  | .hbm, ⟨36, _⟩ => ⟨S_, .f32⟩
  | .hbm, ⟨37, _⟩ => ⟨S16777216, .f32⟩
  | .hbm, ⟨38, _⟩ => ⟨S16777216, .f32⟩
  | .hbm, ⟨39, _⟩ => ⟨S_, .f32⟩
  | .hbm, ⟨40, _⟩ => ⟨S16777216, .f32⟩
  | .hbm, ⟨41, _⟩ => ⟨S16777216, .f32⟩
  | .hbm, ⟨42, _⟩ => ⟨S16777216, .f32⟩
  | .hbm, ⟨43, _⟩ => ⟨S16777216, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S16777216, .i32⟩
  | .hbm, ⟨48, _⟩ => ⟨S16777216, .i32⟩
  | .hbm, ⟨49, _⟩ => ⟨S_, .i32⟩
  | .hbm, ⟨50, _⟩ => ⟨S16777216, .i32⟩
  | .hbm, ⟨51, _⟩ => ⟨S16777216, .i32⟩
  | .hbm, ⟨52, _⟩ => ⟨S_, .f32⟩
  | .hbm, ⟨53, _⟩ => ⟨S100, .f32⟩
  | .hbm, ⟨54, _⟩ => ⟨S_, .i32⟩
  | .hbm, ⟨55, _⟩ => ⟨S16777216, .i32⟩
  | .hbm, ⟨56, _⟩ => ⟨S16777216, .i1⟩
  | .hbm, ⟨57, _⟩ => ⟨S_, .i32⟩
  | .hbm, ⟨58, _⟩ => ⟨S16777216, .i32⟩
  | .hbm, ⟨59, _⟩ => ⟨S16777216, .i32⟩
  | .hbm, ⟨60, _⟩ => ⟨S16777216, .i32⟩
  | .hbm, ⟨61, _⟩ => ⟨S16777216x1, .i32⟩
  | .hbm, ⟨62, _⟩ => ⟨S100, .f32⟩
  | .hbm, ⟨63, _⟩ => ⟨S_, .f32⟩
  | .hbm, ⟨64, _⟩ => ⟨S100, .f32⟩
  | .hbm, ⟨65, _⟩ => ⟨S_, .i32⟩
  | .hbm, ⟨66, _⟩ => ⟨S16777216, .i32⟩
  | .hbm, ⟨67, _⟩ => ⟨S16777216, .i1⟩
  | .hbm, ⟨68, _⟩ => ⟨S_, .i32⟩
  | .hbm, ⟨69, _⟩ => ⟨S16777216, .i32⟩
  | .hbm, ⟨70, _⟩ => ⟨S16777216, .i32⟩
  | .hbm, ⟨71, _⟩ => ⟨S16777216, .i32⟩
  | .hbm, ⟨72, _⟩ => ⟨S16777216x1, .i32⟩
  | .hbm, ⟨73, _⟩ => ⟨S100, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S100, .f32⟩
  | .hbm, ⟨79, _⟩ => ⟨S100, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S100, .f32⟩
  | .hbm, ⟨85, _⟩ => ⟨S100, .f32⟩
  | .hbm, ⟨86, _⟩ => ⟨S100, .f32⟩
  | .hbm, ⟨87, _⟩ => ⟨S_, .f32⟩
  | .hbm, ⟨88, _⟩ => ⟨S_, .f32⟩
  | .hbm, ⟨89, _⟩ => ⟨S16777216, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S16777216, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_18 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_20 : Ref sig .tc := ⟨.hbm, 102, rfl⟩
abbrev main_v69 : Ref sig .tc := ⟨.hbm, 103, rfl⟩
abbrev main_call2_cst : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Proof.Setup.lean ====
/-
  What every module of the run shares: the program as the launch theorem sees it (three SparseCore calls and four
  TensorCore pipelines in one @main), and the resource algebra — the handshakes' rounds on the left; beside them the
  pipelines' cells, and the transfers' counters.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the program's calls: the pipelines' entries beside the kernels' own (none). -/
abbrev ΛP : Labels := Pipeline.Sig Λ₀ (Fin 4) fun p => (pcfgs (F := F) p).Adm
/-- The SparseCore calls' configuration. -/
abbrev K : SparseCore.Cfg τ sig (ΛP (F := F)) 3 := sc (F := F)
/-- The definitions below the SparseCore calls: the pipelines' bodies. -/
abbrev D [FloatOps F] : Defs nD τ sig (Elt F) (ΛP (F := F)) := Pipeline.defs pcfgs defs₀
/-- No variants below. -/
abbrev 𝒱₀ : Variants := Variants.none
/-- The variants the SparseCore layer adds. -/
abbrev 𝒱 : Variants := 𝒱₀.lift
/-- The idle variant. -/
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' cells. -/
abbrev UP : Type := URounds (GSem nD τ sig) Unit
/-- All the ghost state the proof adds. -/
abbrev UU : Type := UH × (UP × Counters)

local notation "𝕄" => MT nD τ sig (HIx 3) (Elt F) ℕ UU ℕ

/-- The handshakes' rounds, in the whole. -/
abbrev EH : Emb UH (MT nD τ sig (HIx 3) (Elt F) ℕ UU ℕ) := embL
/-- The pipelines' cells, in the whole. -/
def EP : Emb UP (MT nD τ sig (HIx 3) (Elt F) ℕ UU ℕ) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb

instance EP_landsIn : (EP : Emb UP 𝕄).LandsIn (upEmb : UEmb _ 𝕄) := by unfold EP; infer_instance

end Cert.Proof.Run
-- ==== Proof.HistBody.lean ====
/-
  One trip of a histogram loop, once for the four loops of the three SparseCore calls: eight loads of sixteen words from
  a row of the codes' buffer, each word's four bytes added — one lane, one counter — into the tile's histogram.
-/
module

public import proofs.«01_k».proof.Proof.Setup
public import Idealize.ShloMosaic.Lib.WordExact

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Values -/

/-- The lanes' numbers. -/
def lanes : IVec S16 32 := iota .scVector S16 32 [0] iota_S16_d0_w32_scVector

/-- Sixteen ones. -/
def ones : FVec F S16 .f32 := broadcast S16 (Scalar.ofBits .f32 0x3F800000#32)

/-- The counters byte `k` of sixteen words names: sixteen times the byte, and the lane. -/
def slots (k : Fin 4) (w : IVec S16 32) : IVec S16 32 :=
  addi (andi (match k with
    | 0 => shli w (broadcast S16 4#32)
    | 1 => shrui w (broadcast S16 4#32)
    | 2 => shrui w (broadcast S16 12#32)
    | 3 => shrui w (broadcast S16 20#32)) (broadcast S16 4080#32)) lanes

theorem lanes_toNat (x : S16.Idx) : (lanes x).toNat = (x 0).val := by
  have h : (x 0).val < 16 := (x 0).isLt
  show (BitVec.ofNat 32 (0 * 16 + (x 0).val)).toNat = _
  rw [BitVec.toNat_ofNat]; omega

theorem slot_toNat (y : BitVec 32) (l : BitVec 32) (hl : l.toNat < 16) : ((y &&& 4080#32) + l).toNat = (y &&& 4080#32).toNat + l.toNat := by
  have h1 : (y &&& 4080#32).toNat ≤ 4080 := by rw [BitVec.toNat_and]; exact Nat.and_le_right
  rw [BitVec.toNat_add]; omega

theorem slots_lt (k : Fin 4) (w : IVec S16 32) : ∀ a x, ((![slots k w] : Fin 1 → IVec S16 32) a x).toNat < S4096.size a := by
  intro a x
  obtain rfl : a = 0 := Subsingleton.elim _ _
  have hl : (lanes x).toNat < 16 := by rw [lanes_toNat]; exact (x 0).isLt
  have key : ∀ y : BitVec 32, ((y &&& 4080#32) + lanes x).toNat < 4096 := by
    intro y
    have h1 : (y &&& 4080#32).toNat ≤ 4080 := by rw [BitVec.toNat_and]; exact Nat.and_le_right
    rw [slot_toNat _ _ hl]; omega
  exact key _

/-- The histogram after byte `k` of sixteen words is counted. -/
def count (k : Fin 4) (w : IVec S16 32) (h : Vec F S4096 .f32) : Vec F S4096 .f32 :=
  storeIdx h ![slots k w] (ones (F := F)) (fun _ => 1#1) true (slots_lt k w)

/-- … after all four bytes are. -/
def countWord (w : IVec S16 32) (h : Vec F S4096 .f32) : Vec F S4096 .f32 :=
  count 3 w (count 2 w (count 1 w (count 0 w h)))

/-! ## The trip as a program -/

section Prog

variable {c : Fin τ.nSC} {s : Fin τ.nSub}

/-- The check, and the scatter. -/
def put (M5 : Memref sig .scVector .vmem S4096 .f32) (v : IVec S16 32)
    (d : Decidable (∀ a x, ((![v] : Fin 1 → IVec S16 32) a x).toNat < S4096.size a)) :
    Prog (TpuEff nD τ sig (Elt F) Λ₀ (.scVector c s)) PUnit := do
  have h : (∀ a x, ((![v] : Fin 1 → IVec S16 32) a x).toNat < S4096.size a) := (← Prog.lift (TpuEff.assume _ d)).down
  SparseCore.vectorStoreIdx M5 ![v] (ones (F := F)) (fun _ => 1#1) true h (View.stores_vmem_bits_univ h_S4096 rfl)

/-- One load, and its four scatters. -/
def piece (M4 : Memref sig .scVector .vmem S2x32768 .i32) (M5 : Memref sig .scVector .vmem S4096 .f32)
    (off : Fin 2 → Nat) (inb : ∀ a, off a + S1x16.size a ≤ S2x32768.size a) :
    Prog (TpuEff nD τ sig (Elt F) Λ₀ (.scVector c s)) PUnit := do
  let ld : Vec F S1x16 .i32 ← Prog.lift (.load M4 (Rect.unit (s := S2x32768) off S1x16.size inb).toLoadRect (View.loadsAt_vmem h_S1x16))
  put M5 (slots 0 (shapeCast S16 ld shapeCasts_S1x16_S16)) (k2_chk1.dec _)
  put M5 (slots 1 (shapeCast S16 ld shapeCasts_S1x16_S16)) (k2_chk1.dec _)
  put M5 (slots 2 (shapeCast S16 ld shapeCasts_S1x16_S16)) (k2_chk1.dec _)
  put M5 (slots 3 (shapeCast S16 ld shapeCasts_S1x16_S16)) (k2_chk1.dec _)

/-- One trip: eight loads. -/
def trip (M4 : Memref sig .scVector .vmem S2x32768 .i32) (M5 : Memref sig .scVector .vmem S4096 .f32)
    (off : Fin 8 → Fin 2 → Nat) (inb : ∀ k a, off k a + S1x16.size a ≤ S2x32768.size a) :
    Prog (TpuEff nD τ sig (Elt F) Λ₀ (.scVector c s)) Unit := do
  piece M4 M5 (off 0) (inb 0)
  piece M4 M5 (off 1) (inb 1)
  piece M4 M5 (off 2) (inb 2)
  piece M4 M5 (off 3) (inb 3)
  piece M4 M5 (off 4) (inb 4)
  piece M4 M5 (off 5) (inb 5)
  piece M4 M5 (off 6) (inb 6)
  piece M4 M5 (off 7) (inb 7)
  pure ⟨⟩

end Prog

/-! ## Its rule -/

section Rule

local notation "𝕄" => MT nD τ sig (HIx 3) (Elt F) ℕ UU ℕ

variable {d : Dev nD} {c : Fin τ.nSC} {s : Fin τ.nSub}

theorem put_bind {M5 : Memref sig .scVector .vmem S4096 .f32} {v : IVec S16 32}
    {dec : Decidable (∀ a x, ((![v] : Fin 1 → IVec S16 32) a x).toNat < S4096.size a)} {α : Type}
    {kk : PUnit → Prog (TpuEff nD τ sig (Elt F) Λ₀ (.scVector c s)) α} :
    put M5 v dec >>= kk = .op (.assume _ dec) fun h =>
      SparseCore.vectorStoreIdx M5 ![v] (ones (F := F)) (fun _ => 1#1) true h.down (View.stores_vmem_bits_univ h_S4096 rfl) >>= kk := rfl

theorem piece_bind {M4 : Memref sig .scVector .vmem S2x32768 .i32} {M5 : Memref sig .scVector .vmem S4096 .f32} {off : Fin 2 → Nat}
    {inb : ∀ a, off a + S1x16.size a ≤ S2x32768.size a} {α : Type} {kk : PUnit → Prog (TpuEff nD τ sig (Elt F) Λ₀ (.scVector c s)) α} :
    piece M4 M5 off inb >>= kk = .op (.load M4 (Rect.unit (s := S2x32768) off S1x16.size inb).toLoadRect (View.loadsAt_vmem h_S1x16)) fun ld =>
      put M5 (slots 0 (shapeCast S16 ld shapeCasts_S1x16_S16)) (k2_chk1.dec _) >>= fun _ =>
      put M5 (slots 1 (shapeCast S16 ld shapeCasts_S1x16_S16)) (k2_chk1.dec _) >>= fun _ =>
      put M5 (slots 2 (shapeCast S16 ld shapeCasts_S1x16_S16)) (k2_chk1.dec _) >>= fun _ =>
      put M5 (slots 3 (shapeCast S16 ld shapeCasts_S1x16_S16)) (k2_chk1.dec _) >>= kk := rfl

/-- Scattering ones: the histogram owned before at `h`, owned after at the count. -/
theorem wp_put {M5 : Memref sig .scVector .vmem S4096 .f32} {k : Fin 4} {w : IVec S16 32} {h : Vec F S4096 .f32}
    {dec : Decidable (∀ a x, ((![slots k w] : Fin 1 → IVec S16 32) a x).toNat < S4096.size a)} {α : Type}
    {kk : PUnit → Prog (TpuEff nD τ sig (Elt F) Λ₀ (.scVector c s)) α} {Q : α → sProp 𝕄} :
    (owns (V d c s) M5 fullShare h : sProp 𝕄)
      ⊢ iprop((owns (V d c s) M5 fullShare (count k w h) -∗ wp frame (wpE defs₀ 𝒱₀ (V d c s) none) Set.univ (kk ⟨⟩) Q)
        -∗ wp frame (wpE defs₀ 𝒱₀ (V d c s) none) Set.univ (put M5 (slots k w) dec >>= kk) Q) := by
  have hset : (M5.access (.whole S4096)).set = M5.view.set := View.set_slice_rectWhole _
  unfold owns
  iintro ⟨%f, %hf, H⟩ Hk
  rw [put_bind]
  rw [wp_assume_of _ _ _ _ (slots_lt k w)]
  ihave H' := (Entails.of_eq (show (M5.view.loc (V d c s) ↦[M5.view.set]{fullShare} f : sProp 𝕄)
    = ((M5.access (.whole S4096)).loc (V d c s) ↦[(M5.access (.whole S4096)).set]{fullShare} f) by rw [hset])) $$ H
  iapply (SparseCore.wp_vectorStoreIdx 𝒱₀ (V d c s) none Set.univ (base := M5)) $$ H'
  iintro H
  iapply Hk
  iexists _
  isplitr [H]
  rotate_left
  · rw [hset]; iexact H
  · ipureintro
    have hr : View.read (Elt F) (M5.access (Rect.whole S4096)) f = View.read (Elt F) M5.view f := by
      funext x
      show _root_.cast _ (f (M5.view.emb ((Rect.whole S4096).emb x))) = _root_.cast _ (f (M5.view.emb x))
      rw [Rect.emb_whole_apply]
    funext x
    rw [hr, hf]
    have hx := View.read_slice_write_emb (v := M5.view) (Rect.whole S4096) f
      (storeIdx h ![slots k w] (ones (F := F)) (fun _ => 1#1) true (slots_lt k w)) (M := Finset.univ) (Finset.mem_univ x)
    rwa [Rect.emb_whole_apply] at hx

/-- Four scatters of one load's words. -/
theorem wp_piece {M4 : Memref sig .scVector .vmem S2x32768 .i32} {M5 : Memref sig .scVector .vmem S4096 .f32} {off : Fin 2 → Nat}
    {inb : ∀ a, off a + S1x16.size a ≤ S2x32768.size a} {h : Vec F S4096 .f32} {α : Type}
    {R : Finset (Idx (M4.view.loc (V d c s)))} {q : PosShare TreeShare} {f : Buf (Elt F) (M4.view.loc (V d c s))}
    (hR : M4.view.setOn (Rect.unit (s := S2x32768) off S1x16.size inb).toLoadRect.set ⊆ R)
    {kk : PUnit → Prog (TpuEff nD τ sig (Elt F) Λ₀ (.scVector c s)) α} {Q : α → sProp 𝕄} :
    iprop((M4.view.loc (V d c s) ↦[R]{q} f) ∗ owns (V d c s) M5 fullShare h)
      ⊢ iprop(((M4.view.loc (V d c s) ↦[R]{q} f)
            ∗ owns (V d c s) M5 fullShare (countWord (shapeCast S16 (M4.view.readAt (Elt F) (Rect.unit (s := S2x32768) off S1x16.size inb).toLoadRect f) shapeCasts_S1x16_S16) h)
            -∗ wp frame (wpE defs₀ 𝒱₀ (V d c s) none) Set.univ (kk ⟨⟩) Q)
        -∗ wp frame (wpE defs₀ 𝒱₀ (V d c s) none) Set.univ (piece M4 M5 off inb >>= kk) Q) := by
  iintro ⟨H4, H5⟩ Hk
  rw [piece_bind]
  iapply (wp_load 𝒱₀ (V d c s) none Set.univ hR) $$ H4
  iintro H4
  iapply wp_put $$ H5; iintro H5
  iapply wp_put $$ H5; iintro H5
  iapply wp_put $$ H5; iintro H5
  iapply wp_put $$ H5; iintro H5
  iapply Hk
  isplitl [H4]
  · iexact H4
  · iexact H5

/-- The histogram after one trip: the words of its eight loads counted. -/
def tripVal (wd : Fin 8 → IVec S16 32) (h : Vec F S4096 .f32) : Vec F S4096 .f32 :=
  countWord (wd 7) (countWord (wd 6) (countWord (wd 5) (countWord (wd 4) (countWord (wd 3) (countWord (wd 2) (countWord (wd 1) (countWord (wd 0) h)))))))

/-- The words a trip's loads read. -/
def tripWords (M4 : Memref sig .scVector .vmem S2x32768 .i32) (f : M4.view.ty.Contents (Elt F)) (off : Fin 8 → Fin 2 → Nat)
    (inb : ∀ k a, off k a + S1x16.size a ≤ S2x32768.size a) (k : Fin 8) : IVec S16 32 :=
  shapeCast S16 (M4.view.readAt (Elt F) (Rect.unit (s := S2x32768) (off k) S1x16.size (inb k)).toLoadRect f) shapeCasts_S1x16_S16

/-- A trip's rule. -/
theorem wp_trip {M4 : Memref sig .scVector .vmem S2x32768 .i32} {M5 : Memref sig .scVector .vmem S4096 .f32} {off : Fin 8 → Fin 2 → Nat}
    {inb : ∀ k a, off k a + S1x16.size a ≤ S2x32768.size a} {h : Vec F S4096 .f32}
    {R : Finset (Idx (M4.view.loc (V d c s)))} {q : PosShare TreeShare} {f : Buf (Elt F) (M4.view.loc (V d c s))}
    (hR : ∀ k, M4.view.setOn (Rect.unit (s := S2x32768) (off k) S1x16.size (inb k)).toLoadRect.set ⊆ R) :
    iprop((M4.view.loc (V d c s) ↦[R]{q} f) ∗ owns (V d c s) M5 fullShare h : sProp 𝕄)
      ⊢ wp frame (wpE defs₀ 𝒱₀ (V d c s) none) Set.univ (trip M4 M5 off inb) fun _ =>
        iprop((M4.view.loc (V d c s) ↦[R]{q} f) ∗ owns (V d c s) M5 fullShare (tripVal (tripWords M4 f off inb) h)) := by
  iintro H
  unfold trip
  iapply (wp_piece (hR 0)) $$ H; iintro H
  iapply (wp_piece (hR 1)) $$ H; iintro H
  iapply (wp_piece (hR 2)) $$ H; iintro H
  iapply (wp_piece (hR 3)) $$ H; iintro H
  iapply (wp_piece (hR 4)) $$ H; iintro H
  iapply (wp_piece (hR 5)) $$ H; iintro H
  iapply (wp_piece (hR 6)) $$ H; iintro H
  iapply (wp_piece (hR 7)) $$ H; iintro H
  rw [Prog.pure_eq_ret, wp_ret]; imodintro
  iexact H

end Rule

/-! ## The printed trips are this one -/

/-- The offsets of trip `t`'s eight loads in row `r`. -/
def goff (r t : Nat) (k : Fin 8) : Fin 2 → Nat := ![r, 128 * t + 16 * k.val]

theorem goff_inb {r t : Nat} (hr : r < 2) (ht : t < 256) : ∀ k a, goff r t k a + S1x16.size a ≤ S2x32768.size a := by
  intro k a
  have hk : k.val < 8 := k.isLt
  match a with
  | 0 => show r + 1 ≤ 2; omega
  | 1 => show 128 * t + 16 * k.val + 16 ≤ 32768; omega

theorem off_toNat (t : Nat) (ht : t < 256) (k : Nat) (hk : k < 256) :
    (Scalar.indexCast (Scalar.addi (Scalar.addi 0#32 (Scalar.muli (Scf.iv 0#32 1#32 t) 128#32)) (BitVec.ofNat 32 k))).toNat = 128 * t + k := by
  show (0#32 + (0#32 + BitVec.ofNat 32 t * 1#32) * 128#32 + BitVec.ofNat 32 k).toNat = _
  simp only [BitVec.toNat_add, BitVec.toNat_mul, BitVec.toNat_ofNat]
  omega

theorem trip_congr {c : Fin τ.nSC} {s : Fin τ.nSub} {M4 : Memref sig .scVector .vmem S2x32768 .i32} {M5 : Memref sig .scVector .vmem S4096 .f32}
    {off off' : Fin 8 → Fin 2 → Nat} {inb : ∀ k a, off k a + S1x16.size a ≤ S2x32768.size a} {inb' : ∀ k a, off' k a + S1x16.size a ≤ S2x32768.size a}
    (h : off = off') : (trip M4 M5 off inb : Prog (TpuEff nD τ sig (Elt F) Λ₀ (.scVector c s)) Unit) = trip M4 M5 off' inb' := by
  subst h; rfl

/-- The loads' offsets of `k2`'s loop over row 0, as printed. -/
def k2_t2_offs (t : Fin k2_t2_loop.trips) : Fin 8 → Fin 2 → Nat := ![k2_off4 t, k2_off5 t, k2_off6 t, k2_off7 t, k2_off8 t, k2_off9 t, k2_off10 t, k2_off11 t]

theorem k2_t2_offs_inb (t : Fin k2_t2_loop.trips) : ∀ k a, k2_t2_offs t k a + S1x16.size a ≤ S2x32768.size a := by
  intro k; match k with
  | 0 => exact k2_off4_inb t
  | 1 => exact k2_off5_inb t
  | 2 => exact k2_off6_inb t
  | 3 => exact k2_off7_inb t
  | 4 => exact k2_off8_inb t
  | 5 => exact k2_off9_inb t
  | 6 => exact k2_off10_inb t
  | 7 => exact k2_off11_inb t

theorem k2_t2_lt (t : Fin k2_t2_loop.trips) : t.val < 256 := Nat.lt_of_lt_of_le t.isLt k2_t2_abs.2.1

theorem k2_t2_offs_eq (t : Fin k2_t2_loop.trips) : k2_t2_offs t = goff 0 t.val := by
  funext k
  have h : ∀ k : Fin 8, (![0, (Scalar.indexCast (Scalar.addi (Scalar.addi 0#32 (Scalar.muli (Scf.iv 0#32 1#32 t.val) 128#32)) (BitVec.ofNat 32 (16 * k.val)))).toNat] : Fin 2 → Nat)
      = goff 0 t.val k := fun k => by rw [off_toNat _ (k2_t2_lt t) _ (by have := k.isLt; omega)]; rfl
  match k with
  | 0 => exact h 0
  | 1 => exact h 1
  | 2 => exact h 2
  | 3 => exact h 3
  | 4 => exact h 4
  | 5 => exact h 5
  | 6 => exact h 6
  | 7 => exact h 7

set_option maxRecDepth 65536 in
theorem k2_t2_eq (i : grid2.Coords) (arg2 : Memref sig .scVector .hbm S2097152 .i32) (harg2 : arg2.IsWhole)
    (arg3 : Memref sig .scVector .hbm S131072 .f32) (harg3 : arg3.IsWhole) (arg4 : Memref sig .scVector .vmem S2x32768 .i32) (harg4 : arg4.IsWhole)
    (arg5 : Memref sig .scVector .vmem S4096 .f32) (harg5 : arg5.IsWhole) (arg6 arg7 r0 : DmaSems sig S_) (t : Fin k2_t2_loop.trips) (u : Unit) :
    k2_t2_body (F := F) i arg2 harg2 arg3 harg3 arg4 harg4 arg5 harg5 arg6 arg7 r0 lanes t u
      = trip arg4 arg5 (goff 0 t.val) (goff_inb (by decide) (k2_t2_lt t)) :=
  (show _ = trip arg4 arg5 (k2_t2_offs t) (k2_t2_offs_inb t) from rfl).trans (trip_congr (k2_t2_offs_eq t))

/-- The loads' offsets of `k2`'s loop over row 1, as printed. -/
def k2_t3_offs (t : Fin k2_t3_loop.trips) : Fin 8 → Fin 2 → Nat := ![k2_off12 t, k2_off13 t, k2_off14 t, k2_off15 t, k2_off16 t, k2_off17 t, k2_off18 t, k2_off19 t]

theorem k2_t3_offs_inb (t : Fin k2_t3_loop.trips) : ∀ k a, k2_t3_offs t k a + S1x16.size a ≤ S2x32768.size a := by
  intro k; match k with
  | 0 => exact k2_off12_inb t
  | 1 => exact k2_off13_inb t
  | 2 => exact k2_off14_inb t
  | 3 => exact k2_off15_inb t
  | 4 => exact k2_off16_inb t
  | 5 => exact k2_off17_inb t
  | 6 => exact k2_off18_inb t
  | 7 => exact k2_off19_inb t

theorem k2_t3_lt (t : Fin k2_t3_loop.trips) : t.val < 256 := Nat.lt_of_lt_of_le t.isLt k2_t3_abs.2.1

theorem k2_t3_offs_eq (t : Fin k2_t3_loop.trips) : k2_t3_offs t = goff 1 t.val := by
  funext k
  have h : ∀ k : Fin 8, (![1, (Scalar.indexCast (Scalar.addi (Scalar.addi 0#32 (Scalar.muli (Scf.iv 0#32 1#32 t.val) 128#32)) (BitVec.ofNat 32 (16 * k.val)))).toNat] : Fin 2 → Nat)
      = goff 1 t.val k := fun k => by rw [off_toNat _ (k2_t3_lt t) _ (by have := k.isLt; omega)]; rfl
  match k with
  | 0 => exact h 0
  | 1 => exact h 1
  | 2 => exact h 2
  | 3 => exact h 3
  | 4 => exact h 4
  | 5 => exact h 5
  | 6 => exact h 6
  | 7 => exact h 7

set_option maxRecDepth 65536 in
theorem k2_t3_eq (i : grid2.Coords) (arg2 : Memref sig .scVector .hbm S2097152 .i32) (harg2 : arg2.IsWhole)
    (arg3 : Memref sig .scVector .hbm S131072 .f32) (harg3 : arg3.IsWhole) (arg4 : Memref sig .scVector .vmem S2x32768 .i32) (harg4 : arg4.IsWhole)
    (arg5 : Memref sig .scVector .vmem S4096 .f32) (harg5 : arg5.IsWhole) (arg6 arg7 r0 : DmaSems sig S_) (t : Fin k2_t3_loop.trips) (u : Unit) :
    k2_t3_body (F := F) i arg2 harg2 arg3 harg3 arg4 harg4 arg5 harg5 arg6 arg7 r0 (ones (F := F)) lanes t u
      = trip arg4 arg5 (goff 1 t.val) (goff_inb (by decide) (k2_t3_lt t)) :=
  (show _ = trip arg4 arg5 (k2_t3_offs t) (k2_t3_offs_inb t) from rfl).trans (trip_congr (k2_t3_offs_eq t))

/-- The loads' offsets of `k4`'s loop over row 0, as printed. -/
def k4_t2_offs (t : Fin k4_t2_loop.trips) : Fin 8 → Fin 2 → Nat := ![k4_off3 t, k4_off4 t, k4_off5 t, k4_off6 t, k4_off7 t, k4_off8 t, k4_off9 t, k4_off10 t]

theorem k4_t2_offs_inb (t : Fin k4_t2_loop.trips) : ∀ k a, k4_t2_offs t k a + S1x16.size a ≤ S2x32768.size a := by
  intro k; match k with
  | 0 => exact k4_off3_inb t
  | 1 => exact k4_off4_inb t
  | 2 => exact k4_off5_inb t
  | 3 => exact k4_off6_inb t
  | 4 => exact k4_off7_inb t
  | 5 => exact k4_off8_inb t
  | 6 => exact k4_off9_inb t
  | 7 => exact k4_off10_inb t

theorem k4_t2_lt (t : Fin k4_t2_loop.trips) : t.val < 256 := Nat.lt_of_lt_of_le t.isLt k4_t2_abs.2.1

theorem k4_t2_offs_eq (t : Fin k4_t2_loop.trips) : k4_t2_offs t = goff 0 t.val := by
  funext k
  have h : ∀ k : Fin 8, (![0, (Scalar.indexCast (Scalar.addi (Scalar.addi 0#32 (Scalar.muli (Scf.iv 0#32 1#32 t.val) 128#32)) (BitVec.ofNat 32 (16 * k.val)))).toNat] : Fin 2 → Nat)
      = goff 0 t.val k := fun k => by rw [off_toNat _ (k4_t2_lt t) _ (by have := k.isLt; omega)]; rfl
  match k with
  | 0 => exact h 0
  | 1 => exact h 1
  | 2 => exact h 2
  | 3 => exact h 3
  | 4 => exact h 4
  | 5 => exact h 5
  | 6 => exact h 6
  | 7 => exact h 7

set_option maxRecDepth 65536 in
theorem k4_t2_eq (i : grid4.Coords) (arg2 : Memref sig .scVector .hbm S1048576 .i32) (harg2 : arg2.IsWhole)
    (arg3 : Memref sig .scVector .hbm S131072 .f32) (harg3 : arg3.IsWhole) (arg4 : Memref sig .scVector .vmem S2x32768 .i32) (harg4 : arg4.IsWhole)
    (arg5 : Memref sig .scVector .vmem S4096 .f32) (harg5 : arg5.IsWhole) (arg6 arg7 r0 : DmaSems sig S_) (t : Fin k4_t2_loop.trips) (u : Unit) :
    k4_t2_body (F := F) i arg2 harg2 arg3 harg3 arg4 harg4 arg5 harg5 arg6 arg7 r0 lanes t u
      = trip arg4 arg5 (goff 0 t.val) (goff_inb (by decide) (k4_t2_lt t)) :=
  (show _ = trip arg4 arg5 (k4_t2_offs t) (k4_t2_offs_inb t) from rfl).trans (trip_congr (k4_t2_offs_eq t))

/-- The loads' offsets of `k6`'s loop over row 0, as printed. -/
def k6_t2_offs (t : Fin k6_t2_loop.trips) : Fin 8 → Fin 2 → Nat := ![k6_off3 t, k6_off4 t, k6_off5 t, k6_off6 t, k6_off7 t, k6_off8 t, k6_off9 t, k6_off10 t]

theorem k6_t2_offs_inb (t : Fin k6_t2_loop.trips) : ∀ k a, k6_t2_offs t k a + S1x16.size a ≤ S2x32768.size a := by
  intro k; match k with
  | 0 => exact k6_off3_inb t
  | 1 => exact k6_off4_inb t
  | 2 => exact k6_off5_inb t
  | 3 => exact k6_off6_inb t
  | 4 => exact k6_off7_inb t
  | 5 => exact k6_off8_inb t
  | 6 => exact k6_off9_inb t
  | 7 => exact k6_off10_inb t

theorem k6_t2_lt (t : Fin k6_t2_loop.trips) : t.val < 256 := Nat.lt_of_lt_of_le t.isLt k6_t2_abs.2.1

theorem k6_t2_offs_eq (t : Fin k6_t2_loop.trips) : k6_t2_offs t = goff 0 t.val := by
  funext k
  have h : ∀ k : Fin 8, (![0, (Scalar.indexCast (Scalar.addi (Scalar.addi 0#32 (Scalar.muli (Scf.iv 0#32 1#32 t.val) 128#32)) (BitVec.ofNat 32 (16 * k.val)))).toNat] : Fin 2 → Nat)
      = goff 0 t.val k := fun k => by rw [off_toNat _ (k6_t2_lt t) _ (by have := k.isLt; omega)]; rfl
  match k with
  | 0 => exact h 0
  | 1 => exact h 1
  | 2 => exact h 2
  | 3 => exact h 3
  | 4 => exact h 4
  | 5 => exact h 5
  | 6 => exact h 6
  | 7 => exact h 7

set_option maxRecDepth 65536 in
theorem k6_t2_eq (i : grid6.Coords) (arg2 : Memref sig .scVector .hbm S1048576 .i32) (harg2 : arg2.IsWhole)
    (arg3 : Memref sig .scVector .hbm S131072 .f32) (harg3 : arg3.IsWhole) (arg4 : Memref sig .scVector .vmem S2x32768 .i32) (harg4 : arg4.IsWhole)
    (arg5 : Memref sig .scVector .vmem S4096 .f32) (harg5 : arg5.IsWhole) (arg6 arg7 r0 : DmaSems sig S_) (t : Fin k6_t2_loop.trips) (u : Unit) :
    k6_t2_body (F := F) i arg2 harg2 arg3 harg3 arg4 harg4 arg5 harg5 arg6 arg7 r0 lanes t u
      = trip arg4 arg5 (goff 0 t.val) (goff_inb (by decide) (k6_t2_lt t)) :=
  (show _ = trip arg4 arg5 (k6_t2_offs t) (k6_t2_offs_inb t) from rfl).trans (trip_congr (k6_t2_offs_eq t))

end Cert.Proof.Run
-- ==== Proof.HistTile.lean ====
/-
  A tile's histogram task, once for the three SparseCore calls: the counters zeroed, a chunk of 32768 words fetched into
  a row of the codes' buffer, its bytes counted, the counters written out.
-/
module

public import proofs.«01_k».proof.Proof.HistBody
public import Idealize.ShloMosaic.Lib.ValueIdxCore
public import Idealize.ShloMosaic.Lib.Pipeline.Value

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Values -/

/-- The counters at the start. -/
def zeros : Vec F S4096 .f32 := fun _ => Scalar.ofBits .f32 0x00000000#32

/-- The sixteen words of a chunk that load `k` of trip `t` reads. -/
def chunkWords (g : Vec F S32768 .i32) (t : Nat) (k : Fin 8) : IVec S16 32 :=
  fun x => g (ValueIdx.ix1 ⟨(128 * t + 16 * k.val + (x 0).val) % 32768, Nat.mod_lt _ (by decide)⟩)

/-- The counters after `n` trips over the chunk `g`, from `h`. -/
def countChunk (g : Vec F S32768 .i32) (h : Vec F S4096 .f32) : Nat → Vec F S4096 .f32
  | 0 => h
  | n + 1 => tripVal (chunkWords g n) (countChunk g h n)

/-! ## The program's pieces -/

section Prog

variable {c : Fin τ.nSC} {s : Fin τ.nSub}

/-- Zero the counters. -/
def zeroAll (M5 : Memref sig .scVector .vmem S4096 .f32) : Prog (TpuEff nD τ sig (Elt F) Λ₀ (.scVector c s)) (BitVec 32) :=
  Scf.Loop.for k4_t1_loop k4_t1_ok 0#32 fun t _ => do
    let _ : Vec F S16 .f32 ← Prog.lift (.load M5 (Rect.unit (s := S4096) (k4_off1 t) S16.size (k4_off1_inb t)).toLoadRect (View.loadsAt_vmem h_S16))
    Prog.lift (.store M5 (Rect.unit (s := S4096) (k4_off1 t) S16.size (k4_off1_inb t)) (k4_pay1 (F := F)) Finset.univ (View.stores_vmem_bits_univ h_S16 rfl) (.inl rfl))
    pure 0#32

/-- The body of a row's count. -/
abbrev rowBody (M4 : Memref sig .scVector .vmem S2x32768 .i32) (M5 : Memref sig .scVector .vmem S4096 .f32) (r : Fin 2) :
    Fin k4_t2_loop.trips → Unit → Prog (TpuEff nD τ sig (Elt F) Λ₀ (.scVector c s)) Unit :=
  fun t _ => trip M4 M5 (goff r.val t.val) (goff_inb r.isLt (k4_t2_lt t))

theorem row_inb (r : Fin 2) : ∀ a, (![r.val, 0] : Fin 2 → Nat) a + S1x32768.size a ≤ S2x32768.size a := by
  intro a; have hr := r.isLt
  match a with
  | 0 => show r.val + 1 ≤ 2; omega
  | 1 => show 0 + 32768 ≤ 32768; omega

/-- Row `r` of the codes' buffer, as a task fetches into it. -/
abbrev rowOf (M4 : Memref sig .scVector .vmem S2x32768 .i32) (r : Fin 2) : Memref sig .scVector .vmem S32768 .i32 :=
  (M4.slice (Rect.unit (s := S2x32768) ![r.val, 0] S1x32768.size (row_inb r)) (fun _ => rfl)).squeeze S32768 squeezes_S1x32768_S32768

/-- A task with one chunk. -/
def hist1 (M2 : Memref sig .scVector .hbm S32768 .i32) (M3 : Memref sig .scVector .hbm S4096 .f32)
    (M4 : Memref sig .scVector .vmem S2x32768 .i32) (M5 : Memref sig .scVector .vmem S4096 .f32) (h5 : M5.IsWhole)
    (a6 r0 : DmaSems sig S_) (b : Fin k4_t2_loop.trips → Unit → Prog (TpuEff nD τ sig (Elt F) Λ₀ (.scVector c s)) Unit) : Prog (TpuEff nD τ sig (Elt F) Λ₀ (.scVector c s)) PUnit := do
  let _ ← zeroAll M5
  Prog.lift (.enqueueDma M2 (.here (rowOf M4 0)) (.dma a6.sem) (View.wordExact_bits rfl) ((View.wordExact_bits rfl).reshape _ _) ⟨Or.inl rfl, trivial⟩)
  Prog.lift (.waitDma2 a6.sem M2 (rowOf M4 0) (View.wordExact_bits rfl) ((View.wordExact_bits rfl).reshape _ _))
  Scf.Loop.for k4_t2_loop k4_t2_ok ⟨⟩ b
  Prog.lift (.enqueueDma M5 (.here M3) (.dma r0.sem) h5.wordExact (View.wordExact_bits rfl) ⟨Or.inl rfl, trivial⟩)
  Prog.lift (.waitDma2 r0.sem M5 M3 h5.wordExact (View.wordExact_bits rfl))
  pure ⟨⟩

/-- A task with two chunks, the second fetched while the first is counted. -/
def hist2 (M2 M2' : Memref sig .scVector .hbm S32768 .i32) (M3 : Memref sig .scVector .hbm S4096 .f32)
    (M4 : Memref sig .scVector .vmem S2x32768 .i32) (M5 : Memref sig .scVector .vmem S4096 .f32) (h5 : M5.IsWhole)
    (a6 a7 r0 : DmaSems sig S_) (b b' : Fin k4_t2_loop.trips → Unit → Prog (TpuEff nD τ sig (Elt F) Λ₀ (.scVector c s)) Unit) : Prog (TpuEff nD τ sig (Elt F) Λ₀ (.scVector c s)) PUnit := do
  let _ ← zeroAll M5
  Prog.lift (.enqueueDma M2 (.here (rowOf M4 0)) (.dma a6.sem) (View.wordExact_bits rfl) ((View.wordExact_bits rfl).reshape _ _) ⟨Or.inl rfl, trivial⟩)
  Prog.lift (.enqueueDma M2' (.here (rowOf M4 1)) (.dma a7.sem) (View.wordExact_bits rfl) ((View.wordExact_bits rfl).reshape _ _) ⟨Or.inl rfl, trivial⟩)
  Prog.lift (.waitDma2 a6.sem M2 (rowOf M4 0) (View.wordExact_bits rfl) ((View.wordExact_bits rfl).reshape _ _))
  Scf.Loop.for k4_t2_loop k4_t2_ok ⟨⟩ b
  Prog.lift (.waitDma2 a7.sem M2' (rowOf M4 1) (View.wordExact_bits rfl) ((View.wordExact_bits rfl).reshape _ _))
  Scf.Loop.for k4_t2_loop k4_t2_ok ⟨⟩ b'
  Prog.lift (.enqueueDma M5 (.here M3) (.dma r0.sem) h5.wordExact (View.wordExact_bits rfl) ⟨Or.inl rfl, trivial⟩)
  Prog.lift (.waitDma2 r0.sem M5 M3 h5.wordExact (View.wordExact_bits rfl))
  pure ⟨⟩

end Prog

/-! ## The printed tasks are these -/

section Printed

variable (arg3 : Memref sig .scVector .hbm S131072 .f32) (harg3 : arg3.IsWhole) (arg4 : Memref sig .scVector .vmem S2x32768 .i32) (harg4 : arg4.IsWhole)
    (arg5 : Memref sig .scVector .vmem S4096 .f32) (harg5 : arg5.IsWhole) (arg6 arg7 r0 : DmaSems sig S_)

set_option maxRecDepth 65536 in
theorem cc2_eq (i : grid2.Coords) (arg2 : Memref sig .scVector .hbm S2097152 .i32) (harg2 : arg2.IsWhole) :
    cc2_sc_hist (F := F) i arg2 harg2 arg3 harg3 arg4 harg4 arg5 harg5 arg6 arg7 r0
      = hist2 (arg2.slice (Rect.unit (s := S2097152) (k2_off2 i) S32768.size (k2_off2_inb i)) (fun _ => rfl))
          (arg2.slice (Rect.unit (s := S2097152) (k2_off3 i) S32768.size (k2_off3_inb i)) (fun _ => rfl))
          (arg3.slice (Rect.unit (s := S131072) (k2_off20 i) S4096.size (k2_off20_inb i)) (fun _ => rfl)) arg4 arg5 harg5 arg6 arg7 r0 (rowBody arg4 arg5 0) (rowBody arg4 arg5 1) := by
  have h2 : k2_t2_body (F := F) i arg2 harg2 arg3 harg3 arg4 harg4 arg5 harg5 arg6 arg7 r0 lanes
      = rowBody arg4 arg5 0 := by
    funext t u; exact k2_t2_eq ..
  have h3 : k2_t3_body (F := F) i arg2 harg2 arg3 harg3 arg4 harg4 arg5 harg5 arg6 arg7 r0 (ones (F := F)) lanes
      = rowBody arg4 arg5 1 := by
    funext t u; exact k2_t3_eq ..
  rw [cc2_sc_hist_eq_skeleton]
  unfold cc2_sc_hist_skel
  rw [k2_part11_eq_skeleton]
  unfold k2_part11_skel
  simp only [bind_assoc, pure_bind]
  rw [← h2, ← h3]
  rfl

set_option maxRecDepth 65536 in
theorem cc4_eq (i : grid4.Coords) (arg2 : Memref sig .scVector .hbm S1048576 .i32) (harg2 : arg2.IsWhole) :
    cc4_sc_hist (F := F) i arg2 harg2 arg3 harg3 arg4 harg4 arg5 harg5 arg6 arg7 r0
      = hist1 (arg2.slice (Rect.unit (s := S1048576) (k4_off2 i) S32768.size (k4_off2_inb i)) (fun _ => rfl))
          (arg3.slice (Rect.unit (s := S131072) (k4_off11 i) S4096.size (k4_off11_inb i)) (fun _ => rfl)) arg4 arg5 harg5 arg6 r0
          (rowBody arg4 arg5 0) := by
  have h2 : k4_t2_body (F := F) i arg2 harg2 arg3 harg3 arg4 harg4 arg5 harg5 arg6 arg7 r0 lanes
      = rowBody arg4 arg5 0 := by
    funext t u; exact k4_t2_eq ..
  rw [← h2]
  rfl

set_option maxRecDepth 65536 in
theorem cc6_eq (i : grid6.Coords) (arg2 : Memref sig .scVector .hbm S1048576 .i32) (harg2 : arg2.IsWhole) :
    cc6_sc_hist (F := F) i arg2 harg2 arg3 harg3 arg4 harg4 arg5 harg5 arg6 arg7 r0
      = hist1 (arg2.slice (Rect.unit (s := S1048576) (k6_off2 i) S32768.size (k6_off2_inb i)) (fun _ => rfl))
          (arg3.slice (Rect.unit (s := S131072) (k6_off11 i) S4096.size (k6_off11_inb i)) (fun _ => rfl)) arg4 arg5 harg5 arg6 r0
          (rowBody arg4 arg5 0) := by
  have h2 : k6_t2_body (F := F) i arg2 harg2 arg3 harg3 arg4 harg4 arg5 harg5 arg6 arg7 r0 lanes
      = rowBody arg4 arg5 0 := by
    funext t u; exact k6_t2_eq ..
  rw [← h2]
  rfl

end Printed

/-! ## Rows -/

section Rows

open Idealize.ShloMosaic.ValueIdx

theorem rowOf_emb (M4 : Memref sig .scVector .vmem S2x32768 .i32) (r : Fin 2) (p : S32768.Idx) :
    (rowOf M4 r).view.emb p = M4.view.emb (ix2 (n0 := 2) (n1 := 32768) r (p 0)) := by
  have h1 : Shape.reshapeEquiv squeezes_S1x32768_S32768.numel_eq p = (ix2 (n0 := 1) (n1 := 32768) 0 (p 0) : S1x32768.Idx) := by
    apply Shape.reshapeEquiv_eq_of_rowMajor
    refine (Shape.rowMajor_val_two (d := ![1, 32768]) _).trans ((?_ : _ = _).trans (Shape.rowMajor_val_one (d := ![32768]) p).symm)
    show 0 * 32768 + (p 0).val = (p 0).val
    omega
  show M4.view.emb ((Rect.unit (s := S2x32768) ![r.val, 0] S1x32768.size (row_inb r)).emb (Shape.reshapeEquiv squeezes_S1x32768_S32768.numel_eq p)) = _
  rw [h1]
  congr 1
  funext a
  apply Fin.ext
  rw [Rect.emb_apply]
  match a with
  | 0 => show r.val + 1 * 0 = r.val; omega
  | 1 => show 0 + 1 * (p 0).val = (p 0).val; omega

theorem piece_idx (r : Fin 2) (t : Nat) (ht : t < 256) (k : Fin 8) (x : S1x16.Idx) :
    (Rect.unit (s := S2x32768) (goff r.val t k) S1x16.size (goff_inb r.isLt ht k)).toLoadRect.idx x
      = ix2 (n0 := 2) (n1 := 32768) r ⟨128 * t + 16 * k.val + (x 1).val, by have := k.isLt; have := (x 1).isLt; change _ < 16 at this; omega⟩ := by
  have h0 : (x 0).val = 0 := by have := (x 0).isLt; change _ < 1 at this; omega
  funext a
  apply Fin.ext
  match a with
  | 0 => show r.val + 1 * (x 0).val = r.val; omega
  | 1 => show 128 * t + 16 * k.val + 1 * (x 1).val = _; simp

/-- The words a trip over row `r` reads are the chunk's. -/
theorem tripWords_row (M4 : Memref sig .scVector .vmem S2x32768 .i32) (r : Fin 2) (t : Nat) (ht : t < 256) (f : M4.view.ty.Contents (Elt F)) :
    tripWords M4 f (goff r.val t) (goff_inb r.isLt ht) = chunkWords ((rowOf M4 r).view.read (Elt F) f) t := by
  funext k x
  have hk := k.isLt
  have hx : (x 0).val < 16 := (x 0).isLt
  unfold tripWords chunkWords
  refine (shapeCast_apply _ _ x (ix2 (n0 := 1) (n1 := 16) 0 (x 0) : S1x16.Idx) ?_).trans ?_
  · refine (Shape.rowMajor_val_two (d := ![1, 16]) _).trans ((?_ : _ = _).trans (Shape.rowMajor_val_one (d := ![16]) x).symm)
    show 0 * 16 + (x 0).val = (x 0).val
    omega
  · show M4.view.read (Elt F) f (LoadRect.idx _ _) = _
    rw [piece_idx r t ht k]
    show cast _ (f (M4.view.emb _)) = cast _ (f ((rowOf M4 r).view.emb _))
    rw [rowOf_emb]
    have he : (⟨128 * t + 16 * k.val + (x 0).val, by omega⟩ : Fin 32768) = ⟨(128 * t + 16 * k.val + (x 0).val) % 32768, Nat.mod_lt _ (by decide)⟩ := by
      apply Fin.ext; show _ = _ % _; rw [Nat.mod_eq_of_lt (by omega)]
    congr 2
    exact congrArg (fun z => M4.view.emb (ix2 (n0 := 2) (n1 := 32768) r z)) he

/-- … and lie in the row. -/
theorem trip_sub (M4 : Memref sig .scVector .vmem S2x32768 .i32) (r : Fin 2) (t : Nat) (ht : t < 256) (k : Fin 8) :
    M4.view.setOn (Rect.unit (s := S2x32768) (goff r.val t k) S1x16.size (goff_inb r.isLt ht k)).toLoadRect.set ⊆ (rowOf M4 r).view.set := by
  intro i hi
  obtain ⟨y, hy, rfl⟩ := Finset.mem_map.mp hi
  obtain ⟨x, rfl⟩ := LoadRect.exists_idx_of_mem _ hy
  rw [piece_idx r t ht k]
  have := rowOf_emb M4 r (ix1 ⟨128 * t + 16 * k.val + (x 1).val, by have := k.isLt; have := (x 1).isLt; change _ < 16 at this; omega⟩)
  exact Finset.mem_map.mpr ⟨_, Finset.mem_univ _, this⟩

end Rows

/-! ## Loops -/

section Loops

local notation "𝕄" => MT nD τ sig (HIx 3) (Elt F) ℕ UU ℕ

variable {d : Dev nD} {c : Fin τ.nSC} {s : Fin τ.nSub}

/-- Counting row `r`: the row holding the chunk `g`, the counters at `h` before and at `g`'s count from `h` after. -/
theorem wp_countRow {M4 : Memref sig .scVector .vmem S2x32768 .i32} {M5 : Memref sig .scVector .vmem S4096 .f32} {r : Fin 2}
    {h : Vec F S4096 .f32} {f : Buf (Elt F) (M4.view.loc (V d c s))} {α : Type}
    {kk : Unit → Prog (TpuEff nD τ sig (Elt F) Λ₀ (.scVector c s)) α} {Q : α → sProp 𝕄} :
    iprop(((rowOf M4 r).view.loc (V d c s) ↦[(rowOf M4 r).view.set]{fullShare} f) ∗ owns (V d c s) M5 fullShare h)
      ⊢ iprop((((rowOf M4 r).view.loc (V d c s) ↦[(rowOf M4 r).view.set]{fullShare} f)
            ∗ owns (V d c s) M5 fullShare (countChunk ((rowOf M4 r).view.read (Elt F) f) h 256)
            -∗ wp frame (wpE defs₀ 𝒱₀ (V d c s) none) Set.univ (kk ⟨⟩) Q)
        -∗ wp frame (wpE defs₀ 𝒱₀ (V d c s) none) Set.univ (Scf.Loop.for k4_t2_loop k4_t2_ok ⟨⟩ (rowBody M4 M5 r) >>= kk) Q) := by
  iintro H Hk
  sl_for (fun (n : Nat) (_ : Unit) => iprop((M4.view.loc (V d c s) ↦[(rowOf M4 r).view.set]{fullShare} f)
            ∗ owns (V d c s) M5 fullShare (countChunk ((rowOf M4 r).view.read (Elt F) f) h n))) $$ [H]
  case region =>
    intro k _
    have ht : k.val < 256 := k4_t2_lt k
    refine (wp_trip (F := F) (h := countChunk ((rowOf M4 r).view.read (Elt F) f) h k.val) (fun j => trip_sub M4 r k.val ht j)).trans ?_
    rw [tripWords_row M4 r k.val ht f]
    exact .rfl
  · iexact H
  iintro %_ H
  iapply Hk
  iexact H

/-- The counters' buffer with its first `16 n` entries zero. -/
def zeroInv (M5 : Memref sig .scVector .vmem S4096 .f32) (n : Nat) : sProp 𝕄 :=
  iprop(∃ f, ⌜∀ y : S4096.Idx, (y 0).val < 16 * n → M5.view.read (Elt F) f y = zeros (F := F) y⌝
    ∗ (M5.view.loc (V d c s) ↦[M5.view.set]{fullShare} f))

theorem zero_off (t : Fin k4_t1_loop.trips) : (k4_off1 t 0) = 16 * t.val := by
  have ht : t.val < 256 := Nat.lt_of_lt_of_le t.isLt (by decide)
  show ((0#32 + BitVec.ofNat 32 t.val * 1#32) * 16#32).toNat = _
  simp only [BitVec.toNat_add, BitVec.toNat_mul, BitVec.toNat_ofNat]
  omega

/-- Zeroing the counters. -/
theorem wp_zeroAll {M5 : Memref sig .scVector .vmem S4096 .f32} {α : Type}
    {f : Buf (Elt F) (M5.view.loc (V d c s))}
    {kk : BitVec 32 → Prog (TpuEff nD τ sig (Elt F) Λ₀ (.scVector c s)) α} {Q : α → sProp 𝕄} :
    (M5.view.loc (V d c s) ↦[M5.view.set]{fullShare} f : sProp 𝕄)
      ⊢ iprop((∀ v, owns (V d c s) M5 fullShare (zeros (F := F)) -∗ wp frame (wpE defs₀ 𝒱₀ (V d c s) none) Set.univ (kk v) Q)
        -∗ wp frame (wpE defs₀ 𝒱₀ (V d c s) none) Set.univ (zeroAll M5 >>= kk) Q) := by
  iintro H Hk
  unfold zeroAll
  sl_for (fun (n : Nat) (_ : BitVec 32) => zeroInv (F := F) (d := d) (c := c) (s := s) M5 n) $$ [H]
  case region =>
    intro t v
    unfold zeroInv
    iintro ⟨%g, %hg, H⟩
    have hsub : (M5.access (Rect.unit (s := S4096) (k4_off1 t) S16.size (k4_off1_inb t))).setOn Finset.univ ⊆ M5.view.set := by
      rw [View.setOn_univ]; exact View.set_slice_subset _ _
    iapply (wp_load 𝒱₀ (V d c s) none Set.univ (S := M5.view.set) (View.setOn_subset_set _ _)) $$ H
    iintro H
    iapply (wp_store 𝒱₀ (V d c s) none Set.univ (S := M5.view.set) (m := M5) (r := Rect.unit (s := S4096) (k4_off1 t) S16.size (k4_off1_inb t)) hsub) $$ H
    iintro H
    rw [Prog.bind, Prog.pure_eq_ret, wp_ret]; imodintro
    iexists _
    isplitr [H]
    rotate_left
    · iexact H
    · ipureintro
      intro y hy
      by_cases hlt : (y 0).val < 16 * t.val
      · rw [← hg y hlt]
        refine View.read_slice_write_of_not_mem _ _ _ _ ?_
        intro hm
        obtain ⟨x, -, hx⟩ := Finset.mem_map.mp hm
        have := congrArg (fun z => (z 0).val) hx
        simp only [Rect.emb_apply] at this
        change k4_off1 t 0 + 1 * (x 0).val = _ at this
        rw [zero_off] at this
        omega
      · have hx : y = (Rect.unit (s := S4096) (k4_off1 t) S16.size (k4_off1_inb t)).emb (ValueIdx.ix1 (n := 16) ⟨(y 0).val - 16 * t.val, by omega⟩) := by
          funext a
          apply Fin.ext
          rw [Rect.emb_apply]
          match a with
          | 0 => show (y 0).val = k4_off1 t 0 + 1 * ((y 0).val - 16 * t.val); rw [zero_off]; omega
        rw [hx]
        exact View.read_slice_write_emb _ _ _ (Finset.mem_univ _)
  · unfold zeroInv
    iexists f
    isplitr
    · ipureintro; intro y hy; omega
    · iexact H
  iintro %v H
  ispecialize Hk $$ %v
  iapply Hk
  unfold zeroInv owns
  icases H with ⟨%g, %hg, H⟩
  iexists g
  isplitr
  · ipureintro; funext y; exact hg y (by have := (y 0).isLt; change _ < 4096 at this; show _ < 16 * 256; omega)
  · iexact H

end Loops

/-! ## The tasks -/

section Tasks

local notation "𝕄" => MT nD τ sig (HIx 3) (Elt F) ℕ UU ℕ

variable {d : Dev nD} {c : Fin τ.nSC} {s : Fin τ.nSub}

/-- One chunk's counters. -/
def hist1Val (g : Vec F S32768 .i32) : Vec F S4096 .f32 := countChunk g zeros 256

/-- Two chunks' counters. -/
def hist2Val (g g' : Vec F S32768 .i32) : Vec F S4096 .f32 := countChunk g' (hist1Val g) 256

/-- A view written whole reads what was written. -/
theorem read_writes_whole {κ : Kind} {sp : Space} {s : Shape} {e : EltTy} {Val : EltTy → Type} (v : View sig κ sp s e) (f : v.ty.Contents Val)
    (w : s.Idx → Val e) : v.read Val (v.writes Val f [⟨Rect.whole s, w⟩]) = w := by
  funext y
  have h := View.read_writes_cons_emb v f (Rect.whole s) w [] y
  rwa [Rect.emb_whole_apply] at h

theorem wp_hist1 {M2 : Memref sig .scVector .hbm S32768 .i32} {M3 : Memref sig .scVector .hbm S4096 .f32}
    {M4 : Memref sig .scVector .vmem S2x32768 .i32} {M5 : Memref sig .scVector .vmem S4096 .f32} {h5 : M5.IsWhole}
    {a6 r0 : DmaSems sig S_} {q : PosShare TreeShare} {f2 : Buf (Elt F) (M2.view.loc (V d c s))}
    {f3 : Buf (Elt F) (M3.view.loc (V d c s))} {f4 : Buf (Elt F) (M4.view.loc (V d c s))} {f5 : Buf (Elt F) (M5.view.loc (V d c s))}
    {O : CellTallies nD τ sig (HIx 3)} {W : Waits sig (HIx 3)} :
    iprop(Transfers.MayWaits (V d c s) (none : HIx 3) O
        ∗ (M2.view.loc (V d c s) ↦[M2.view.set]{q} f2)
        ∗ (M3.view.loc (V d c s) ↦[M3.view.set]{fullShare} f3)
        ∗ ((rowOf M4 0).view.loc (V d c s) ↦[(rowOf M4 0).view.set]{fullShare} f4)
        ∗ (M5.view.loc (V d c s) ↦[M5.view.set]{fullShare} f5)
        ∗ semVal (V d c s, SemLoc.dma a6.sem) 0 ∗ semVal (V d c s, SemLoc.dma r0.sem) 0
        ∗ owes (V d c s) O W : sProp 𝕄)
      ⊢ wp frame (wpE (defs₀ (F := F)) 𝒱₀ (V d c s) none) Set.univ (hist1 M2 M3 M4 M5 h5 a6 r0 (rowBody M4 M5 0)) fun _ =>
        iprop((M2.view.loc (V d c s) ↦[M2.view.set]{q} f2)
        ∗ owns (V d c s) M3 fullShare (hist1Val (M2.view.read (Elt F) f2))
        ∗ (∃ f, (rowOf M4 0).view.loc (V d c s) ↦[(rowOf M4 0).view.set]{fullShare} f)
        ∗ (∃ f, M5.view.loc (V d c s) ↦[M5.view.set]{fullShare} f)
        ∗ semVal (V d c s, SemLoc.dma a6.sem) 0 ∗ semVal (V d c s, SemLoc.dma r0.sem) 0
        ∗ ∃ W', ⌜∀ p ∈ W', p ∈ W ∨ p.2 = none⌝ ∗ owes (V d c s) O W') := by
  iintro ⟨Hmw, H2, H3, H4, H5, H6, H7, HO⟩
  unfold hist1
  iapply (wp_zeroAll (M5 := M5)) $$ H5
  iintro %v H5
  unfold owns
  icases H5 with ⟨%g5, %hg5, H5⟩
  sl_exec
  iapply (wp_countRow (M4 := M4) (M5 := M5) (r := 0) (h := zeros)) $$ [H4 H5]
  · unfold owns
    isplitl [H4]; · iexact H4
    iexists g5; isplitr
    · ipureintro; exact hg5
    · iexact H5
  unfold owns
  iintro ⟨H4, %g5', %hg5', H5⟩
  sl_exec
  sl_step
  isplitl [H2]; · iexact H2
  isplitl [H3]
  · iexists _; isplitr
    rotate_left
    · iexact H3
    · ipureintro
      refine (read_writes_whole _ _ _).trans ?_
      refine hg5'.trans ?_
      refine congrArg (fun g => countChunk g zeros 256) ?_
      exact read_writes_whole _ _ _
  isplitl [H4]; · iexists _; iexact H4
  isplitl [H5]; · iexists _; iexact H5
  isplitl [H6]; · iexact H6
  isplitl [H7]; · iexact H7
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  exact .inl hp

theorem wp_hist2 {M2 M2' : Memref sig .scVector .hbm S32768 .i32} {M3 : Memref sig .scVector .hbm S4096 .f32}
    {M4 : Memref sig .scVector .vmem S2x32768 .i32} {M5 : Memref sig .scVector .vmem S4096 .f32} {h5 : M5.IsWhole}
    {a6 a7 r0 : DmaSems sig S_} {q : PosShare TreeShare} {f2 : Buf (Elt F) (M2.view.loc (V d c s))} {f2' : Buf (Elt F) (M2'.view.loc (V d c s))}
    {f3 : Buf (Elt F) (M3.view.loc (V d c s))} {f4 f4' : Buf (Elt F) (M4.view.loc (V d c s))} {f5 : Buf (Elt F) (M5.view.loc (V d c s))}
    {O : CellTallies nD τ sig (HIx 3)} {W : Waits sig (HIx 3)} :
    iprop(Transfers.MayWaits (V d c s) (none : HIx 3) O
        ∗ (M2.view.loc (V d c s) ↦[M2.view.set]{q} f2)
        ∗ (M2'.view.loc (V d c s) ↦[M2'.view.set]{q} f2')
        ∗ (M3.view.loc (V d c s) ↦[M3.view.set]{fullShare} f3)
        ∗ ((rowOf M4 0).view.loc (V d c s) ↦[(rowOf M4 0).view.set]{fullShare} f4)
        ∗ ((rowOf M4 1).view.loc (V d c s) ↦[(rowOf M4 1).view.set]{fullShare} f4')
        ∗ (M5.view.loc (V d c s) ↦[M5.view.set]{fullShare} f5)
        ∗ semVal (V d c s, SemLoc.dma a6.sem) 0 ∗ semVal (V d c s, SemLoc.dma a7.sem) 0 ∗ semVal (V d c s, SemLoc.dma r0.sem) 0
        ∗ owes (V d c s) O W : sProp 𝕄)
      ⊢ wp frame (wpE (defs₀ (F := F)) 𝒱₀ (V d c s) none) Set.univ (hist2 M2 M2' M3 M4 M5 h5 a6 a7 r0 (rowBody M4 M5 0) (rowBody M4 M5 1)) fun _ =>
        iprop((M2.view.loc (V d c s) ↦[M2.view.set]{q} f2)
        ∗ (M2'.view.loc (V d c s) ↦[M2'.view.set]{q} f2')
        ∗ owns (V d c s) M3 fullShare (hist2Val (M2.view.read (Elt F) f2) (M2'.view.read (Elt F) f2'))
        ∗ (∃ f, (rowOf M4 0).view.loc (V d c s) ↦[(rowOf M4 0).view.set]{fullShare} f)
        ∗ (∃ f, (rowOf M4 1).view.loc (V d c s) ↦[(rowOf M4 1).view.set]{fullShare} f)
        ∗ (∃ f, M5.view.loc (V d c s) ↦[M5.view.set]{fullShare} f)
        ∗ semVal (V d c s, SemLoc.dma a6.sem) 0 ∗ semVal (V d c s, SemLoc.dma a7.sem) 0 ∗ semVal (V d c s, SemLoc.dma r0.sem) 0
        ∗ ∃ W', ⌜∀ p ∈ W', p ∈ W ∨ p.2 = none⌝ ∗ owes (V d c s) O W') := by
  iintro ⟨Hmw, H2, H2', H3, H4, H4', H5, H6, H7, H8, HO⟩
  unfold hist2
  iapply (wp_zeroAll (M5 := M5)) $$ H5
  iintro %v H5
  unfold owns
  icases H5 with ⟨%g5, %hg5, H5⟩
  sl_exec
  iapply (wp_countRow (M4 := M4) (M5 := M5) (r := 0) (h := zeros)) $$ [H4 H5]
  · unfold owns
    isplitl [H4]; · iexact H4
    iexists g5; isplitr
    · ipureintro; exact hg5
    · iexact H5
  unfold owns
  iintro ⟨H4, %g5', %hg5', H5⟩
  sl_exec
  iapply (wp_countRow (M4 := M4) (M5 := M5) (r := 1) (h := hist1Val (M2.view.read (Elt F) f2))) $$ [H4' H5]
  · unfold owns
    isplitl [H4']; · iexact H4'
    iexists g5'; isplitr
    · ipureintro
      refine hg5'.trans (congrArg (fun g => countChunk g zeros 256) ?_)
      exact read_writes_whole _ _ _
    · iexact H5
  unfold owns
  iintro ⟨H4', %g5'', %hg5'', H5⟩
  sl_exec
  sl_step
  isplitl [H2]; · iexact H2
  isplitl [H2']; · iexact H2'
  isplitl [H3]
  · iexists _; isplitr
    rotate_left
    · iexact H3
    · ipureintro
      refine (read_writes_whole _ _ _).trans ?_
      refine hg5''.trans ?_
      refine congrArg (fun g => countChunk g (hist1Val (M2.view.read (Elt F) f2)) 256) ?_
      exact read_writes_whole _ _ _
  isplitl [H4]; · iexists _; iexact H4
  isplitl [H4']; · iexists _; iexact H4'
  isplitl [H5]; · iexists _; iexact H5
  isplitl [H6]; · iexact H6
  isplitl [H7]; · iexact H7
  isplitl [H8]; · iexact H8
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

end Tasks

end Cert.Proof.Run
-- ==== Proof.HistCall.lean ====
/-
  The three SparseCore calls: what each hands its tiles (a tile's chunk of the packed codes, its slot of the counters), the
  task as the launch theorem asks for it, and the tiles' slots joined into the call's result.
-/
module

public import proofs.«01_k».proof.Proof.HistTile

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2)

variable {F : FTy → Type} [FloatOps F]

local notation "𝕄" => MT nD τ sig (HIx 3) (Elt F) ℕ UU ℕ

/-! ## Blocks of a rank-one array -/

/-- Block `k`, of `w` elements. -/
def blk (n w k : Nat) : Finset (⟨1, ![n]⟩ : Shape).Idx := Finset.univ.filter fun y => k * w ≤ (y 0).val ∧ (y 0).val < k * w + w

theorem mem_blk {n w k : Nat} {y : (⟨1, ![n]⟩ : Shape).Idx} : y ∈ blk n w k ↔ k * w ≤ (y 0).val ∧ (y 0).val < k * w + w := by
  simp [blk]

theorem blk_disjoint {n w k k' : Nat} (h : k ≠ k') : Disjoint (blk n w k) (blk n w k') := by
  rw [Finset.disjoint_left]
  intro y hy hy'
  rw [mem_blk] at hy hy'
  rcases Nat.lt_or_gt_of_ne h with h | h
  · have := Nat.mul_le_mul_right w (Nat.succ_le_of_lt h); rw [Nat.succ_mul] at this; omega
  · have := Nat.mul_le_mul_right w (Nat.succ_le_of_lt h); rw [Nat.succ_mul] at this; omega

/-- A tile's number among the 32. -/
def wid (p : Fin 2 × Fin 16) : Nat := p.2.val * 2 + p.1.val

theorem wid_inj {p p' : Fin 2 × Fin 16} (h : wid p = wid p') : p = p' := by
  have := p.1.isLt; have := p'.1.isLt
  unfold wid at h
  exact Prod.ext (Fin.ext (by omega)) (Fin.ext (by omega))

theorem wid_lt (p : Fin 2 × Fin 16) : wid p < 32 := by
  have := p.1.isLt; have := p.2.isLt; unfold wid; omega

theorem blk_cover (w : Nat) (n : Nat) (h : n = 32 * w) : (Finset.univ : Finset (Fin 2 × Fin 16)).biUnion (fun p => blk n w (wid p)) = Finset.univ := by
  subst h
  ext y
  simp only [Finset.mem_biUnion, Finset.mem_univ, true_and, iff_true, mem_blk]
  have hy : (y 0).val < 32 * w := (y 0).isLt
  have hw : 0 < w := by by_contra h0; have : w = 0 := by omega
                        subst this; omega
  have hq : (y 0).val / w < 32 := Nat.div_lt_of_lt_mul (by omega)
  refine ⟨(⟨(y 0).val / w % 2, Nat.mod_lt _ (by decide)⟩, ⟨(y 0).val / w / 2, by omega⟩), ?_⟩
  have : wid (⟨(y 0).val / w % 2, Nat.mod_lt _ (by decide)⟩, ⟨(y 0).val / w / 2, by omega⟩) = (y 0).val / w := by
    unfold wid; show (y 0).val / w / 2 * 2 + (y 0).val / w % 2 = _; omega
  rw [this]
  have h1 := Nat.div_mul_le_self (y 0).val w
  have h2 := Nat.lt_div_mul_add (a := (y 0).val) hw
  exact ⟨h1, by omega⟩

theorem blk_split (n w k : Nat) : blk n (2 * w) k = blk n w (2 * k) ∪ blk n w (2 * k + 1) := by
  ext y
  have h1 : k * (2 * w) = 2 * k * w := by ring
  have h2 : (2 * k + 1) * w = 2 * k * w + w := by ring
  simp only [Finset.mem_union, mem_blk, h1, h2]
  omega

theorem rect_blk {n w k : Nat} {off : Fin 1 → Nat} (inb : ∀ a, off a + (![w] : Fin 1 → Nat) a ≤ (⟨1, ![n]⟩ : Shape).size a) (h : off 0 = k * w) :
    (Rect.unit (s := ⟨1, ![n]⟩) off ![w] inb).set = blk n w k := by
  ext y
  rw [Rect.mem_set_unit, mem_blk]
  constructor
  · intro hy; have := hy 0; rw [h] at this; exact this
  · intro hy a; match a with
    | 0 => rw [h]; exact hy

/-- Chunk `k` of the packed codes. -/
def chunkAt {n : Nat} (hn : 0 < n) (g : Vec F ⟨1, ![n]⟩ .i32) (k : Nat) : Vec F S32768 .i32 :=
  fun x => g (ix1 ⟨(k * 32768 + (x 0).val) % n, Nat.mod_lt _ hn⟩)

/-- The counters a tile of the first call leaves, from its two chunks. -/
def outTile0 (X : Vec F S2097152 .i32) (k : Nat) : Vec F S4096 .f32 :=
  hist2Val (chunkAt (by decide) X (2 * k)) (chunkAt (by decide) X (2 * k + 1))
/-- The counters a tile of the second or third call leaves, from its chunk. -/
def outTile1 (X : Vec F S1048576 .i32) (k : Nat) : Vec F S4096 .f32 := hist1Val (chunkAt (by decide) X k)

/-- The tiles' counters side by side. -/
def join (t : Nat → Vec F S4096 .f32) : Vec F S131072 .f32 :=
  fun y => t ((y 0).val / 4096) (ix1 ⟨(y 0).val % 4096, Nat.mod_lt _ (by decide)⟩)

/-! ## A tile's own memory -/

theorem bufs_two (d : Dev nD) (c : Fin τ.nSC) (s : Fin τ.nSub) {b0 b1 : Ref sig .scVector} (hne : b1 ≠ b0)
    (h0 : ((Proc.scVector c s).devRef b0).owner = .proc (.scVector c s)) (h1 : ((Proc.scVector c s).devRef b1).owner = .proc (.scVector c s)) :
    (scopedBufs (V d c s) : sProp 𝕄)
      = iprop((∃ f, (V d c s).loc b0 ↦{fullShare} f) ∗ (∃ f, (V d c s).loc b1 ↦{fullShare} f)
          ∗ bigSep (((ownRefs (τ := τ) (.scVector c s)).erase ((Proc.scVector c s).devRef b0)).erase ((Proc.scVector c s).devRef b1))
              fun b => iprop(∃ f, ((d, b) : Loc nD τ sig) ↦{fullShare} f)) := by
  rw [(K (F := F)).scopedBufs_V facts d c s]
  unfold SparseCore.Cfg.ownBufs
  refine (SparseCore.bigSep_erase' (SparseCore.Cfg.mem_ownRefs_of_owner (p := Proc.scVector c s) h0)).trans ?_
  rw [SparseCore.bigSep_erase' (Finset.mem_erase.mpr ⟨fun e => absurd (Proc.devRef_injective _ e) hne,
    SparseCore.Cfg.mem_ownRefs_of_owner (p := Proc.scVector c s) h1⟩)]

theorem sems_three (d : Dev nD) (c : Fin τ.nSC) (s : Fin τ.nSub) {a b e : SemLoc sig} (ha : a.isScoped .scVector = true)
    (hb : b.isScoped .scVector = true) (he : e.isScoped .scVector = true) (hab : b ≠ a) (hae : e ≠ a) (hbe : e ≠ b) :
    (scopedSems0 (V d c s) : sProp 𝕄)
      = iprop(semVal ((V d c s, a) : GSem nD τ sig) 0 ∗ semVal ((V d c s, b) : GSem nD τ sig) 0 ∗ semVal ((V d c s, e) : GSem nD τ sig) 0
          ∗ bigSep ((((ownCells (V d c s)).erase (V d c s, a)).erase (V d c s, b)).erase (V d c s, e)) fun g => semVal g 0) := by
  rw [SparseCore.Cfg.scopedSems0_V (Val := Elt F) d c s]
  unfold SparseCore.Cfg.ownSems0
  rw [SparseCore.bigSep_erase' ((mem_ownCells (g := (V d c s, a))).mpr ⟨rfl, ha⟩),
    SparseCore.bigSep_erase' (Finset.mem_erase.mpr ⟨fun h => hab (Prod.ext_iff.mp h).2, (mem_ownCells (g := (V d c s, b))).mpr ⟨rfl, hb⟩⟩),
    SparseCore.bigSep_erase' (Finset.mem_erase.mpr ⟨fun h => hbe (Prod.ext_iff.mp h).2, Finset.mem_erase.mpr ⟨fun h => hae (Prod.ext_iff.mp h).2,
      (mem_ownCells (g := (V d c s, e))).mpr ⟨rfl, he⟩⟩⟩)]

/-! ## The tile's task of each call -/

section Tile
variable {d : Dev nD} {c : Fin τ.nSC} {s : Fin τ.nSub}

theorem mem_rowOf {M4 : Memref sig .scVector .vmem S2x32768 .i32} {r : Fin 2} {y} :
    y ∈ (rowOf M4 r).view.set ↔ ∃ p : S32768.Idx, M4.view.emb (ix2 (n0 := 2) (n1 := 32768) r (p 0)) = y := by
  constructor
  · intro h
    obtain ⟨p, -, hp⟩ := Finset.mem_map.mp h
    exact ⟨p, (rowOf_emb M4 r p).symm.trans hp⟩
  · rintro ⟨p, rfl⟩
    exact Finset.mem_map.mpr ⟨p, Finset.mem_univ _, rowOf_emb M4 r p⟩

theorem rows_disjoint (M4 : Memref sig .scVector .vmem S2x32768 .i32) : Disjoint (rowOf M4 0).view.set (rowOf M4 1).view.set := by
  rw [Finset.disjoint_left]
  intro y h0 h1
  obtain ⟨p, hp⟩ := mem_rowOf.mp h0
  obtain ⟨p', hp'⟩ := mem_rowOf.mp h1
  have h := M4.view.emb.injective (hp.trans hp'.symm)
  have := congrFun h 0
  exact absurd (congrArg Fin.val this) (show (0 : Nat) ≠ 1 by decide)

theorem rows_cover (M4 : Memref sig .scVector .vmem S2x32768 .i32) : (rowOf M4 0).view.set ∪ (rowOf M4 1).view.set = M4.view.set := by
  ext y
  rw [Finset.mem_union, mem_rowOf, mem_rowOf]
  constructor
  · rintro (⟨p, rfl⟩ | ⟨p, rfl⟩)
    · exact Finset.mem_map.mpr ⟨_, Finset.mem_univ _, rfl⟩
    · exact Finset.mem_map.mpr ⟨_, Finset.mem_univ _, rfl⟩
  · intro h
    obtain ⟨q, -, rfl⟩ := Finset.mem_map.mp h
    have hq := ValueIdx.eq_ix2 (n0 := 2) (n1 := 32768) q
    have h2 : q 0 = (0 : Fin 2) ∨ q 0 = (1 : Fin 2) := by
      have : (q 0).val < 2 := (q 0).isLt
      rcases Nat.lt_or_ge (q 0).val 1 with h | h
      · exact .inl (Fin.ext (by show (q 0).val = 0; omega))
      · exact .inr (Fin.ext (by show (q 0).val = 1; omega))
    rcases h2 with h2 | h2
    · exact .inl ⟨ix1 (n := 32768) (q 1), by rw [hq, h2]; rfl⟩
    · exact .inr ⟨ix1 (n := 32768) (q 1), by rw [hq, h2]; rfl⟩

/-- The two rows of the staging buffer, and the whole of it. -/
theorem rows_split {M4 : Memref sig .scVector .vmem S2x32768 .i32} (f : Buf (Elt F) (M4.view.loc (V d c s))) :
    (M4.view.loc (V d c s) ↦[M4.view.set]{fullShare} f : sProp 𝕄)
      ⊣⊢ iprop(((rowOf M4 0).view.loc (V d c s) ↦[(rowOf M4 0).view.set]{fullShare} f)
        ∗ ((rowOf M4 1).view.loc (V d c s) ↦[(rowOf M4 1).view.set]{fullShare} f)) := by
  rw [← rows_cover M4]
  exact pointsTo_union (rows_disjoint M4)

theorem rows_join {M4 : Memref sig .scVector .vmem S2x32768 .i32} :
    (iprop((∃ f, (rowOf M4 0).view.loc (V d c s) ↦[(rowOf M4 0).view.set]{fullShare} f)
        ∗ (∃ f, (rowOf M4 1).view.loc (V d c s) ↦[(rowOf M4 1).view.set]{fullShare} f)) : sProp 𝕄)
      ⊢ iprop(∃ f : Buf (Elt F) (M4.view.loc (V d c s)), M4.view.loc (V d c s) ↦[M4.view.set]{fullShare} f) := by
  rw [← rows_cover M4]
  iintro ⟨⟨%f, H0⟩, ⟨%g, H1⟩⟩
  iexists ((rowOf M4 1).view.set.piecewise g f)
  iapply (pointsTo_join (rows_disjoint M4))
  isplitl [H0]; · iexact H0
  iexact H1

theorem tile1 {M2 : Memref sig .scVector .hbm S32768 .i32} {M3 : Memref sig .scVector .hbm S4096 .f32}
    {M4 : Memref sig .scVector .vmem S2x32768 .i32} {M5 : Memref sig .scVector .vmem S4096 .f32} {h5 : M5.IsWhole}
    {a6 r0 : DmaSems sig S_} {RB RS : sProp 𝕄} (f2 : Buf (Elt F) (M2.view.loc (V d c s)))
    (hB : (scopedBufs (V d c s) : sProp 𝕄) = iprop((∃ f, M4.view.loc (V d c s) ↦[M4.view.set]{fullShare} f)
      ∗ (∃ f, M5.view.loc (V d c s) ↦[M5.view.set]{fullShare} f) ∗ RB))
    (hS : (scopedSems0 (V d c s) : sProp 𝕄) = iprop(semVal ((V d c s, SemLoc.dma a6.sem) : GSem nD τ sig) 0
      ∗ semVal ((V d c s, SemLoc.dma r0.sem) : GSem nD τ sig) 0 ∗ RS))
    {O : CellTallies nD τ sig (HIx 3)} {W : Waits sig (HIx 3)} (hO : ∀ g, O g none = 0) :
    iprop(levAts (K (F := F)).L (K (F := F)).lev
        ∗ ((M2.view.loc (V d c s) ↦[M2.view.set]{fullShare} f2) ∗ ∃ f3, M3.view.loc (V d c s) ↦[M3.view.set]{fullShare} f3)
        ∗ scopedBufs (V d c s) ∗ scopedSems0 (V d c s) ∗ owes (V d c s) O W : sProp 𝕄)
      ⊢ wp frame (wpE (defs₀ (F := F)) 𝒱₀ (V d c s) none) Set.univ (hist1 M2 M3 M4 M5 h5 a6 r0 (rowBody M4 M5 0))
          fun _ => iprop(((M2.view.loc (V d c s) ↦[M2.view.set]{fullShare} f2) ∗ owns (V d c s) M3 fullShare (hist1Val (M2.view.read (Elt F) f2)))
            ∗ scopedBufs (V d c s) ∗ scopedSems0 (V d c s)
            ∗ ∃ W', ⌜∀ p ∈ W', p ∈ W ∨ p.2 = none⌝ ∗ owes (V d c s) O W') := by
  rw [hB, hS]
  iintro ⟨#Hlv, ⟨H2, %f3, H3⟩, ⟨⟨%f4, H4⟩, ⟨%f5, H5⟩, HB⟩, ⟨Ha, Hr, HS⟩, HO⟩
  ihave Hmw := ((K (F := F)).mayWaits_none (thr := V d c s) hO) $$ Hlv
  ihave H4 := (rows_split f4).1 $$ H4
  icases H4 with ⟨H40, H41⟩
  ihave H := (wp_hist1 (h5 := h5) (f2 := f2) (f3 := f3) (f4 := f4) (f5 := f5) (O := O) (W := W)) $$ [H2 H3 H40 H5 Ha Hr HO Hmw]
  · isplitl [Hmw]; · iexact Hmw
    isplitl [H2]; · iexact H2
    isplitl [H3]; · iexact H3
    isplitl [H40]; · iexact H40
    isplitl [H5]; · iexact H5
    isplitl [Ha]; · iexact Ha
    isplitl [Hr]; · iexact Hr
    iexact HO
  iapply wp_wand $$ H
  iintro %_ ⟨H2, H3, H40, H5, Ha, Hr, HO⟩
  isplitl [H2 H3]
  · isplitl [H2]; · iexact H2
    iexact H3
  isplitl [H40 H41 H5 HB]
  · isplitl [H40 H41]
    · iapply rows_join
      isplitl [H40]; · iexact H40
      iexists f4; iexact H41
    isplitl [H5]; · iexact H5
    iexact HB
  isplitl [Ha Hr HS]
  · isplitl [Ha]; · iexact Ha
    isplitl [Hr]; · iexact Hr
    iexact HS
  iexact HO

theorem tile2 {M2 M2' : Memref sig .scVector .hbm S32768 .i32} {M3 : Memref sig .scVector .hbm S4096 .f32}
    {M4 : Memref sig .scVector .vmem S2x32768 .i32} {M5 : Memref sig .scVector .vmem S4096 .f32} {h5 : M5.IsWhole}
    {a6 a7 r0 : DmaSems sig S_} {RB RS : sProp 𝕄} (f2 : Buf (Elt F) (M2.view.loc (V d c s))) (f2' : Buf (Elt F) (M2'.view.loc (V d c s)))
    (hB : (scopedBufs (V d c s) : sProp 𝕄) = iprop((∃ f, M4.view.loc (V d c s) ↦[M4.view.set]{fullShare} f)
      ∗ (∃ f, M5.view.loc (V d c s) ↦[M5.view.set]{fullShare} f) ∗ RB))
    (hS : (scopedSems0 (V d c s) : sProp 𝕄) = iprop(semVal ((V d c s, SemLoc.dma a6.sem) : GSem nD τ sig) 0
      ∗ semVal ((V d c s, SemLoc.dma a7.sem) : GSem nD τ sig) 0 ∗ semVal ((V d c s, SemLoc.dma r0.sem) : GSem nD τ sig) 0 ∗ RS))
    {O : CellTallies nD τ sig (HIx 3)} {W : Waits sig (HIx 3)} (hO : ∀ g, O g none = 0) :
    iprop(levAts (K (F := F)).L (K (F := F)).lev
        ∗ (((M2.view.loc (V d c s) ↦[M2.view.set]{fullShare} f2) ∗ M2'.view.loc (V d c s) ↦[M2'.view.set]{fullShare} f2')
          ∗ ∃ f3, M3.view.loc (V d c s) ↦[M3.view.set]{fullShare} f3)
        ∗ scopedBufs (V d c s) ∗ scopedSems0 (V d c s) ∗ owes (V d c s) O W : sProp 𝕄)
      ⊢ wp frame (wpE (defs₀ (F := F)) 𝒱₀ (V d c s) none) Set.univ (hist2 M2 M2' M3 M4 M5 h5 a6 a7 r0 (rowBody M4 M5 0) (rowBody M4 M5 1))
          fun _ => iprop((((M2.view.loc (V d c s) ↦[M2.view.set]{fullShare} f2) ∗ M2'.view.loc (V d c s) ↦[M2'.view.set]{fullShare} f2')
              ∗ owns (V d c s) M3 fullShare (hist2Val (M2.view.read (Elt F) f2) (M2'.view.read (Elt F) f2')))
            ∗ scopedBufs (V d c s) ∗ scopedSems0 (V d c s)
            ∗ ∃ W', ⌜∀ p ∈ W', p ∈ W ∨ p.2 = none⌝ ∗ owes (V d c s) O W') := by
  rw [hB, hS]
  iintro ⟨#Hlv, ⟨⟨H2, H2'⟩, %f3, H3⟩, ⟨⟨%f4, H4⟩, ⟨%f5, H5⟩, HB⟩, ⟨Ha, Ha', Hr, HS⟩, HO⟩
  ihave Hmw := ((K (F := F)).mayWaits_none (thr := V d c s) hO) $$ Hlv
  ihave H4 := (rows_split f4).1 $$ H4
  icases H4 with ⟨H40, H41⟩
  ihave H := (wp_hist2 (h5 := h5) (f2 := f2) (f2' := f2') (f3 := f3) (f4 := f4) (f4' := f4) (f5 := f5) (O := O) (W := W)) $$ [H2 H2' H3 H40 H41 H5 Ha Ha' Hr HO Hmw]
  · isplitl [Hmw]; · iexact Hmw
    isplitl [H2]; · iexact H2
    isplitl [H2']; · iexact H2'
    isplitl [H3]; · iexact H3
    isplitl [H40]; · iexact H40
    isplitl [H41]; · iexact H41
    isplitl [H5]; · iexact H5
    isplitl [Ha]; · iexact Ha
    isplitl [Ha']; · iexact Ha'
    isplitl [Hr]; · iexact Hr
    iexact HO
  iapply wp_wand $$ H
  iintro %_ ⟨H2, H2', H3, H40, H41, H5, Ha, Ha', Hr, HO⟩
  isplitl [H2 H2' H3]
  · isplitl [H2 H2']
    · isplitl [H2]; · iexact H2
      iexact H2'
    iexact H3
  isplitl [H40 H41 H5 HB]
  · isplitl [H40 H41]
    · iapply rows_join
      isplitl [H40]; · iexact H40
      iexact H41
    isplitl [H5]; · iexact H5
    iexact HB
  isplitl [Ha Ha' Hr HS]
  · isplitl [Ha]; · iexact Ha
    isplitl [Ha']; · iexact Ha'
    isplitl [Hr]; · iexact Hr
    iexact HS
  iexact HO

end Tile

/-! ## A tile's slice of an array -/

section Slice
variable {n w k : Nat} {e : EltTy} (m : Memref sig .scVector .hbm ⟨1, ![n]⟩ e) {off : Fin 1 → Nat}
  (inb : ∀ a, off a + (![w] : Fin 1 → Nat) a ≤ (⟨1, ![n]⟩ : Shape).size a)

/-- The slice of `w` elements at `off`. -/
abbrev sliceOf : Memref sig .scVector .hbm ⟨1, ![w]⟩ e := m.slice (Rect.unit (s := ⟨1, ![n]⟩) off ![w] inb) (fun _ => rfl)

theorem slice_set (h : off 0 = k * w) : (sliceOf m inb).view.set = (blk n w k).map m.view.emb := by
  rw [← rect_blk inb h]
  exact View.set_slice ..

theorem slice_emb (h : off 0 = k * w) (x : (⟨1, ![w]⟩ : Shape).Idx) :
    ∃ hlt, (sliceOf m inb).view.emb x = m.view.emb (ix1 (n := n) ⟨k * w + (x 0).val, hlt⟩) := by
  have h1 := inb 0
  rw [h] at h1
  have h2 : (x 0).val < w := (x 0).isLt
  have h3 : k * w + w ≤ n := h1
  refine ⟨by omega, ?_⟩
  show m.view.emb ((Rect.unit (s := ⟨1, ![n]⟩) off ![w] inb).emb x) = _
  congr 1
  funext a
  apply Fin.ext
  match a with
  | 0 =>
    rw [Rect.emb_apply]
    show off 0 + 1 * (x 0).val = k * w + (x 0).val
    omega

/-- What a chunk's slice reads. -/
theorem slice_read {thr : Thread nD τ} {Val : EltTy → Type} (h : off 0 = k * w) (f : m.view.ty.Contents Val) (x : (⟨1, ![w]⟩ : Shape).Idx) (hlt) :
    (sliceOf m inb).view.read Val f x = m.view.read Val f (ix1 (n := n) ⟨k * w + (x 0).val, hlt⟩) := by
  obtain ⟨_, h'⟩ := slice_emb m inb h x
  rw [View.read_apply, View.read_apply]
  exact congrArg (fun y => cast (congrArg Val m.view.elt_eq) (f y)) h'

theorem slice_chunk (hn : 0 < n) (m : Memref sig .scVector .hbm ⟨1, ![n]⟩ .i32) {off : Fin 1 → Nat}
    (inb : ∀ a, off a + (![32768] : Fin 1 → Nat) a ≤ (⟨1, ![n]⟩ : Shape).size a) (h : off 0 = k * 32768) (f : m.view.ty.Contents (Elt F)) :
    (sliceOf m inb).view.read (Elt F) f = chunkAt hn (m.view.read (Elt F) f) k := by
  funext x
  obtain ⟨hlt, -⟩ := slice_emb m inb h x
  rw [slice_read (thr := V 0 0 0) m inb h f x hlt]
  unfold chunkAt
  congr 2
  exact Fin.ext (Nat.mod_eq_of_lt hlt).symm

/-- A written slot, at any contents that agree with it there. -/
theorem owns_slice {d : Dev nD} {c : Fin τ.nSC} {s : Fin τ.nSub} (h : off 0 = k * w) {t : (⟨1, ![w]⟩ : Shape).Idx → Elt F e}
    (g : Buf (Elt F) (m.view.loc (V d c s))) (hg : ∀ x hlt, m.view.read (Elt F) g (ix1 (n := n) ⟨k * w + (x 0).val, hlt⟩) = t x) :
    (owns (V d c s) (sliceOf m inb) fullShare t : sProp 𝕄) ⊢ (m.view.loc (V d c s) ↦[(blk n w k).map m.view.emb]{fullShare} g) := by
  unfold owns
  iintro ⟨%f, %hf, H⟩
  rw [← slice_set m inb h, pointsTo_congr (f := g) (g := f)]
  · iexact H
  · intro y hy
    obtain ⟨x, -, rfl⟩ := Finset.mem_map.mp hy
    obtain ⟨hlt, hx⟩ := slice_emb m inb h x
    have h1 := congrFun hf x
    rw [← hg x hlt, ← slice_read (thr := V d c s) m inb h g x hlt, View.read_apply, View.read_apply] at h1
    exact ((cast_bijective _).1 h1).symm

end Slice

/-! ## What the calls hand over -/

abbrev in0 (d : Dev nD) : Loc nD τ sig := (SparseCore.T d).loc main_v5
abbrev in1 (d : Dev nD) : Loc nD τ sig := (SparseCore.T d).loc main_v10
abbrev in2 (d : Dev nD) : Loc nD τ sig := (SparseCore.T d).loc main_v16
abbrev out0 (d : Dev nD) : Loc nD τ sig := (SparseCore.T d).loc main_v6
abbrev out1 (d : Dev nD) : Loc nD τ sig := (SparseCore.T d).loc main_v11
abbrev out2 (d : Dev nD) : Loc nD τ sig := (SparseCore.T d).loc main_v17

/-- A tile's number, from its SparseCore and its place there. -/
def tileNo {q : Fin 3} (c : Fin ((K (F := F)).nCore q)) (i : Fin ((K (F := F)).nSub q)) : Nat := i.val * 2 + c.val

/-- The three calls' packed codes. -/
structure Codes (F : FTy → Type) where
  c0 : Dev nD → Vec F S2097152 .i32
  c1 : Dev nD → Vec F S1048576 .i32
  c2 : Dev nD → Vec F S1048576 .i32

variable (X : Codes F)

/-- What tile `k` of a call is handed. -/
def goOf (q : Fin 3) (d : Dev nD) (k : Nat) : sProp 𝕄 := match q with
  | 0 => iprop((in0 d ↦[blk 2097152 65536 k]{fullShare} X.c0 d) ∗ ∃ f, out0 d ↦[blk 131072 4096 k]{fullShare} f)
  | 1 => iprop((in1 d ↦[blk 1048576 32768 k]{fullShare} X.c1 d) ∗ ∃ f, out1 d ↦[blk 131072 4096 k]{fullShare} f)
  | 2 => iprop((in2 d ↦[blk 1048576 32768 k]{fullShare} X.c2 d) ∗ ∃ f, out2 d ↦[blk 131072 4096 k]{fullShare} f)

/-- What it hands back. -/
def tdOf (q : Fin 3) (d : Dev nD) (k : Nat) : sProp 𝕄 := match q with
  | 0 => iprop((in0 d ↦[blk 2097152 65536 k]{fullShare} X.c0 d) ∗ out0 d ↦[blk 131072 4096 k]{fullShare} join (outTile0 (X.c0 d)))
  | 1 => iprop((in1 d ↦[blk 1048576 32768 k]{fullShare} X.c1 d) ∗ out1 d ↦[blk 131072 4096 k]{fullShare} join (outTile1 (X.c1 d)))
  | 2 => iprop((in2 d ↦[blk 1048576 32768 k]{fullShare} X.c2 d) ∗ out2 d ↦[blk 131072 4096 k]{fullShare} join (outTile1 (X.c2 d)))

instance goOf_storable (q : Fin 3) (d : Dev nD) (k : Nat) : BI.Storable (upEmb : UEmb _ 𝕄) (goOf X q d k) :=
  match q with
  | 0 => by unfold goOf; infer_instance
  | 1 => by unfold goOf; infer_instance
  | 2 => by unfold goOf; infer_instance
instance tdOf_storable (q : Fin 3) (d : Dev nD) (k : Nat) : BI.Storable (upEmb : UEmb _ 𝕄) (tdOf X q d k) :=
  match q with
  | 0 => by unfold tdOf; infer_instance
  | 1 => by unfold tdOf; infer_instance
  | 2 => by unfold tdOf; infer_instance

/-- What the calls hand over: a SparseCore gets and gives back exactly what its tiles do. -/
def P : (K (F := F)).Pay (nD := nD) (Val := Elt F) (Name := ℕ) (U := UU) where
  st := fun q d c => bigSep Finset.univ fun i => goOf X q d (tileNo c i)
  dn := fun q d c => bigSep Finset.univ fun i => tdOf X q d (tileNo c i)
  go := fun q d c i => goOf X q d (tileNo c i)
  td := fun q d c i => tdOf X q d (tileNo c i)
  x := fun _ _ => iprop(emp)

instance P_storable : (P X).IsStorable where
  st q d c := (inferInstance : BI.Storable (upEmb : UEmb _ 𝕄) (bigSep Finset.univ fun i => goOf X q d (tileNo c i)))
  dn q d c := (inferInstance : BI.Storable (upEmb : UEmb _ 𝕄) (bigSep Finset.univ fun i => tdOf X q d (tileNo c i)))
  go q d c i := (inferInstance : BI.Storable (upEmb : UEmb _ 𝕄) (goOf X q d (tileNo c i)))
  td q d c i := (inferInstance : BI.Storable (upEmb : UEmb _ 𝕄) (tdOf X q d (tileNo c i)))

theorem vecSplit (q : Fin 3) : (K (F := F)).VecSplit' (P X) q := by
  intro d c
  show (bigSep Finset.univ fun i => goOf X q d (tileNo c i) : sProp 𝕄)
    ⊢ |={Set.univ}=> iprop((bigSep Finset.univ fun i => goOf X q d (tileNo c i))
      ∗ ((bigSep Finset.univ fun i => tdOf X q d (tileNo c i)) -∗ bigSep Finset.univ fun i => tdOf X q d (tileNo c i)))
  iintro H; imodintro
  isplitl [H]; · iexact H
  iintro H; iexact H

/-! ## The tasks as the launch theorem asks for them -/

theorem out_read {t : Nat → Vec F S4096 .f32} {k : Nat} (x : S4096.Idx) (hlt : k * 4096 + (x 0).val < 131072) :
    join t (ix1 (n := 131072) ⟨k * 4096 + (x 0).val, hlt⟩) = t k x := by
  have hx : (x 0).val < 4096 := (x 0).isLt
  show t ((k * 4096 + (x 0).val) / 4096) (ix1 ⟨(k * 4096 + (x 0).val) % 4096, _⟩) = _
  have h1 : (k * 4096 + (x 0).val) / 4096 = k := by omega
  have h2 : (ix1 (n := 4096) ⟨(k * 4096 + (x 0).val) % 4096, Nat.mod_lt _ (by decide)⟩ : S4096.Idx) = x := by
    refine Eq.trans ?_ (ValueIdx.eq_ix1 (n := 4096) x).symm
    exact congrArg _ (Fin.ext (by show (k * 4096 + (x 0).val) % 4096 = (x 0).val; omega))
  rw [h1, h2]

/-- The tile a grid point is. -/
abbrev no (L : grid2.Coords) : Nat := (L 1).val * 2 + (L 0).val

theorem at_off2 : ∀ L : grid2.Coords, k2_off2 L 0 = 2 * no L * 32768 := by decide +kernel
theorem at_off3 : ∀ L : grid2.Coords, k2_off3 L 0 = (2 * no L + 1) * 32768 := by decide +kernel
theorem at_off20 : ∀ L : grid2.Coords, k2_off20 L 0 = no L * 4096 := by decide +kernel
theorem at_off4_2 : ∀ L : grid4.Coords, k4_off2 L 0 = no L * 32768 := by decide +kernel
theorem at_off4_11 : ∀ L : grid4.Coords, k4_off11 L 0 = no L * 4096 := by decide +kernel
theorem at_off6_2 : ∀ L : grid6.Coords, k6_off2 L 0 = no L * 32768 := by decide +kernel
theorem at_off6_11 : ∀ L : grid6.Coords, k6_off11 L 0 = no L * 4096 := by decide +kernel

section Tasks
variable (d : Dev nD) {O : CellTallies nD τ sig (HIx 3)} {W : Waits sig (HIx 3)}

theorem whole_map (b : Ref sig .scVector) (A) : Finset.map (Memref.whole b).view.emb A = A := Finset.map_refl

theorem in_halves (k : Nat) (f : Buf (Elt F) (in0 d)) :
    (in0 d ↦[blk 2097152 65536 k]{fullShare} f : sProp 𝕄)
      ⊣⊢ iprop((in0 d ↦[blk 2097152 32768 (2 * k)]{fullShare} f) ∗ in0 d ↦[blk 2097152 32768 (2 * k + 1)]{fullShare} f) := by
  rw [show blk 2097152 65536 k = _ from blk_split 2097152 32768 k]
  exact pointsTo_union (ℓ := in0 d) (blk_disjoint (by omega))

theorem tile_call0 (L : grid2.Coords) (hO : ∀ g, O g none = 0) :
    iprop(levAts (K (F := F)).L (K (F := F)).lev ∗ goOf X 0 d (no L)
        ∗ scopedBufs (V d (Fin.castLE hcore2 (L 0)) (Fin.castLE hsub2 (L 1))) ∗ scopedSems0 (V d (Fin.castLE hcore2 (L 0)) (Fin.castLE hsub2 (L 1))) ∗ owes (V d (Fin.castLE hcore2 (L 0)) (Fin.castLE hsub2 (L 1))) O W : sProp 𝕄)
      ⊢ wp frame (wpE (defs₀ (F := F)) 𝒱₀ (V d (Fin.castLE hcore2 (L 0)) (Fin.castLE hsub2 (L 1))) none) Set.univ
          (cc2_sc_hist L (Memref.whole main_v5_scv) (Memref.isWhole_whole _) (Memref.whole main_v6_scv) (Memref.isWhole_whole _)
            (Memref.whole cc2_scratch0) (Memref.isWhole_whole _) (Memref.whole cc2_scratch1) (Memref.isWhole_whole _)
            cc2_scratch2 cc2_scratch3 cc2_scoped0)
          fun _ => iprop(tdOf X 0 d (no L) ∗ scopedBufs (V d (Fin.castLE hcore2 (L 0)) (Fin.castLE hsub2 (L 1))) ∗ scopedSems0 (V d (Fin.castLE hcore2 (L 0)) (Fin.castLE hsub2 (L 1)))
            ∗ ∃ W', ⌜∀ p ∈ W', p ∈ W ∨ p.2 = none⌝ ∗ owes (V d (Fin.castLE hcore2 (L 0)) (Fin.castLE hsub2 (L 1))) O W') := by
  rw [cc2_eq]
  have hB := bufs_two (F := F) d (Fin.castLE hcore2 (L 0)) (Fin.castLE hsub2 (L 1)) (b0 := cc2_scratch0) (b1 := cc2_scratch1) (by decide) rfl rfl
  have hS := sems_three (F := F) d (Fin.castLE hcore2 (L 0)) (Fin.castLE hsub2 (L 1)) (a := SemLoc.dma cc2_scratch2.sem) (b := SemLoc.dma cc2_scratch3.sem) (e := SemLoc.dma cc2_scoped0.sem)
    (by decide) (by decide) (by decide) (by decide) (by decide) (by decide)
  have ht := tile2 (F := F) (d := d) (c := Fin.castLE hcore2 (L 0)) (s := Fin.castLE hsub2 (L 1))
    (M2 := sliceOf (Memref.whole main_v5_scv) (k2_off2_inb L)) (M2' := sliceOf (Memref.whole main_v5_scv) (k2_off3_inb L))
    (M3 := sliceOf (Memref.whole main_v6_scv) (k2_off20_inb L)) (M4 := Memref.whole cc2_scratch0) (M5 := Memref.whole cc2_scratch1)
    (h5 := Memref.isWhole_whole _) (X.c0 d) (X.c0 d)
    (by simp only [Memref.view_whole, View.set_whole]; exact hB) hS (W := W) hO
  rw [slice_set _ _ (at_off2 L), slice_set _ _ (at_off3 L), slice_set _ _ (at_off20 L),
    slice_chunk (by decide) _ _ (at_off2 L), slice_chunk (by decide) _ _ (at_off3 L)] at ht
  have ho := owns_slice (F := F) (d := d) (c := Fin.castLE hcore2 (L 0)) (s := Fin.castLE hsub2 (L 1)) (Memref.whole main_v6_scv) (k2_off20_inb L)
    (at_off20 L) (join (outTile0 (X.c0 d))) (t := outTile0 (X.c0 d) (no L)) (fun x hlt => (congrFun (View.read_whole _ _) _).trans (out_read x hlt))
  rw [whole_map] at ht ho
  rw [whole_map] at ht
  rw [whole_map] at ht
  refine BI.Entails.trans ?_ (ht.trans (wp_mono frame _ _ fun _ => ?_))
  · rw [show goOf X 0 d (no L) = iprop((in0 d ↦[blk 2097152 65536 (no L)]{fullShare} X.c0 d) ∗ ∃ f, out0 d ↦[blk 131072 4096 (no L)]{fullShare} f) from rfl]
    show (_ : sProp 𝕄) ⊢ _
    iintro ⟨Hl, ⟨Hi, Ho⟩, HB, HS, HO⟩
    ihave Hi := (in_halves d (no L) (X.c0 d)).1 $$ Hi
    isplitl [Hl]; · iexact Hl
    isplitl [Hi Ho]
    · isplitl [Hi]; · iexact Hi
      iexact Ho
    isplitl [HB]; · iexact HB
    isplitl [HS]; · iexact HS
    iexact HO
  · rw [show tdOf X 0 d (no L) = iprop((in0 d ↦[blk 2097152 65536 (no L)]{fullShare} X.c0 d) ∗ out0 d ↦[blk 131072 4096 (no L)]{fullShare} join (outTile0 (X.c0 d))) from rfl]
    iintro ⟨⟨Hi, Ho⟩, HB, HS, HO⟩
    isplitl [Hi Ho]
    · isplitl [Hi]
      · iapply (in_halves d (no L) (X.c0 d)).2; iexact Hi
      iapply ho; iexact Ho
    isplitl [HB]; · iexact HB
    isplitl [HS]; · iexact HS
    iexact HO

theorem tile_call1 (L : grid4.Coords) (hO : ∀ g, O g none = 0) :
    iprop(levAts (K (F := F)).L (K (F := F)).lev ∗ goOf X 1 d (no L)
        ∗ scopedBufs (V d (Fin.castLE hcore4 (L 0)) (Fin.castLE hsub4 (L 1))) ∗ scopedSems0 (V d (Fin.castLE hcore4 (L 0)) (Fin.castLE hsub4 (L 1)))
        ∗ owes (V d (Fin.castLE hcore4 (L 0)) (Fin.castLE hsub4 (L 1))) O W : sProp 𝕄)
      ⊢ wp frame (wpE (defs₀ (F := F)) 𝒱₀ (V d (Fin.castLE hcore4 (L 0)) (Fin.castLE hsub4 (L 1))) none) Set.univ
          (cc4_sc_hist L (Memref.whole main_v10_scv) (Memref.isWhole_whole _) (Memref.whole main_v11_scv) (Memref.isWhole_whole _)
            (Memref.whole cc4_scratch0) (Memref.isWhole_whole _) (Memref.whole cc4_scratch1) (Memref.isWhole_whole _)
            cc4_scratch2 cc4_scratch3 cc4_scoped0)
          fun _ => iprop(tdOf X 1 d (no L) ∗ scopedBufs (V d (Fin.castLE hcore4 (L 0)) (Fin.castLE hsub4 (L 1)))
            ∗ scopedSems0 (V d (Fin.castLE hcore4 (L 0)) (Fin.castLE hsub4 (L 1)))
            ∗ ∃ W', ⌜∀ p ∈ W', p ∈ W ∨ p.2 = none⌝ ∗ owes (V d (Fin.castLE hcore4 (L 0)) (Fin.castLE hsub4 (L 1))) O W') := by
  rw [cc4_eq]
  have hB := bufs_two (F := F) d (Fin.castLE hcore4 (L 0)) (Fin.castLE hsub4 (L 1)) (b0 := cc4_scratch0) (b1 := cc4_scratch1) (by decide) rfl rfl
  have hS := sems_three (F := F) d (Fin.castLE hcore4 (L 0)) (Fin.castLE hsub4 (L 1)) (a := SemLoc.dma cc4_scratch2.sem)
    (b := SemLoc.dma cc4_scoped0.sem) (e := SemLoc.dma cc4_scratch3.sem)
    (by decide) (by decide) (by decide) (by decide) (by decide) (by decide)
  have ht := tile1 (F := F) (d := d) (c := Fin.castLE hcore4 (L 0)) (s := Fin.castLE hsub4 (L 1))
    (M2 := sliceOf (Memref.whole main_v10_scv) (k4_off2_inb L))
    (M3 := sliceOf (Memref.whole main_v11_scv) (k4_off11_inb L)) (M4 := Memref.whole cc4_scratch0) (M5 := Memref.whole cc4_scratch1)
    (h5 := Memref.isWhole_whole _) (X.c1 d)
    (by simp only [Memref.view_whole, View.set_whole]; exact hB) hS (W := W) hO
  rw [slice_set _ _ (at_off4_2 L), slice_set _ _ (at_off4_11 L), slice_chunk (by decide) _ _ (at_off4_2 L)] at ht
  have ho := owns_slice (F := F) (d := d) (c := Fin.castLE hcore4 (L 0)) (s := Fin.castLE hsub4 (L 1)) (Memref.whole main_v11_scv) (k4_off11_inb L)
    (at_off4_11 L) (join (outTile1 (X.c1 d))) (t := outTile1 (X.c1 d) (no L)) (fun x hlt => (congrFun (View.read_whole _ _) _).trans (out_read x hlt))
  rw [whole_map] at ht ho
  rw [whole_map] at ht
  refine BI.Entails.trans ?_ (ht.trans (wp_mono frame _ _ fun _ => ?_))
  · show (_ : sProp 𝕄) ⊢ _
    iintro H; iexact H
  · rw [show tdOf X 1 d (no L) = iprop((in1 d ↦[blk 1048576 32768 (no L)]{fullShare} X.c1 d) ∗ out1 d ↦[blk 131072 4096 (no L)]{fullShare} join (outTile1 (X.c1 d))) from rfl]
    iintro ⟨⟨Hi, Ho⟩, HB, HS, HO⟩
    isplitl [Hi Ho]
    · isplitl [Hi]; · iexact Hi
      iapply ho; iexact Ho
    isplitl [HB]; · iexact HB
    isplitl [HS]; · iexact HS
    iexact HO

theorem tile_call2 (L : grid6.Coords) (hO : ∀ g, O g none = 0) :
    iprop(levAts (K (F := F)).L (K (F := F)).lev ∗ goOf X 2 d (no L)
        ∗ scopedBufs (V d (Fin.castLE hcore6 (L 0)) (Fin.castLE hsub6 (L 1))) ∗ scopedSems0 (V d (Fin.castLE hcore6 (L 0)) (Fin.castLE hsub6 (L 1)))
        ∗ owes (V d (Fin.castLE hcore6 (L 0)) (Fin.castLE hsub6 (L 1))) O W : sProp 𝕄)
      ⊢ wp frame (wpE (defs₀ (F := F)) 𝒱₀ (V d (Fin.castLE hcore6 (L 0)) (Fin.castLE hsub6 (L 1))) none) Set.univ
          (cc6_sc_hist L (Memref.whole main_v16_scv) (Memref.isWhole_whole _) (Memref.whole main_v17_scv) (Memref.isWhole_whole _)
            (Memref.whole cc6_scratch0) (Memref.isWhole_whole _) (Memref.whole cc6_scratch1) (Memref.isWhole_whole _)
            cc6_scratch2 cc6_scratch3 cc6_scoped0)
          fun _ => iprop(tdOf X 2 d (no L) ∗ scopedBufs (V d (Fin.castLE hcore6 (L 0)) (Fin.castLE hsub6 (L 1)))
            ∗ scopedSems0 (V d (Fin.castLE hcore6 (L 0)) (Fin.castLE hsub6 (L 1)))
            ∗ ∃ W', ⌜∀ p ∈ W', p ∈ W ∨ p.2 = none⌝ ∗ owes (V d (Fin.castLE hcore6 (L 0)) (Fin.castLE hsub6 (L 1))) O W') := by
  rw [cc6_eq]
  have hB := bufs_two (F := F) d (Fin.castLE hcore6 (L 0)) (Fin.castLE hsub6 (L 1)) (b0 := cc6_scratch0) (b1 := cc6_scratch1) (by decide) rfl rfl
  have hS := sems_three (F := F) d (Fin.castLE hcore6 (L 0)) (Fin.castLE hsub6 (L 1)) (a := SemLoc.dma cc6_scratch2.sem)
    (b := SemLoc.dma cc6_scoped0.sem) (e := SemLoc.dma cc6_scratch3.sem)
    (by decide) (by decide) (by decide) (by decide) (by decide) (by decide)
  have ht := tile1 (F := F) (d := d) (c := Fin.castLE hcore6 (L 0)) (s := Fin.castLE hsub6 (L 1))
    (M2 := sliceOf (Memref.whole main_v16_scv) (k6_off2_inb L))
    (M3 := sliceOf (Memref.whole main_v17_scv) (k6_off11_inb L)) (M4 := Memref.whole cc6_scratch0) (M5 := Memref.whole cc6_scratch1)
    (h5 := Memref.isWhole_whole _) (X.c2 d)
    (by simp only [Memref.view_whole, View.set_whole]; exact hB) hS (W := W) hO
  rw [slice_set _ _ (at_off6_2 L), slice_set _ _ (at_off6_11 L), slice_chunk (by decide) _ _ (at_off6_2 L)] at ht
  have ho := owns_slice (F := F) (d := d) (c := Fin.castLE hcore6 (L 0)) (s := Fin.castLE hsub6 (L 1)) (Memref.whole main_v17_scv) (k6_off11_inb L)
    (at_off6_11 L) (join (outTile1 (X.c2 d))) (t := outTile1 (X.c2 d) (no L)) (fun x hlt => (congrFun (View.read_whole _ _) _).trans (out_read x hlt))
  rw [whole_map] at ht ho
  rw [whole_map] at ht
  refine BI.Entails.trans ?_ (ht.trans (wp_mono frame _ _ fun _ => ?_))
  · show (_ : sProp 𝕄) ⊢ _
    iintro H; iexact H
  · rw [show tdOf X 2 d (no L) = iprop((in2 d ↦[blk 1048576 32768 (no L)]{fullShare} X.c2 d) ∗ out2 d ↦[blk 131072 4096 (no L)]{fullShare} join (outTile1 (X.c2 d))) from rfl]
    iintro ⟨⟨Hi, Ho⟩, HB, HS, HO⟩
    isplitl [Hi Ho]
    · isplitl [Hi]; · iexact Hi
      iapply ho; iexact Ho
    isplitl [HB]; · iexact HB
    isplitl [HS]; · iexact HS
    iexact HO

end Tasks

theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A grid point of the SparseCore calls. -/
def coordsV (c : Fin 2) (s : Fin 16) : grid2.Coords :=
  fun | 0 => c | 1 => s | ⟨_ + 2, h⟩ => absurd h (Nat.not_lt.2 (Nat.le_add_left _ _))

theorem defs₀_call0 (c : Fin τ.nSC) (s : Fin τ.nSub) :
    defs₀ (F := F) (.scVector c s) 2 ()
      = SparseCore.onTile hcore2 hsub2 (fun c s => cc2_sc_hist (coordsV c s) (Memref.whole main_v5_scv) (Memref.isWhole_whole _)
          (Memref.whole main_v6_scv) (Memref.isWhole_whole _) (Memref.whole cc2_scratch0) (Memref.isWhole_whole _)
          (Memref.whole cc2_scratch1) (Memref.isWhole_whole _) cc2_scratch2 cc2_scratch3 cc2_scoped0) ⟨⟩ c s := rfl
theorem defs₀_call1 (c : Fin τ.nSC) (s : Fin τ.nSub) :
    defs₀ (F := F) (.scVector c s) 4 ()
      = SparseCore.onTile hcore4 hsub4 (fun c s => cc4_sc_hist (coordsV c s) (Memref.whole main_v10_scv) (Memref.isWhole_whole _)
          (Memref.whole main_v11_scv) (Memref.isWhole_whole _) (Memref.whole cc4_scratch0) (Memref.isWhole_whole _)
          (Memref.whole cc4_scratch1) (Memref.isWhole_whole _) cc4_scratch2 cc4_scratch3 cc4_scoped0) ⟨⟩ c s := rfl
theorem defs₀_call2 (c : Fin τ.nSC) (s : Fin τ.nSub) :
    defs₀ (F := F) (.scVector c s) 6 ()
      = SparseCore.onTile hcore6 hsub6 (fun c s => cc6_sc_hist (coordsV c s) (Memref.whole main_v16_scv) (Memref.isWhole_whole _)
          (Memref.whole main_v17_scv) (Memref.isWhole_whole _) (Memref.whole cc6_scratch0) (Memref.isWhole_whole _)
          (Memref.whole cc6_scratch1) (Memref.isWhole_whole _) cc6_scratch2 cc6_scratch3 cc6_scoped0) ⟨⟩ c s := rfl

set_option maxRecDepth 2048 in
theorem tileObl0 : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_call0]; simp only [SparseCore.onTile, hc, and_self, ↓reduceDIte]
  have h := tile_call0 X d (W := W) (coordsV ⟨_, hc.1⟩ ⟨_, hc.2⟩) hO
  refine BI.Entails.trans ?_ (h.trans (wp_mono frame _ _ fun _ => obl_post))
  show (_ : sProp 𝕄) ⊢ _
  iintro ⟨Hl, -, H⟩
  isplitl [Hl]; · iexact Hl
  iexact H

set_option maxRecDepth 2048 in
theorem tileObl1 : (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  have hc : ((K (F := F)).core 1 c).val < grid4.bound 0 ∧ ((K (F := F)).sub 1 i).val < grid4.bound 1 := ⟨c.isLt, i.isLt⟩
  rw [defs₀_call1]; simp only [SparseCore.onTile, hc, and_self, ↓reduceDIte]
  have h := tile_call1 X d (W := W) (coordsV ⟨_, hc.1⟩ ⟨_, hc.2⟩) hO
  refine BI.Entails.trans ?_ (h.trans (wp_mono frame _ _ fun _ => obl_post))
  show (_ : sProp 𝕄) ⊢ _
  iintro ⟨Hl, -, H⟩
  isplitl [Hl]; · iexact Hl
  iexact H

set_option maxRecDepth 2048 in
theorem tileObl2 : (K (F := F)).TileObl (D (F := F)) 𝒱 (P X) v₀ 2 := by
  intro d c i O W hO _ _
  simp only [show (P X).ox = fun _ _ => 0 from rfl, add_zero]
  change _ ⊢ wp _ _ _ (Pipeline.liftProg (defs₀ (F := F) (.scVector ((K (F := F)).core 2 c) ((K (F := F)).sub 2 i)) 6 ())) _
  refine BI.Entails.trans ?_ (Pipeline.wp_liftProg (D (F := F)) (Pipeline.defs_kernel pcfgs defs₀) 𝒱₀ _ Set.univ none _ _)
  have hc : ((K (F := F)).core 2 c).val < grid6.bound 0 ∧ ((K (F := F)).sub 2 i).val < grid6.bound 1 := ⟨c.isLt, i.isLt⟩
  rw [defs₀_call2]; simp only [SparseCore.onTile, hc, and_self, ↓reduceDIte]
  have h := tile_call2 X d (W := W) (coordsV ⟨_, hc.1⟩ ⟨_, hc.2⟩) hO
  refine BI.Entails.trans ?_ (h.trans (wp_mono frame _ _ fun _ => obl_post))
  show (_ : sProp 𝕄) ⊢ _
  iintro ⟨Hl, -, H⟩
  isplitl [Hl]; · iexact Hl
  iexact H

end Cert.Proof.Run
-- ==== Proof.HistJoin.lean ====
/-
  The SparseCore calls seen from the TensorCore: the whole of a call's two arrays, taken apart into what its tiles are handed
  and put together from what they hand back.
-/
module

public import proofs.«01_k».proof.Proof.HistCall

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2)

variable {F : FTy → Type} [FloatOps F]

local notation "𝕄" => MT nD τ sig (HIx 3) (Elt F) ℕ UU ℕ

/-! ## Blocks of a rank-one array -/

variable (X : Codes F)

theorem tiles_all {a b : Nat} (ha : a = 2) (hb : b = 16) (Φ : Nat → sProp 𝕄) :
    (bigSep Finset.univ fun c : Fin a => bigSep Finset.univ fun i : Fin b => Φ (i.val * 2 + c.val))
      = bigSep Finset.univ fun p : Fin 2 × Fin 16 => Φ (wid p) := by
  subst ha hb
  rw [← Finset.univ_product_univ, SparseCore.bigSep_product]
  rfl

/-- An array held whole is its 32 parts. -/
theorem parts {ℓ : Loc nD τ sig} (B : Nat → Finset (Idx ℓ)) (hd : ∀ k k', k ≠ k' → Disjoint (B k) (B k'))
    (hc : (Finset.univ : Finset (Fin 2 × Fin 16)).biUnion (fun p => B (wid p)) = Finset.univ) (f : Buf (Elt F) ℓ) :
    (ℓ ↦{fullShare} f : sProp 𝕄) = bigSep Finset.univ fun p : Fin 2 × Fin 16 => ℓ ↦[B (wid p)]{fullShare} f := by
  rw [← pointsTo_biUnion Finset.univ (ℓ := ℓ) (fun p => B (wid p)) (fun p _ p' _ h => hd _ _ fun e => h (wid_inj e)), hc]

theorem give {ℓi ℓo : Loc nD τ sig} (B : Nat → Finset (Idx ℓi)) (C : Nat → Finset (Idx ℓo))
    (hB : ∀ k k', k ≠ k' → Disjoint (B k) (B k')) (hB' : (Finset.univ : Finset (Fin 2 × Fin 16)).biUnion (fun p => B (wid p)) = Finset.univ)
    (hC : ∀ k k', k ≠ k' → Disjoint (C k) (C k')) (hC' : (Finset.univ : Finset (Fin 2 × Fin 16)).biUnion (fun p => C (wid p)) = Finset.univ)
    (f : Buf (Elt F) ℓi) (g : Buf (Elt F) ℓo) :
    (iprop((ℓi ↦{fullShare} f) ∗ ℓo ↦{fullShare} g) : sProp 𝕄)
      ⊢ bigSep Finset.univ fun p : Fin 2 × Fin 16 => iprop((ℓi ↦[B (wid p)]{fullShare} f) ∗ ∃ g, ℓo ↦[C (wid p)]{fullShare} g) := by
  rw [parts B hB hB', parts C hC hC', ← bigSep_sep']
  refine bigSep_mono fun p _ => ?_
  show (_ : sProp 𝕄) ⊢ _
  iintro ⟨H, H'⟩
  isplitl [H]; · iexact H
  iexists g; iexact H'

theorem take {ℓi ℓo : Loc nD τ sig} (B : Nat → Finset (Idx ℓi)) (C : Nat → Finset (Idx ℓo))
    (hB : ∀ k k', k ≠ k' → Disjoint (B k) (B k')) (hB' : (Finset.univ : Finset (Fin 2 × Fin 16)).biUnion (fun p => B (wid p)) = Finset.univ)
    (hC : ∀ k k', k ≠ k' → Disjoint (C k) (C k')) (hC' : (Finset.univ : Finset (Fin 2 × Fin 16)).biUnion (fun p => C (wid p)) = Finset.univ)
    (f : Buf (Elt F) ℓi) (g : Buf (Elt F) ℓo) :
    (bigSep Finset.univ fun p : Fin 2 × Fin 16 => iprop((ℓi ↦[B (wid p)]{fullShare} f) ∗ ℓo ↦[C (wid p)]{fullShare} g) : sProp 𝕄)
      = iprop((ℓi ↦{fullShare} f) ∗ ℓo ↦{fullShare} g) := by
  rw [parts B hB hB', parts C hC hC', ← bigSep_sep']

theorem st_all0 (d : Dev nD) (g : Buf (Elt F) (out0 d)) :
    (iprop((in0 d ↦{fullShare} X.c0 d) ∗ out0 d ↦{fullShare} g) : sProp 𝕄) ⊢ bigSep Finset.univ fun c : Fin ((K (F := F)).nCore 0) => (P X).st 0 d c :=
  (give (ℓi := in0 d) (ℓo := out0 d) (blk 2097152 65536) (blk 131072 4096) (fun _ _ h => blk_disjoint h) (blk_cover 65536 2097152 rfl)
    (fun _ _ h => blk_disjoint h) (blk_cover 4096 131072 rfl) (X.c0 d) g).trans
    (Entails.of_eq (tiles_all (a := (K (F := F)).nCore 0) (b := (K (F := F)).nSub 0) rfl rfl (goOf X 0 d)).symm)
theorem dn_all0 (d : Dev nD) :
    (bigSep Finset.univ fun c : Fin ((K (F := F)).nCore 0) => (P X).dn 0 d c : sProp 𝕄)
      ⊢ iprop((in0 d ↦{fullShare} X.c0 d) ∗ out0 d ↦{fullShare} join (outTile0 (X.c0 d))) :=
  (Entails.of_eq (tiles_all (a := (K (F := F)).nCore 0) (b := (K (F := F)).nSub 0) rfl rfl (tdOf X 0 d))).trans
    (Entails.of_eq (take (ℓi := in0 d) (ℓo := out0 d) (blk 2097152 65536) (blk 131072 4096) (fun _ _ h => blk_disjoint h) (blk_cover 65536 2097152 rfl)
      (fun _ _ h => blk_disjoint h) (blk_cover 4096 131072 rfl) (X.c0 d) (join (outTile0 (X.c0 d)))))

theorem st_all1 (d : Dev nD) (g : Buf (Elt F) (out1 d)) :
    (iprop((in1 d ↦{fullShare} X.c1 d) ∗ out1 d ↦{fullShare} g) : sProp 𝕄) ⊢ bigSep Finset.univ fun c : Fin ((K (F := F)).nCore 1) => (P X).st 1 d c :=
  (give (ℓi := in1 d) (ℓo := out1 d) (blk 1048576 32768) (blk 131072 4096) (fun _ _ h => blk_disjoint h) (blk_cover 32768 1048576 rfl)
    (fun _ _ h => blk_disjoint h) (blk_cover 4096 131072 rfl) (X.c1 d) g).trans
    (Entails.of_eq (tiles_all (a := (K (F := F)).nCore 1) (b := (K (F := F)).nSub 1) rfl rfl (goOf X 1 d)).symm)
theorem dn_all1 (d : Dev nD) :
    (bigSep Finset.univ fun c : Fin ((K (F := F)).nCore 1) => (P X).dn 1 d c : sProp 𝕄)
      ⊢ iprop((in1 d ↦{fullShare} X.c1 d) ∗ out1 d ↦{fullShare} join (outTile1 (X.c1 d))) :=
  (Entails.of_eq (tiles_all (a := (K (F := F)).nCore 1) (b := (K (F := F)).nSub 1) rfl rfl (tdOf X 1 d))).trans
    (Entails.of_eq (take (ℓi := in1 d) (ℓo := out1 d) (blk 1048576 32768) (blk 131072 4096) (fun _ _ h => blk_disjoint h) (blk_cover 32768 1048576 rfl)
      (fun _ _ h => blk_disjoint h) (blk_cover 4096 131072 rfl) (X.c1 d) (join (outTile1 (X.c1 d)))))

theorem st_all2 (d : Dev nD) (g : Buf (Elt F) (out2 d)) :
    (iprop((in2 d ↦{fullShare} X.c2 d) ∗ out2 d ↦{fullShare} g) : sProp 𝕄) ⊢ bigSep Finset.univ fun c : Fin ((K (F := F)).nCore 2) => (P X).st 2 d c :=
  (give (ℓi := in2 d) (ℓo := out2 d) (blk 1048576 32768) (blk 131072 4096) (fun _ _ h => blk_disjoint h) (blk_cover 32768 1048576 rfl)
    (fun _ _ h => blk_disjoint h) (blk_cover 4096 131072 rfl) (X.c2 d) g).trans
    (Entails.of_eq (tiles_all (a := (K (F := F)).nCore 2) (b := (K (F := F)).nSub 2) rfl rfl (goOf X 2 d)).symm)
theorem dn_all2 (d : Dev nD) :
    (bigSep Finset.univ fun c : Fin ((K (F := F)).nCore 2) => (P X).dn 2 d c : sProp 𝕄)
      ⊢ iprop((in2 d ↦{fullShare} X.c2 d) ∗ out2 d ↦{fullShare} join (outTile1 (X.c2 d))) :=
  (Entails.of_eq (tiles_all (a := (K (F := F)).nCore 2) (b := (K (F := F)).nSub 2) rfl rfl (tdOf X 2 d))).trans
    (Entails.of_eq (take (ℓi := in2 d) (ℓo := out2 d) (blk 1048576 32768) (blk 131072 4096) (fun _ _ h => blk_disjoint h) (blk_cover 32768 1048576 rfl)
      (fun _ _ h => blk_disjoint h) (blk_cover 4096 131072 rfl) (X.c2 d) (join (outTile1 (X.c2 d)))))

end Cert.Proof.Run
-- ==== Proof.CodesBody.lean ====
/-
  The bodies of the four TensorCore calls as runs over what their staging buffers read: the codes' body (the same at
  each of its three calls up to the band's first row tile) leaves in its result's buffer the packed codes of its four
  operands' blocks; the statistics' body leaves the normalised rows and the table of the four sums.
-/
module

public import proofs.«01_k».proof.Proof.Setup
public import Idealize.ShloMosaic.Lib.VecWindow

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 3) (Elt F) ℕ UU ℕ

/-! ## The codes' body -/

/-- The packed codes of a tile: on the diagonal the excluded element's code put in, off it the plain codes. -/
def tileCodes (diag : Bool) (v1 v3 : Vec F S512x128 .f32) (v6 : Vec F S512x1 .i32) (v8 : Vec F S1x512 .i32) : Vec F S512x128 .i32 :=
  if diag then k1_pay2 v1 v3 v6 v8 else k1_pay3 v1 v3 v6 v8

section Codes

variable (M2 : Memref sig .tc .vmem S512x128 .f32) (M3 : Memref sig .tc .vmem S512x128 .f32)
  (M4 : Memref sig .tc .vmem S512x1 .i32) (M5 : Memref sig .tc .vmem S1x512 .i32) (M6 : Memref sig .tc .vmem S512x128 .i32)

/-- The codes' body with its branch taken: four loads, the result's buffer read and overwritten. -/
def codesProg (diag : Bool) : Prog (TpuEff nD τ sig (Elt F) Λ₀ .tc) PUnit := do
  let v1 : Vec F S512x128 .f32 ← Prog.lift (.load M2 (Rect.unit (s := S512x128) ![0, 0] S512x128.size inb_S512x128_S512x128_0_0).toLoadRect (View.loadsAt_vmem h_S512x128))
  let v3 : Vec F S512x128 .f32 ← Prog.lift (.load M3 (Rect.unit (s := S512x128) ![0, 0] S512x128.size inb_S512x128_S512x128_0_0).toLoadRect (View.loadsAt_vmem h_S512x128))
  let v6 : Vec F S512x1 .i32 ← Prog.lift (.load M4 (Rect.unit (s := S512x1) ![0, 0] S512x1.size inb_S512x1_S512x1_0_0).toLoadRect (View.loadsAt_vmem h_S512x1))
  let v8 : Vec F S1x512 .i32 ← Prog.lift (.load M5 (Rect.unit (s := S1x512) ![0, 0] S1x512.size inb_S1x512_S1x512_0_0).toLoadRect (View.loadsAt_vmem h_S1x512))
  let _v47 : Vec F S512x128 .i32 ← Prog.lift (.load M6 (Rect.unit (s := S512x128) ![0, 0] S512x128.size inb_S512x128_S512x128_0_0).toLoadRect (View.loadsAt_vmem h_S512x128))
  Prog.lift (.store M6 (Rect.unit (s := S512x128) ![0, 0] S512x128.size inb_S512x128_S512x128_0_0) (tileCodes diag v1 v3 v6 v8) Finset.univ (View.stores_vmem_bits_univ h_S512x128 rfl) (.inl rfl))

/-- The run of that program. -/
theorem wp_codesProg (diag : Bool) (d : Dev nD) (f2 : Buf (Elt F) (M2.view.loc (SparseCore.T d))) (f3 : Buf (Elt F) (M3.view.loc (SparseCore.T d)))
    (f4 : Buf (Elt F) (M4.view.loc (SparseCore.T d))) (f5 : Buf (Elt F) (M5.view.loc (SparseCore.T d))) (f6 : Buf (Elt F) (M6.view.loc (SparseCore.T d)))
    (h2 : M2.IsWhole) (h3 : M3.IsWhole) (h4 : M4.IsWhole) (h5 : M5.IsWhole) (h6 : M6.IsWhole)
    (E : Set ℕ) (Q : PUnit → sProp 𝕄) :
    (iprop((M2.view.loc (SparseCore.T d) ↦{fullShare} f2) ∗ (M3.view.loc (SparseCore.T d) ↦{fullShare} f3) ∗ (M4.view.loc (SparseCore.T d) ↦{fullShare} f4) ∗ (M5.view.loc (SparseCore.T d) ↦{fullShare} f5)
        ∗ (M6.view.loc (SparseCore.T d) ↦{fullShare} f6)
        ∗ (∀ g6 : Buf (Elt F) (M6.view.loc (SparseCore.T d)), iprop(⌜M6.view.read (Elt F) g6
              = tileCodes diag (M2.view.read (Elt F) f2) (M3.view.read (Elt F) f3) (M4.view.read (Elt F) f4) (M5.view.read (Elt F) f5)⌝
            ∗ (M2.view.loc (SparseCore.T d) ↦{fullShare} f2) ∗ (M3.view.loc (SparseCore.T d) ↦{fullShare} f3) ∗ (M4.view.loc (SparseCore.T d) ↦{fullShare} f4) ∗ (M5.view.loc (SparseCore.T d) ↦{fullShare} f5)
            ∗ (M6.view.loc (SparseCore.T d) ↦{fullShare} g6)) -∗ Q ⟨⟩)) : sProp 𝕄)
      ⊢ wp frame (wpE (defs₀ (F := F)) Variants.none (SparseCore.T d) none) E (codesProg (F := F) M2 M3 M4 M5 M6 diag) Q := by
  unfold codesProg
  iintro ⟨H2, H3, H4, H5, H6, Hk⟩
  sl_exec!
  sl_step
  iapply Hk
  isplitr
  rotate_left
  · isplitl [H2]; · iexact H2
    isplitl [H3]; · iexact H3
    isplitl [H4]; · iexact H4
    isplitl [H5]; · iexact H5
    iexact H6
  · ipureintro
    refine (View.read_writes_full _ _ _ _ _).trans ?_
    exact congr (congr (congr (congrArg (tileCodes diag) (View.readAt_full M2.view f2 inb_S512x128_S512x128_0_0))
      (View.readAt_full M3.view f3 inb_S512x128_S512x128_0_0)) (View.readAt_full M4.view f4 inb_S512x1_S512x1_0_0))
      (View.readAt_full M5.view f5 inb_S1x512_S1x512_0_0)

variable (h2 : M2.IsWhole) (h3 : M3.IsWhole) (h4 : M4.IsWhole) (h5 : M5.IsWhole) (h6 : M6.IsWhole)

theorem conds1 : ∀ i : grid1.Coords, k1_cond2 i = 1#1 ↔ ¬ k1_cond1 i = 1#1 := by decide +kernel
theorem conds3 : ∀ i : grid3.Coords, k3_cond2 i = 1#1 ↔ ¬ k3_cond1 i = 1#1 := by decide +kernel
theorem conds5 : ∀ i : grid5.Coords, k5_cond2 i = 1#1 ↔ ¬ k5_cond1 i = 1#1 := by decide +kernel

theorem body1_eq (i : grid1.Coords) : cc1__codes_body (F := F) i M2 h2 M3 h3 M4 h4 M5 h5 M6 h6 = codesProg M2 M3 M4 M5 M6 (decide (k1_cond1 i = 1#1)) := by
  rw [cc1__codes_body_eq_skeleton]
  unfold cc1__codes_body_skel codesProg
  by_cases h : k1_cond1 i = 1#1
  · have h' : ¬ k1_cond2 i = 1#1 := fun e => (conds1 i).mp e h
    simp only [dif_pos h, dif_neg h', bind_assoc, pure_bind, decide_eq_true h, tileCodes, if_true]; rfl
  · have h' : k1_cond2 i = 1#1 := (conds1 i).mpr h
    simp only [dif_neg h, dif_pos h', bind_assoc, pure_bind, decide_eq_false h, tileCodes, Bool.false_eq_true, if_false]; rfl

theorem body3_eq (i : grid3.Coords) : cc3__codes_body (F := F) i M2 h2 M3 h3 M4 h4 M5 h5 M6 h6 = codesProg M2 M3 M4 M5 M6 (decide (k3_cond1 i = 1#1)) := by
  rw [cc3__codes_body_eq_skeleton]
  unfold cc3__codes_body_skel codesProg
  by_cases h : k3_cond1 i = 1#1
  · have h' : ¬ k3_cond2 i = 1#1 := fun e => (conds3 i).mp e h
    simp only [dif_pos h, dif_neg h', bind_assoc, pure_bind, decide_eq_true h, tileCodes, if_true]; rfl
  · have h' : k3_cond2 i = 1#1 := (conds3 i).mpr h
    simp only [dif_neg h, dif_pos h', bind_assoc, pure_bind, decide_eq_false h, tileCodes, Bool.false_eq_true, if_false]; rfl

theorem body5_eq (i : grid5.Coords) : cc5__codes_body (F := F) i M2 h2 M3 h3 M4 h4 M5 h5 M6 h6 = codesProg M2 M3 M4 M5 M6 (decide (k5_cond1 i = 1#1)) := by
  rw [cc5__codes_body_eq_skeleton]
  unfold cc5__codes_body_skel codesProg
  by_cases h : k5_cond1 i = 1#1
  · have h' : ¬ k5_cond2 i = 1#1 := fun e => (conds5 i).mp e h
    simp only [dif_pos h, dif_neg h', bind_assoc, pure_bind, decide_eq_true h, tileCodes, if_true]; rfl
  · have h' : k5_cond2 i = 1#1 := (conds5 i).mpr h
    simp only [dif_neg h, dif_pos h', bind_assoc, pure_bind, decide_eq_false h, tileCodes, Bool.false_eq_true, if_false]; rfl

end Codes

/-! ## The statistics' body -/

/-- The table of the four sums, from the rows and the labels. -/
def statsTable (v0 : Vec F S4096x128 .f32) (v13 : Vec F S1x4096 .i32) : Vec F S8x128 .f32 :=
  k0_pay1 (k0_pay5 v0 v13) (k0_pay6 v13) (k0_pay7 v0 v13) (k0_pay8 v0) (iota .tc S8x128 32 [0] iota_S8x128_d0_w32)

theorem wp_stats (M0 : Memref sig .tc .vmem S4096x128 .f32) (h0 : M0.IsWhole) (M1 : Memref sig .tc .vmem S1x4096 .i32) (h1 : M1.IsWhole)
    (M2 : Memref sig .tc .vmem S4096x128 .f32) (h2 : M2.IsWhole) (M3 : Memref sig .tc .vmem S8x128 .f32) (h3 : M3.IsWhole) (d : Dev nD)
    (f0 : Buf (Elt F) (M0.view.loc (SparseCore.T d))) (f1 : Buf (Elt F) (M1.view.loc (SparseCore.T d)))
    (f2 : Buf (Elt F) (M2.view.loc (SparseCore.T d))) (f3 : Buf (Elt F) (M3.view.loc (SparseCore.T d)))
    (E : Set ℕ) (Q : PUnit → sProp 𝕄) :
    (iprop((M0.view.loc (SparseCore.T d) ↦{fullShare} f0) ∗ (M1.view.loc (SparseCore.T d) ↦{fullShare} f1) ∗ (M2.view.loc (SparseCore.T d) ↦{fullShare} f2) ∗ (M3.view.loc (SparseCore.T d) ↦{fullShare} f3)
        ∗ (∀ (g2 : Buf (Elt F) (M2.view.loc (SparseCore.T d))) (g3 : Buf (Elt F) (M3.view.loc (SparseCore.T d))), iprop(⌜M2.view.read (Elt F) g2 = k0_pay2 (M0.view.read (Elt F) f0)
              ∧ M3.view.read (Elt F) g3 = statsTable (M0.view.read (Elt F) f0) (M1.view.read (Elt F) f1)⌝
            ∗ (M0.view.loc (SparseCore.T d) ↦{fullShare} f0) ∗ (M1.view.loc (SparseCore.T d) ↦{fullShare} f1) ∗ (M2.view.loc (SparseCore.T d) ↦{fullShare} g2) ∗ (M3.view.loc (SparseCore.T d) ↦{fullShare} g3)) -∗ Q ⟨⟩)) : sProp 𝕄)
      ⊢ wp frame (wpE (defs₀ (F := F)) Variants.none (SparseCore.T d) none) E (cc0__stats_body (F := F) M0 h0 M1 h1 M2 h2 M3 h3) Q := by
  rw [cc0__stats_body_eq_skeleton]
  unfold cc0__stats_body_skel
  rw [k0_part1_eq_skeleton]
  unfold k0_part1_skel
  simp only [bind_assoc, pure_bind]
  iintro ⟨H0, H1, H2, H3, Hk⟩
  sl_exec!
  sl_step
  iapply Hk
  isplitr
  rotate_left
  · isplitl [H0]; · iexact H0
    isplitl [H1]; · iexact H1
    isplitl [H2]; · iexact H2
    iexact H3
  · ipureintro
    constructor
    · refine (View.read_writes_full _ _ _ _ _).trans ?_
      exact congrArg k0_pay2 (View.readAt_full M0.view f0 inb_S4096x128_S4096x128_0_0)
    · refine (View.read_writes_full _ _ _ _ _).trans ?_
      have e := congr (congrArg statsTable (View.readAt_full M0.view f0 inb_S4096x128_S4096x128_0_0))
        (View.readAt_full M1.view f1 inb_S1x4096_S1x4096_0_0)
      exact e

end Cert.Proof.Run
-- ==== Proof.CodesRegion1.lean ====
/-
  The first band's codes call as a region of @main: entered from any contents of the TensorCore's buffers, it leaves its
  result's array at the packed codes of its tiles and everything else as it was. What the core owes the SparseCore calls
  still to come rides through.
-/
module

public import proofs.«01_k».proof.Proof.CodesBody
public import Idealize.ShloMosaic.Lib.Pipeline.RegionsLoop
public import Idealize.ShloMosaic.Lib.Pipeline.FrameBody

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat BodyObligation)

variable {F : FTy → Type} [FloatOps F]

local notation "𝕄" => MT nD τ sig (HIx 3) (Elt F) ℕ UU ℕ

/-! ## What every region shares -/

/-- The contents of every TensorCore buffer of every device. -/
abbrev Bufs (F : FTy → Type) [FloatOps F] : Type := (c : Dev nD) → (b : Ref sig .tc) → Buf (Elt F) ((c : Thread nD τ).loc b)

theorem otc_none (d : Dev nD) (n : ℕ) (g : GSem nD τ sig) : (K (F := F)).Otc (nD := nD) d n g none = 0 := by
  by_contra h
  have h1 := (K (F := F)).lev_of_Otc_pos (Nat.pos_of_ne_zero h)
  have h2 : (K (F := F)).lev g none = 0 := rfl
  omega

/-- What the core has waited for before SparseCore call `n`. -/
def seen (d : Dev nD) (n : ℕ) : Set (SemLoc sig × HIx 3) := {p | (K (F := F)).lev ((d : Thread nD τ), p.1) p.2 ≤ 8 * n}

/-- A proof datum for a pipeline a region does not run. -/
def junkDat {cfg : Pipeline.Cfg sig Λ₀} [∀ e, Nonempty (Elt F e)] (c : Dev nD) : Dat τ (Elt F) (HIx 3) ℕ UU ℕ cfg c where
  A _ := fun _ => Classical.arbitrary _
  after _ _ := fun _ => Classical.arbitrary _
  Φ _ := BI.emp
  q _ := fullShare
  owed _ := 0

/-- A whole buffer's memref owned at what it reads: the buffer held at something that reads so. -/
theorem owns_isWhole {d : Dev nD} {sp : Space} {s : Shape} {e : EltTy} {M : Memref sig .tc sp s e} (h : M.IsWhole) (X : s.Idx → Elt F e) :
    (owns (SparseCore.T d) M fullShare X : sProp 𝕄) = iprop(∃ f : Buf (Elt F) (M.view.loc (SparseCore.T d)), ⌜M.view.read (Elt F) f = X⌝ ∗ (M.view.loc (SparseCore.T d) ↦{fullShare} f)) := by
  unfold owns; rw [h.set_eq_univ]

/-- The state a region takes and leaves: every buffer outside the kernels' scopes, and what the core owes. -/
def around (W : Bufs F) (n : ℕ) (c : Dev nD) : sProp 𝕄 :=
  iprop(unscopedBufs c (W c) ∗ ∃ S, ⌜(K (F := F)).WBelow (c : Thread nD τ) S (8 * n)⌝ ∗ owes (c : Thread nD τ) ((K (F := F)).Otc c n) S)

/-! ## The first band's codes call -/

section Call1

variable (W : Bufs F) (n : ℕ)

/-- The block a window reads at a point. -/
def blk1 (c : Dev nD) (w : Fin 5) (t : Fin cfg1.N) : ((cfg1.win w).srect (cfg1.grid.coords t)).shape.Idx → Elt F (cfg1.win w).elt :=
  ((cfg1.win w).blk t).view.read (Elt F) (W c (Pipeline.arrRef spec1 w))

/-- The codes of point `t`'s tile. -/
def tileOut1 (c : Dev nD) (t : Fin cfg1.N) : Vec F S512x128 .i32 :=
  tileCodes (decide (k1_cond1 (grid1.coords t) = 1#1)) (blk1 W c 0 t) (blk1 W c 1 t) (blk1 W c 2 t) (blk1 W c 3 t)

def dat1 (c : Dev nD) : Dat τ (Elt F) (HIx 3) ℕ UU ℕ cfg1 c where
  A w := W c (Pipeline.arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => tileOut1 W c t
  Φ _ := Pipeline.scopedRest (Ix := HIx 3) (Name := ℕ) (U := UU) (Lvl := ℕ) (Val := Elt F) spec1 c
  q w := Pipeline.shareOf spec1 w
  owed _ := (K (F := F)).Otc c n
  recorded _ := seen (F := F) c n

theorem before1_0 (c : Dev nD) (t : Fin cfg1.N) (x) : (dat1 W n c).before 0 t x = blk1 W c 0 t :=
  (dat1 W n c).before_in_eq_fetched 0 rfl (fun _ => rfl) (fun _ _ _ => rfl) (fun _ => rfl) t x
theorem before1_1 (c : Dev nD) (t : Fin cfg1.N) (x) : (dat1 W n c).before 1 t x = blk1 W c 1 t :=
  (dat1 W n c).before_in_eq_fetched 1 rfl (fun _ => rfl) (fun _ _ _ => rfl) (fun _ => rfl) t x
theorem before1_2 (c : Dev nD) (t : Fin cfg1.N) (x) : (dat1 W n c).before 2 t x = blk1 W c 2 t :=
  (dat1 W n c).before_in_eq_fetched 2 rfl (fun _ => rfl) (fun _ _ _ => rfl) (fun _ => rfl) t x
theorem before1_3 (c : Dev nD) (t : Fin cfg1.N) (x) : (dat1 W n c).before 3 t x = blk1 W c 3 t :=
  (dat1 W n c).before_in_eq_fetched 3 rfl (fun _ => rfl) (fun _ _ _ => rfl) (fun _ => rfl) t x

theorem obligation1 (c : Dev nD) : BodyObligation (dat1 W n c) (defs₀ (F := F)) 𝒱₀ none Set.univ := fun t => by
  rw [bigSep_W1, bigSep_W1]
  have e : defs₀ (F := F) .tc cfg1.body (cfg1.bodyArgs t (cfg1.slots t)) = codesProg (st1_0 t) (st1_1 t) (st1_2 t) (st1_3 t) (st1_4 t) (decide (k1_cond1 (grid1.coords t) = 1#1)) :=
    body1_eq _ _ _ _ _ (hstage1_0 ((cfg1.slots t 0).cast nbuf1_0)) (hstage1_1 ((cfg1.slots t 1).cast nbuf1_1)) (hstage1_2 ((cfg1.slots t 2).cast nbuf1_2))
      (hstage1_3 ((cfg1.slots t 3).cast nbuf1_3)) (hstage1_4 ((cfg1.slots t 4).cast nbuf1_4)) (grid1.coords t)
  rw [e]
  have e0 := fun X => owns_isWhole (F := F) (d := c) (M := st1_0 t) (hstage1_0 ((cfg1.slots t 0).cast nbuf1_0)) X
  have e1 := fun X => owns_isWhole (F := F) (d := c) (M := st1_1 t) (hstage1_1 ((cfg1.slots t 1).cast nbuf1_1)) X
  have e2 := fun X => owns_isWhole (F := F) (d := c) (M := st1_2 t) (hstage1_2 ((cfg1.slots t 2).cast nbuf1_2)) X
  have e3 := fun X => owns_isWhole (F := F) (d := c) (M := st1_3 t) (hstage1_3 ((cfg1.slots t 3).cast nbuf1_3)) X
  have e4 := fun X => owns_isWhole (F := F) (d := c) (M := st1_4 t) (hstage1_4 ((cfg1.slots t 4).cast nbuf1_4)) X
  iintro ⟨HΦ, Howes, ⟨%d0, H0⟩, ⟨%d1, H1⟩, ⟨%d2, H2⟩, ⟨%d3, H3⟩, ⟨%d4, H4⟩⟩
  ihave H0 := (Entails.of_eq (e0 _)) $$ H0
  ihave H1 := (Entails.of_eq (e1 _)) $$ H1
  ihave H2 := (Entails.of_eq (e2 _)) $$ H2
  ihave H3 := (Entails.of_eq (e3 _)) $$ H3
  ihave H4 := (Entails.of_eq (e4 _)) $$ H4
  icases H0 with ⟨%f0, %hf0, H0⟩
  icases H1 with ⟨%f1, %hf1, H1⟩
  icases H2 with ⟨%f2, %hf2, H2⟩
  icases H3 with ⟨%f3, %hf3, H3⟩
  icases H4 with ⟨%f4, -, H4⟩
  rw [before1_0] at hf0
  rw [before1_1] at hf1
  rw [before1_2] at hf2
  rw [before1_3] at hf3
  iapply (wp_codesProg (st1_0 t) (st1_1 t) (st1_2 t) (st1_3 t) (st1_4 t) _ c f0 f1 f2 f3 f4 (hstage1_0 ((cfg1.slots t 0).cast nbuf1_0)) (hstage1_1 ((cfg1.slots t 1).cast nbuf1_1))
      (hstage1_2 ((cfg1.slots t 2).cast nbuf1_2)) (hstage1_3 ((cfg1.slots t 3).cast nbuf1_3)) (hstage1_4 ((cfg1.slots t 4).cast nbuf1_4)) Set.univ _)
  isplitl [H0]; · iexact H0
  isplitl [H1]; · iexact H1
  isplitl [H2]; · iexact H2
  isplitl [H3]; · iexact H3
  isplitl [H4]; · iexact H4
  iintro %g ⟨%hg, H0, H1, H2, H3, H4⟩
  rw [hf0, hf1, hf2, hf3] at hg
  isplitl [HΦ]; · iapply (Entails.of_eq (show (dat1 W n c).Φ t.castSucc = (dat1 W n c).Φ t.succ from rfl)); iexact HΦ
  isplitl [Howes]; · iapply (Entails.of_eq (show (dat1 W n c).owesAt none t.castSucc = (dat1 W n c).owesAt none t.succ from rfl)); iexact Howes
  isplitl [H0]; · iapply (Entails.of_eq (e0 _).symm); iexists f0; isplitr; swap; (· iexact H0); ipureintro; exact hf0
  isplitl [H1]; · iapply (Entails.of_eq (e1 _).symm); iexists f1; isplitr; swap; (· iexact H1); ipureintro; exact hf1
  isplitl [H2]; · iapply (Entails.of_eq (e2 _).symm); iexists f2; isplitr; swap; (· iexact H2); ipureintro; exact hf2
  isplitl [H3]; · iapply (Entails.of_eq (e3 _).symm); iexists f3; isplitr; swap; (· iexact H3); ipureintro; exact hf3
  have h5 : (iprop((st1_4 t).view.loc (SparseCore.T c) ↦{fullShare} g) : sProp 𝕄) ⊢ owns (SparseCore.T c) (st1_4 t) fullShare ((dat1 W n c).after 4 t) := by
    rw [e4]
    iintro H; iexists g; isplitr; swap; (· iexact H); ipureintro; exact hg
  have h6 : (dat1 W n c).leavesExact 4 t = owns (SparseCore.T c) (st1_4 t) fullShare ((dat1 W n c).after 4 t) := by
    unfold Dat.leavesExact
    rw [flush1_4 t]
    cases cfg1.idle 4 (cfg1.grid.coords t) <;> rfl
  ihave H4 := (h5.trans (Entails.of_eq h6.symm)) $$ H4
  iexact H4

variable [∀ e, Nonempty (Elt F e)] (adm : (p : Fin 4) → (pcfgs (F := F) p).Adm)

/-- The proof data of a run of this call. -/
def pdats1 : (p : Fin 4) → (c : Dev nD) → Dat τ (Elt F) (HIx 3) ℕ UU ℕ (Pipeline.pin (pcfgs (F := F)) adm p) c
  | ⟨0, _⟩ => fun c => junkDat c
  | ⟨1, _⟩ => fun c => dat1 W n c
  | ⟨2, _⟩ => fun c => junkDat c
  | ⟨3, _⟩ => fun c => junkDat c

/-- The result's array after the call. -/
def codes1 (c : Dev nD) : Buf (Elt F) ((c : Thread nD τ).loc main_v4) := (dat1 W n c).arrAt 4 cfg1.N

set_option backward.isDefEq.respectTransparency.types false in
/-- The call as a region. -/
def reg1 (W' : Bufs F) (hout : ∀ c, W' c main_v4 = codes1 W n c) (hne : ∀ c (b : Ref sig .tc), b ≠ main_v4 → W' c b = W c b) :
    Pipeline.RegionSeg (pcfgs (F := F)) adm (pdats1 W n adm) none defs₀ 𝒱₀ (K (F := F)).L (K (F := F)).lev 1 where
  win := launch₀1.win
  block_pos := launch₀1.block_pos
  stage_whole := launch₀1.stage_whole
  K := PEmpty
  osem k := k.elim
  ho := Pipeline.OwnSemFacts.none _
  hbody c := (obligation1 W n c).loose
  hwaits c := Pipeline.cellsWaits_intro _ _ none 1 c fun w s t => (K (F := F)).mayWait_none _ (otc_none c n)
  pre c := around W n c
  post c := around W' n c
  X _ := BI.emp
  Y _ := BI.emp
  Z c := Pipeline.unscopedRest (Ix := HIx 3) (Name := ℕ) (U := UU) (Lvl := ℕ) spec1 c (W c)
  hentry c := by
    rw [Pipeline.ownSems0_none]
    have hsplit := Pipeline.arrays_of_unscopedBufs_shared (p := 1) (pcfgs (F := F)) adm (pdats1 W n adm) launch₀1.win launch₀1.sharedIn launch₀1.arr_whole c
      (fun _ _ => rfl) (W c) fun _ => rfl
    unfold around
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, %hS, HO⟩; iexists S; isplitr; · ipureintro; exact fun p hp => Or.inl (hS p hp)
      iexact HO
    isplitr; · iempintro
    iexact Hrest
  hin c := by
    rw [show (pdats1 W n adm 1 c).Φ 0 = Pipeline.scopedRest (Ix := HIx 3) (Name := ℕ) (U := UU) (Lvl := ℕ) (Val := Elt F) spec1 c from rfl]
    iintro ⟨-, -, Hr⟩; iexact Hr
  hout c := by
    rw [Pipeline.ownSems0_none, show (pdats1 W n adm 1 c).Φ (Fin.last _) = Pipeline.scopedRest (Ix := HIx 3) (Name := ℕ) (U := UU) (Lvl := ℕ) (Val := Elt F) spec1 c from rfl]
    iintro Hr
    isplitr; · iempintro
    isplitr; · iempintro
    iexact Hr
  hexit c := by
    have hjoin := Pipeline.unscopedBufs_of_arrays_shared (p := 1) (pcfgs (F := F)) adm (Ix := HIx 3) (Name := ℕ) (U := UU) (Lvl := ℕ) launch₀1.win launch₀1.sharedIn launch₀1.arr_whole c
      (pdats1 W n adm) (fun _ _ => rfl) (W c) (W' c) ((pdats1 W n adm 1 c).arrAt · cfg1.N)
      (fun w => by
        fin_cases w
        · exact ((pdats1 W n adm 1 c).arrAt_in 0 rfl _).trans (hne c main_v1_0 (by decide)).symm
        · exact ((pdats1 W n adm 1 c).arrAt_in 1 rfl _).trans (hne c main_v1_0 (by decide)).symm
        · exact ((pdats1 W n adm 1 c).arrAt_in 2 rfl _).trans (hne c main_v2 (by decide)).symm
        · exact ((pdats1 W n adm 1 c).arrAt_in 3 rfl _).trans (hne c main_v3 (by decide)).symm
        · exact (hout c).symm)
      (fun b hb => hne c b fun h => hb (h ▸ Finset.mem_image.mpr ⟨4, Finset.mem_univ _, rfl⟩))
    unfold around
    iintro ⟨Ha, HO, -, Hrest⟩
    imodintro
    isplitl [Ha Hrest]
    · iapply hjoin; isplitl [Ha] <;> iassumption
    unfold Pipeline.Dat.owesAt Pipeline.owesWithin
    icases HO with ⟨%S, %hS, HO⟩; iexists S; isplitr
    · ipureintro
      intro p hp
      rcases hS hp with h | ⟨w, s, h⟩
      · exact h
      · rw [h]; exact Nat.zero_le _
    iexact HO

end Call1

end Cert.Proof.Run
-- ==== Proof.CodesRegion3.lean ====
/-
  The second band's codes call as a region of @main: entered from any contents of the TensorCore's buffers, it leaves its
  result's array at the packed codes of its tiles and everything else as it was. What the core owes the SparseCore calls
  still to come rides through.
-/
module

public import proofs.«01_k».proof.Proof.CodesRegion1
public import Idealize.ShloMosaic.Lib.Pipeline.RegionsLoop
public import Idealize.ShloMosaic.Lib.Pipeline.FrameBody

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat BodyObligation)

variable {F : FTy → Type} [FloatOps F]

local notation "𝕄" => MT nD τ sig (HIx 3) (Elt F) ℕ UU ℕ

/-! ## The second band's codes call -/

section Call3

variable (W : Bufs F) (n : ℕ)

/-- The block a window reads at a point. -/
def blk3 (c : Dev nD) (w : Fin 5) (t : Fin cfg3.N) : ((cfg3.win w).srect (cfg3.grid.coords t)).shape.Idx → Elt F (cfg3.win w).elt :=
  ((cfg3.win w).blk t).view.read (Elt F) (W c (Pipeline.arrRef spec3 w))

/-- The codes of point `t`'s tile. -/
def tileOut3 (c : Dev nD) (t : Fin cfg3.N) : Vec F S512x128 .i32 :=
  tileCodes (decide (k3_cond1 (grid3.coords t) = 1#1)) (blk3 W c 0 t) (blk3 W c 1 t) (blk3 W c 2 t) (blk3 W c 3 t)

def dat3 (c : Dev nD) : Dat τ (Elt F) (HIx 3) ℕ UU ℕ cfg3 c where
  A w := W c (Pipeline.arrRef spec3 w)
  after w t := match w with
    | ⟨0, _⟩ => blk3 W c 0 t
    | ⟨1, _⟩ => blk3 W c 1 t
    | ⟨2, _⟩ => blk3 W c 2 t
    | ⟨3, _⟩ => blk3 W c 3 t
    | ⟨4, _⟩ => tileOut3 W c t
  Φ _ := Pipeline.scopedRest (Ix := HIx 3) (Name := ℕ) (U := UU) (Lvl := ℕ) (Val := Elt F) spec3 c
  q w := Pipeline.shareOf spec3 w
  owed _ := (K (F := F)).Otc c n
  recorded _ := seen (F := F) c n

theorem before3_0 (c : Dev nD) (t : Fin cfg3.N) (x) : (dat3 W n c).before 0 t x = blk3 W c 0 t :=
  (dat3 W n c).before_in_eq_fetched 0 rfl (fun _ => rfl) (fun _ _ _ => rfl) (fun _ => rfl) t x
theorem before3_1 (c : Dev nD) (t : Fin cfg3.N) (x) : (dat3 W n c).before 1 t x = blk3 W c 1 t :=
  (dat3 W n c).before_in_eq_fetched 1 rfl (fun _ => rfl) (fun _ _ _ => rfl) (fun _ => rfl) t x
theorem before3_2 (c : Dev nD) (t : Fin cfg3.N) (x) : (dat3 W n c).before 2 t x = blk3 W c 2 t :=
  (dat3 W n c).before_in_eq_fetched 2 rfl (fun _ => rfl) (fun _ _ _ => rfl) (fun _ => rfl) t x
theorem before3_3 (c : Dev nD) (t : Fin cfg3.N) (x) : (dat3 W n c).before 3 t x = blk3 W c 3 t :=
  (dat3 W n c).before_in_eq_fetched 3 rfl (fun _ => rfl) (fun _ _ _ => rfl) (fun _ => rfl) t x

theorem obligation3 (c : Dev nD) : BodyObligation (dat3 W n c) (defs₀ (F := F)) 𝒱₀ none Set.univ := fun t => by
  rw [bigSep_W3, bigSep_W3]
  have e : defs₀ (F := F) .tc cfg3.body (cfg3.bodyArgs t (cfg3.slots t)) = codesProg (st3_0 t) (st3_1 t) (st3_2 t) (st3_3 t) (st3_4 t) (decide (k3_cond1 (grid3.coords t) = 1#1)) :=
    body3_eq _ _ _ _ _ (hstage3_0 ((cfg3.slots t 0).cast nbuf3_0)) (hstage3_1 ((cfg3.slots t 1).cast nbuf3_1)) (hstage3_2 ((cfg3.slots t 2).cast nbuf3_2))
      (hstage3_3 ((cfg3.slots t 3).cast nbuf3_3)) (hstage3_4 ((cfg3.slots t 4).cast nbuf3_4)) (grid3.coords t)
  rw [e]
  have e0 := fun X => owns_isWhole (F := F) (d := c) (M := st3_0 t) (hstage3_0 ((cfg3.slots t 0).cast nbuf3_0)) X
  have e1 := fun X => owns_isWhole (F := F) (d := c) (M := st3_1 t) (hstage3_1 ((cfg3.slots t 1).cast nbuf3_1)) X
  have e2 := fun X => owns_isWhole (F := F) (d := c) (M := st3_2 t) (hstage3_2 ((cfg3.slots t 2).cast nbuf3_2)) X
  have e3 := fun X => owns_isWhole (F := F) (d := c) (M := st3_3 t) (hstage3_3 ((cfg3.slots t 3).cast nbuf3_3)) X
  have e4 := fun X => owns_isWhole (F := F) (d := c) (M := st3_4 t) (hstage3_4 ((cfg3.slots t 4).cast nbuf3_4)) X
  iintro ⟨HΦ, Howes, ⟨%d0, H0⟩, ⟨%d1, H1⟩, ⟨%d2, H2⟩, ⟨%d3, H3⟩, ⟨%d4, H4⟩⟩
  ihave H0 := (Entails.of_eq (e0 _)) $$ H0
  ihave H1 := (Entails.of_eq (e1 _)) $$ H1
  ihave H2 := (Entails.of_eq (e2 _)) $$ H2
  ihave H3 := (Entails.of_eq (e3 _)) $$ H3
  ihave H4 := (Entails.of_eq (e4 _)) $$ H4
  icases H0 with ⟨%f0, %hf0, H0⟩
  icases H1 with ⟨%f1, %hf1, H1⟩
  icases H2 with ⟨%f2, %hf2, H2⟩
  icases H3 with ⟨%f3, %hf3, H3⟩
  icases H4 with ⟨%f4, -, H4⟩
  rw [before3_0] at hf0
  rw [before3_1] at hf1
  rw [before3_2] at hf2
  rw [before3_3] at hf3
  iapply (wp_codesProg (st3_0 t) (st3_1 t) (st3_2 t) (st3_3 t) (st3_4 t) _ c f0 f1 f2 f3 f4 (hstage3_0 ((cfg3.slots t 0).cast nbuf3_0)) (hstage3_1 ((cfg3.slots t 1).cast nbuf3_1))
      (hstage3_2 ((cfg3.slots t 2).cast nbuf3_2)) (hstage3_3 ((cfg3.slots t 3).cast nbuf3_3)) (hstage3_4 ((cfg3.slots t 4).cast nbuf3_4)) Set.univ _)
  isplitl [H0]; · iexact H0
  isplitl [H1]; · iexact H1
  isplitl [H2]; · iexact H2
  isplitl [H3]; · iexact H3
  isplitl [H4]; · iexact H4
  iintro %g ⟨%hg, H0, H1, H2, H3, H4⟩
  rw [hf0, hf1, hf2, hf3] at hg
  isplitl [HΦ]; · iapply (Entails.of_eq (show (dat3 W n c).Φ t.castSucc = (dat3 W n c).Φ t.succ from rfl)); iexact HΦ
  isplitl [Howes]; · iapply (Entails.of_eq (show (dat3 W n c).owesAt none t.castSucc = (dat3 W n c).owesAt none t.succ from rfl)); iexact Howes
  isplitl [H0]; · iapply (Entails.of_eq (e0 _).symm); iexists f0; isplitr; swap; (· iexact H0); ipureintro; exact hf0
  isplitl [H1]; · iapply (Entails.of_eq (e1 _).symm); iexists f1; isplitr; swap; (· iexact H1); ipureintro; exact hf1
  isplitl [H2]; · iapply (Entails.of_eq (e2 _).symm); iexists f2; isplitr; swap; (· iexact H2); ipureintro; exact hf2
  isplitl [H3]; · iapply (Entails.of_eq (e3 _).symm); iexists f3; isplitr; swap; (· iexact H3); ipureintro; exact hf3
  have h5 : (iprop((st3_4 t).view.loc (SparseCore.T c) ↦{fullShare} g) : sProp 𝕄) ⊢ owns (SparseCore.T c) (st3_4 t) fullShare ((dat3 W n c).after 4 t) := by
    rw [e4]
    iintro H; iexists g; isplitr; swap; (· iexact H); ipureintro; exact hg
  have h6 : (dat3 W n c).leavesExact 4 t = owns (SparseCore.T c) (st3_4 t) fullShare ((dat3 W n c).after 4 t) := by
    unfold Dat.leavesExact
    rw [flush3_4 t]
    cases cfg3.idle 4 (cfg3.grid.coords t) <;> rfl
  ihave H4 := (h5.trans (Entails.of_eq h6.symm)) $$ H4
  iexact H4

variable [∀ e, Nonempty (Elt F e)] (adm : (p : Fin 4) → (pcfgs (F := F) p).Adm)

/-- The proof data of a run of this call. -/
def pdats3 : (p : Fin 4) → (c : Dev nD) → Dat τ (Elt F) (HIx 3) ℕ UU ℕ (Pipeline.pin (pcfgs (F := F)) adm p) c
  | ⟨0, _⟩ => fun c => junkDat c
  | ⟨1, _⟩ => fun c => junkDat c
  | ⟨2, _⟩ => fun c => dat3 W n c
  | ⟨3, _⟩ => fun c => junkDat c

/-- The result's array after the call. -/
def codes3 (c : Dev nD) : Buf (Elt F) ((c : Thread nD τ).loc main_v9) := (dat3 W n c).arrAt 4 cfg3.N

set_option backward.isDefEq.respectTransparency.types false in
/-- The call as a region. -/
def reg3 (W' : Bufs F) (hout : ∀ c, W' c main_v9 = codes3 W n c) (hne : ∀ c (b : Ref sig .tc), b ≠ main_v9 → W' c b = W c b) :
    Pipeline.RegionSeg (pcfgs (F := F)) adm (pdats3 W n adm) none defs₀ 𝒱₀ (K (F := F)).L (K (F := F)).lev 2 where
  win := launch₀3.win
  block_pos := launch₀3.block_pos
  stage_whole := launch₀3.stage_whole
  K := PEmpty
  osem k := k.elim
  ho := Pipeline.OwnSemFacts.none _
  hbody c := (obligation3 W n c).loose
  hwaits c := Pipeline.cellsWaits_intro _ _ none 2 c fun w s t => (K (F := F)).mayWait_none _ (otc_none c n)
  pre c := around W n c
  post c := around W' n c
  X _ := BI.emp
  Y _ := BI.emp
  Z c := Pipeline.unscopedRest (Ix := HIx 3) (Name := ℕ) (U := UU) (Lvl := ℕ) spec3 c (W c)
  hentry c := by
    rw [Pipeline.ownSems0_none]
    have hsplit := Pipeline.arrays_of_unscopedBufs_shared (p := 2) (pcfgs (F := F)) adm (pdats3 W n adm) launch₀3.win launch₀3.sharedIn launch₀3.arr_whole c
      (fun _ _ => rfl) (W c) fun _ => rfl
    unfold around
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, %hS, HO⟩; iexists S; isplitr; · ipureintro; exact fun p hp => Or.inl (hS p hp)
      iexact HO
    isplitr; · iempintro
    iexact Hrest
  hin c := by
    rw [show (pdats3 W n adm 2 c).Φ 0 = Pipeline.scopedRest (Ix := HIx 3) (Name := ℕ) (U := UU) (Lvl := ℕ) (Val := Elt F) spec3 c from rfl]
    iintro ⟨-, -, Hr⟩; iexact Hr
  hout c := by
    rw [Pipeline.ownSems0_none, show (pdats3 W n adm 2 c).Φ (Fin.last _) = Pipeline.scopedRest (Ix := HIx 3) (Name := ℕ) (U := UU) (Lvl := ℕ) (Val := Elt F) spec3 c from rfl]
    iintro Hr
    isplitr; · iempintro
    isplitr; · iempintro
    iexact Hr
  hexit c := by
    have hjoin := Pipeline.unscopedBufs_of_arrays_shared (p := 2) (pcfgs (F := F)) adm (Ix := HIx 3) (Name := ℕ) (U := UU) (Lvl := ℕ) launch₀3.win launch₀3.sharedIn launch₀3.arr_whole c
      (pdats3 W n adm) (fun _ _ => rfl) (W c) (W' c) ((pdats3 W n adm 2 c).arrAt · cfg3.N)
      (fun w => by
        fin_cases w
        · exact ((pdats3 W n adm 2 c).arrAt_in 0 rfl _).trans (hne c main_v1_0 (by decide)).symm
        · exact ((pdats3 W n adm 2 c).arrAt_in 1 rfl _).trans (hne c main_v1_0 (by decide)).symm
        · exact ((pdats3 W n adm 2 c).arrAt_in 2 rfl _).trans (hne c main_v7 (by decide)).symm
        · exact ((pdats3 W n adm 2 c).arrAt_in 3 rfl _).trans (hne c main_v8 (by decide)).symm
        · exact (hout c).symm)
      (fun b hb => hne c b fun h => hb (h ▸ Finset.mem_image.mpr ⟨4, Finset.mem_univ _, rfl⟩))
    unfold around
    iintro ⟨Ha, HO, -, Hrest⟩
    imodintro
    isplitl [Ha Hrest]
    · iapply hjoin; isplitl [Ha] <;> iassumption
    unfold Pipeline.Dat.owesAt Pipeline.owesWithin
    icases HO with ⟨%S, %hS, HO⟩; iexists S; isplitr
    · ipureintro
      intro p hp
      rcases hS hp with h | ⟨w, s, h⟩
      · exact h
      · rw [h]; exact Nat.zero_le _
    iexact HO

end Call3

end Cert.Proof.Run
-- ==== Proof.CodesRegion5.lean ====
/-
  The third band's codes call as a region of @main: entered from any contents of the TensorCore's buffers, it leaves its
  result's array at the packed codes of its tiles and everything else as it was. What the core owes the SparseCore calls
  still to come rides through.
-/
module

public import proofs.«01_k».proof.Proof.CodesRegion1
public import Idealize.ShloMosaic.Lib.Pipeline.RegionsLoop
public import Idealize.ShloMosaic.Lib.Pipeline.FrameBody

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat BodyObligation)

variable {F : FTy → Type} [FloatOps F]

local notation "𝕄" => MT nD τ sig (HIx 3) (Elt F) ℕ UU ℕ

/-! ## The third band's codes call -/

section Call5

variable (W : Bufs F) (n : ℕ)

/-- The block a window reads at a point. -/
def blk5 (c : Dev nD) (w : Fin 5) (t : Fin cfg5.N) : ((cfg5.win w).srect (cfg5.grid.coords t)).shape.Idx → Elt F (cfg5.win w).elt :=
  ((cfg5.win w).blk t).view.read (Elt F) (W c (Pipeline.arrRef spec5 w))

/-- The codes of point `t`'s tile. -/
def tileOut5 (c : Dev nD) (t : Fin cfg5.N) : Vec F S512x128 .i32 :=
  tileCodes (decide (k5_cond1 (grid5.coords t) = 1#1)) (blk5 W c 0 t) (blk5 W c 1 t) (blk5 W c 2 t) (blk5 W c 3 t)

def dat5 (c : Dev nD) : Dat τ (Elt F) (HIx 3) ℕ UU ℕ cfg5 c where
  A w := W c (Pipeline.arrRef spec5 w)
  after w t := match w with
    | ⟨0, _⟩ => blk5 W c 0 t
    | ⟨1, _⟩ => blk5 W c 1 t
    | ⟨2, _⟩ => blk5 W c 2 t
    | ⟨3, _⟩ => blk5 W c 3 t
    | ⟨4, _⟩ => tileOut5 W c t
  Φ _ := Pipeline.scopedRest (Ix := HIx 3) (Name := ℕ) (U := UU) (Lvl := ℕ) (Val := Elt F) spec5 c
  q w := Pipeline.shareOf spec5 w
  owed _ := (K (F := F)).Otc c n
  recorded _ := seen (F := F) c n

theorem before5_0 (c : Dev nD) (t : Fin cfg5.N) (x) : (dat5 W n c).before 0 t x = blk5 W c 0 t :=
  (dat5 W n c).before_in_eq_fetched 0 rfl (fun _ => rfl) (fun _ _ _ => rfl) (fun _ => rfl) t x
theorem before5_1 (c : Dev nD) (t : Fin cfg5.N) (x) : (dat5 W n c).before 1 t x = blk5 W c 1 t :=
  (dat5 W n c).before_in_eq_fetched 1 rfl (fun _ => rfl) (fun _ _ _ => rfl) (fun _ => rfl) t x
theorem before5_2 (c : Dev nD) (t : Fin cfg5.N) (x) : (dat5 W n c).before 2 t x = blk5 W c 2 t :=
  (dat5 W n c).before_in_eq_fetched 2 rfl (fun _ => rfl) (fun _ _ _ => rfl) (fun _ => rfl) t x
theorem before5_3 (c : Dev nD) (t : Fin cfg5.N) (x) : (dat5 W n c).before 3 t x = blk5 W c 3 t :=
  (dat5 W n c).before_in_eq_fetched 3 rfl (fun _ => rfl) (fun _ _ _ => rfl) (fun _ => rfl) t x

theorem obligation5 (c : Dev nD) : BodyObligation (dat5 W n c) (defs₀ (F := F)) 𝒱₀ none Set.univ := fun t => by
  rw [bigSep_W5, bigSep_W5]
  have e : defs₀ (F := F) .tc cfg5.body (cfg5.bodyArgs t (cfg5.slots t)) = codesProg (st5_0 t) (st5_1 t) (st5_2 t) (st5_3 t) (st5_4 t) (decide (k5_cond1 (grid5.coords t) = 1#1)) :=
    body5_eq _ _ _ _ _ (hstage5_0 ((cfg5.slots t 0).cast nbuf5_0)) (hstage5_1 ((cfg5.slots t 1).cast nbuf5_1)) (hstage5_2 ((cfg5.slots t 2).cast nbuf5_2))
      (hstage5_3 ((cfg5.slots t 3).cast nbuf5_3)) (hstage5_4 ((cfg5.slots t 4).cast nbuf5_4)) (grid5.coords t)
  rw [e]
  have e0 := fun X => owns_isWhole (F := F) (d := c) (M := st5_0 t) (hstage5_0 ((cfg5.slots t 0).cast nbuf5_0)) X
  have e1 := fun X => owns_isWhole (F := F) (d := c) (M := st5_1 t) (hstage5_1 ((cfg5.slots t 1).cast nbuf5_1)) X
  have e2 := fun X => owns_isWhole (F := F) (d := c) (M := st5_2 t) (hstage5_2 ((cfg5.slots t 2).cast nbuf5_2)) X
  have e3 := fun X => owns_isWhole (F := F) (d := c) (M := st5_3 t) (hstage5_3 ((cfg5.slots t 3).cast nbuf5_3)) X
  have e4 := fun X => owns_isWhole (F := F) (d := c) (M := st5_4 t) (hstage5_4 ((cfg5.slots t 4).cast nbuf5_4)) X
  iintro ⟨HΦ, Howes, ⟨%d0, H0⟩, ⟨%d1, H1⟩, ⟨%d2, H2⟩, ⟨%d3, H3⟩, ⟨%d4, H4⟩⟩
  ihave H0 := (Entails.of_eq (e0 _)) $$ H0
  ihave H1 := (Entails.of_eq (e1 _)) $$ H1
  ihave H2 := (Entails.of_eq (e2 _)) $$ H2
  ihave H3 := (Entails.of_eq (e3 _)) $$ H3
  ihave H4 := (Entails.of_eq (e4 _)) $$ H4
  icases H0 with ⟨%f0, %hf0, H0⟩
  icases H1 with ⟨%f1, %hf1, H1⟩
  icases H2 with ⟨%f2, %hf2, H2⟩
  icases H3 with ⟨%f3, %hf3, H3⟩
  icases H4 with ⟨%f4, -, H4⟩
  rw [before5_0] at hf0
  rw [before5_1] at hf1
  rw [before5_2] at hf2
  rw [before5_3] at hf3
  iapply (wp_codesProg (st5_0 t) (st5_1 t) (st5_2 t) (st5_3 t) (st5_4 t) _ c f0 f1 f2 f3 f4 (hstage5_0 ((cfg5.slots t 0).cast nbuf5_0)) (hstage5_1 ((cfg5.slots t 1).cast nbuf5_1))
      (hstage5_2 ((cfg5.slots t 2).cast nbuf5_2)) (hstage5_3 ((cfg5.slots t 3).cast nbuf5_3)) (hstage5_4 ((cfg5.slots t 4).cast nbuf5_4)) Set.univ _)
  isplitl [H0]; · iexact H0
  isplitl [H1]; · iexact H1
  isplitl [H2]; · iexact H2
  isplitl [H3]; · iexact H3
  isplitl [H4]; · iexact H4
  iintro %g ⟨%hg, H0, H1, H2, H3, H4⟩
  rw [hf0, hf1, hf2, hf3] at hg
  isplitl [HΦ]; · iapply (Entails.of_eq (show (dat5 W n c).Φ t.castSucc = (dat5 W n c).Φ t.succ from rfl)); iexact HΦ
  isplitl [Howes]; · iapply (Entails.of_eq (show (dat5 W n c).owesAt none t.castSucc = (dat5 W n c).owesAt none t.succ from rfl)); iexact Howes
  isplitl [H0]; · iapply (Entails.of_eq (e0 _).symm); iexists f0; isplitr; swap; (· iexact H0); ipureintro; exact hf0
  isplitl [H1]; · iapply (Entails.of_eq (e1 _).symm); iexists f1; isplitr; swap; (· iexact H1); ipureintro; exact hf1
  isplitl [H2]; · iapply (Entails.of_eq (e2 _).symm); iexists f2; isplitr; swap; (· iexact H2); ipureintro; exact hf2
  isplitl [H3]; · iapply (Entails.of_eq (e3 _).symm); iexists f3; isplitr; swap; (· iexact H3); ipureintro; exact hf3
  have h5 : (iprop((st5_4 t).view.loc (SparseCore.T c) ↦{fullShare} g) : sProp 𝕄) ⊢ owns (SparseCore.T c) (st5_4 t) fullShare ((dat5 W n c).after 4 t) := by
    rw [e4]
    iintro H; iexists g; isplitr; swap; (· iexact H); ipureintro; exact hg
  have h6 : (dat5 W n c).leavesExact 4 t = owns (SparseCore.T c) (st5_4 t) fullShare ((dat5 W n c).after 4 t) := by
    unfold Dat.leavesExact
    rw [flush5_4 t]
    cases cfg5.idle 4 (cfg5.grid.coords t) <;> rfl
  ihave H4 := (h5.trans (Entails.of_eq h6.symm)) $$ H4
  iexact H4

variable [∀ e, Nonempty (Elt F e)] (adm : (p : Fin 4) → (pcfgs (F := F) p).Adm)

/-- The proof data of a run of this call. -/
def pdats5 : (p : Fin 4) → (c : Dev nD) → Dat τ (Elt F) (HIx 3) ℕ UU ℕ (Pipeline.pin (pcfgs (F := F)) adm p) c
  | ⟨0, _⟩ => fun c => junkDat c
  | ⟨1, _⟩ => fun c => junkDat c
  | ⟨2, _⟩ => fun c => junkDat c
  | ⟨3, _⟩ => fun c => dat5 W n c

/-- The result's array after the call. -/
def codes5 (c : Dev nD) : Buf (Elt F) ((c : Thread nD τ).loc main_v15) := (dat5 W n c).arrAt 4 cfg5.N

set_option backward.isDefEq.respectTransparency.types false in
/-- The call as a region. -/
def reg5 (W' : Bufs F) (hout : ∀ c, W' c main_v15 = codes5 W n c) (hne : ∀ c (b : Ref sig .tc), b ≠ main_v15 → W' c b = W c b) :
    Pipeline.RegionSeg (pcfgs (F := F)) adm (pdats5 W n adm) none defs₀ 𝒱₀ (K (F := F)).L (K (F := F)).lev 3 where
  win := launch₀5.win
  block_pos := launch₀5.block_pos
  stage_whole := launch₀5.stage_whole
  K := PEmpty
  osem k := k.elim
  ho := Pipeline.OwnSemFacts.none _
  hbody c := (obligation5 W n c).loose
  hwaits c := Pipeline.cellsWaits_intro _ _ none 3 c fun w s t => (K (F := F)).mayWait_none _ (otc_none c n)
  pre c := around W n c
  post c := around W' n c
  X _ := BI.emp
  Y _ := BI.emp
  Z c := Pipeline.unscopedRest (Ix := HIx 3) (Name := ℕ) (U := UU) (Lvl := ℕ) spec5 c (W c)
  hentry c := by
    rw [Pipeline.ownSems0_none]
    have hsplit := Pipeline.arrays_of_unscopedBufs_shared (p := 3) (pcfgs (F := F)) adm (pdats5 W n adm) launch₀5.win launch₀5.sharedIn launch₀5.arr_whole c
      (fun _ _ => rfl) (W c) fun _ => rfl
    unfold around
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, %hS, HO⟩; iexists S; isplitr; · ipureintro; exact fun p hp => Or.inl (hS p hp)
      iexact HO
    isplitr; · iempintro
    iexact Hrest
  hin c := by
    rw [show (pdats5 W n adm 3 c).Φ 0 = Pipeline.scopedRest (Ix := HIx 3) (Name := ℕ) (U := UU) (Lvl := ℕ) (Val := Elt F) spec5 c from rfl]
    iintro ⟨-, -, Hr⟩; iexact Hr
  hout c := by
    rw [Pipeline.ownSems0_none, show (pdats5 W n adm 3 c).Φ (Fin.last _) = Pipeline.scopedRest (Ix := HIx 3) (Name := ℕ) (U := UU) (Lvl := ℕ) (Val := Elt F) spec5 c from rfl]
    iintro Hr
    isplitr; · iempintro
    isplitr; · iempintro
    iexact Hr
  hexit c := by
    have hjoin := Pipeline.unscopedBufs_of_arrays_shared (p := 3) (pcfgs (F := F)) adm (Ix := HIx 3) (Name := ℕ) (U := UU) (Lvl := ℕ) launch₀5.win launch₀5.sharedIn launch₀5.arr_whole c
      (pdats5 W n adm) (fun _ _ => rfl) (W c) (W' c) ((pdats5 W n adm 3 c).arrAt · cfg5.N)
      (fun w => by
        fin_cases w
        · exact ((pdats5 W n adm 3 c).arrAt_in 0 rfl _).trans (hne c main_v1_0 (by decide)).symm
        · exact ((pdats5 W n adm 3 c).arrAt_in 1 rfl _).trans (hne c main_v1_0 (by decide)).symm
        · exact ((pdats5 W n adm 3 c).arrAt_in 2 rfl _).trans (hne c main_v13 (by decide)).symm
        · exact ((pdats5 W n adm 3 c).arrAt_in 3 rfl _).trans (hne c main_v14 (by decide)).symm
        · exact (hout c).symm)
      (fun b hb => hne c b fun h => hb (h ▸ Finset.mem_image.mpr ⟨4, Finset.mem_univ _, rfl⟩))
    unfold around
    iintro ⟨Ha, HO, -, Hrest⟩
    imodintro
    isplitl [Ha Hrest]
    · iapply hjoin; isplitl [Ha] <;> iassumption
    unfold Pipeline.Dat.owesAt Pipeline.owesWithin
    icases HO with ⟨%S, %hS, HO⟩; iexists S; isplitr
    · ipureintro
      intro p hp
      rcases hS hp with h | ⟨w, s, h⟩
      · exact h
      · rw [h]; exact Nat.zero_le _
    iexact HO

end Call5

end Cert.Proof.Run
-- ==== Proof.StatsRegion.lean ====
/-
  The statistics call as a region of @main: entered from any contents of the TensorCore's buffers, it leaves the
  normalised rows and the table of the four sums in its two results' arrays and everything else as it was.
-/
module

public import proofs.«01_k».proof.Proof.CodesRegion1
public import Idealize.ShloMosaic.Lib.Pipeline.RegionsLoop
public import Idealize.ShloMosaic.Lib.Pipeline.FrameBody

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat BodyObligation)

variable {F : FTy → Type} [FloatOps F]

local notation "𝕄" => MT nD τ sig (HIx 3) (Elt F) ℕ UU ℕ

/-! ## The statistics call -/

section Call0

variable (W : Bufs F) (n : ℕ)

/-- The block a window reads. -/
def blk0 (c : Dev nD) (w : Fin 4) (t : Fin cfg0.N) : ((cfg0.win w).srect (cfg0.grid.coords t)).shape.Idx → Elt F (cfg0.win w).elt :=
  ((cfg0.win w).blk t).view.read (Elt F) (W c (Pipeline.arrRef spec0 w))

def dat0 (c : Dev nD) : Dat τ (Elt F) (HIx 3) ℕ UU ℕ cfg0 c where
  A w := W c (Pipeline.arrRef spec0 w)
  after w t := match w with
    | ⟨0, _⟩ => blk0 W c 0 t
    | ⟨1, _⟩ => blk0 W c 1 t
    | ⟨2, _⟩ => k0_pay2 (blk0 W c 0 t)
    | ⟨3, _⟩ => statsTable (blk0 W c 0 t) (blk0 W c 1 t)
  Φ _ := Pipeline.scopedRest (Ix := HIx 3) (Name := ℕ) (U := UU) (Lvl := ℕ) (Val := Elt F) spec0 c
  q w := fullShare
  owed _ := (K (F := F)).Otc c n
  recorded _ := seen (F := F) c n

theorem before0_0 (c : Dev nD) (t : Fin cfg0.N) (x) : (dat0 W n c).before 0 t x = blk0 W c 0 t :=
  (dat0 W n c).before_in_eq_fetched 0 rfl (fun _ => rfl) (fun _ _ _ => rfl) (fun _ => rfl) t x
theorem before0_1 (c : Dev nD) (t : Fin cfg0.N) (x) : (dat0 W n c).before 1 t x = blk0 W c 1 t :=
  (dat0 W n c).before_in_eq_fetched 1 rfl (fun _ => rfl) (fun _ _ _ => rfl) (fun _ => rfl) t x

theorem obligation0 (c : Dev nD) : BodyObligation (dat0 W n c) (defs₀ (F := F)) 𝒱₀ none Set.univ := fun t => by
  rw [bigSep_W0, bigSep_W0]
  have e : defs₀ (F := F) .tc cfg0.body (cfg0.bodyArgs t (cfg0.slots t)) = cc0__stats_body (st0_0 t) (hstage0_0 0) (st0_1 t) (hstage0_1 0) (st0_2 t) (hstage0_2 0) (st0_3 t) (hstage0_3 0) := rfl
  rw [e]
  have e0 := fun X => owns_isWhole (F := F) (d := c) (M := st0_0 t) (hstage0_0 0) X
  have e1 := fun X => owns_isWhole (F := F) (d := c) (M := st0_1 t) (hstage0_1 0) X
  have e2 := fun X => owns_isWhole (F := F) (d := c) (M := st0_2 t) (hstage0_2 0) X
  have e3 := fun X => owns_isWhole (F := F) (d := c) (M := st0_3 t) (hstage0_3 0) X
  iintro ⟨HΦ, Howes, ⟨%d0, H0⟩, ⟨%d1, H1⟩, ⟨%d2, H2⟩, ⟨%d3, H3⟩⟩
  ihave H0 := (Entails.of_eq (e0 _)) $$ H0
  ihave H1 := (Entails.of_eq (e1 _)) $$ H1
  ihave H2 := (Entails.of_eq (e2 _)) $$ H2
  ihave H3 := (Entails.of_eq (e3 _)) $$ H3
  icases H0 with ⟨%f0, %hf0, H0⟩
  icases H1 with ⟨%f1, %hf1, H1⟩
  icases H2 with ⟨%f2, -, H2⟩
  icases H3 with ⟨%f3, -, H3⟩
  rw [before0_0] at hf0
  rw [before0_1] at hf1
  iapply (wp_stats (st0_0 t) (hstage0_0 0) (st0_1 t) (hstage0_1 0) (st0_2 t) (hstage0_2 0) (st0_3 t) (hstage0_3 0) c f0 f1 f2 f3 Set.univ _)
  isplitl [H0]; · iexact H0
  isplitl [H1]; · iexact H1
  isplitl [H2]; · iexact H2
  isplitl [H3]; · iexact H3
  iintro %g2 %g3 ⟨%hg, H0, H1, H2, H3⟩
  rw [hf0, hf1] at hg
  isplitl [HΦ]; · iapply (Entails.of_eq (show (dat0 W n c).Φ t.castSucc = (dat0 W n c).Φ t.succ from rfl)); iexact HΦ
  isplitl [Howes]; · iapply (Entails.of_eq (show (dat0 W n c).owesAt none t.castSucc = (dat0 W n c).owesAt none t.succ from rfl)); iexact Howes
  isplitl [H0]; · iapply (Entails.of_eq (e0 _).symm); iexists f0; isplitr; swap; (· iexact H0); ipureintro; exact hf0
  isplitl [H1]; · iapply (Entails.of_eq (e1 _).symm); iexists f1; isplitr; swap; (· iexact H1); ipureintro; exact hf1
  isplitl [H2]; · iapply (Entails.of_eq (e2 _).symm); iexists g2; isplitr; swap; (· iexact H2); ipureintro; exact hg.1
  iapply (Entails.of_eq (e3 _).symm); iexists g3; isplitr; swap; (· iexact H3); ipureintro; exact hg.2

variable [∀ e, Nonempty (Elt F e)] (adm : (p : Fin 4) → (pcfgs (F := F) p).Adm)

/-- The proof data of a run of this call. -/
def pdats0 : (p : Fin 4) → (c : Dev nD) → Dat τ (Elt F) (HIx 3) ℕ UU ℕ (Pipeline.pin (pcfgs (F := F)) adm p) c
  | ⟨0, _⟩ => fun c => dat0 W n c
  | ⟨1, _⟩ => fun c => junkDat c
  | ⟨2, _⟩ => fun c => junkDat c
  | ⟨3, _⟩ => fun c => junkDat c

/-- The normalised rows' array after the call. -/
def rows0 (c : Dev nD) : Buf (Elt F) ((c : Thread nD τ).loc main_v1_0) := (dat0 W n c).arrAt 2 cfg0.N
/-- The table's array after the call. -/
def table0 (c : Dev nD) : Buf (Elt F) ((c : Thread nD τ).loc main_v1_1) := (dat0 W n c).arrAt 3 cfg0.N

set_option backward.isDefEq.respectTransparency.types false in
/-- The call as a region. -/
def reg0 (W' : Bufs F) (hout : ∀ c, W' c main_v1_0 = rows0 W n c) (hout' : ∀ c, W' c main_v1_1 = table0 W n c) (hne : ∀ c (b : Ref sig .tc), b ≠ main_v1_0 → b ≠ main_v1_1 → W' c b = W c b) :
    Pipeline.RegionSeg (pcfgs (F := F)) adm (pdats0 W n adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 W n c).loose
  hwaits c := Pipeline.cellsWaits_intro _ _ none 0 c fun w s t => (K (F := F)).mayWait_none _ (otc_none c n)
  pre c := around W n c
  post c := around W' n c
  X _ := BI.emp
  Y _ := BI.emp
  Z c := Pipeline.unscopedRest (Ix := HIx 3) (Name := ℕ) (U := UU) (Lvl := ℕ) spec0 c (W c)
  hentry c := by
    rw [Pipeline.ownSems0_none]
    have hsplit := Pipeline.arrays_of_unscopedBufs (p := 0) (pcfgs (F := F)) adm (pdats0 W n adm) launch0.win launch0.arr_whole c
      ((pdats0 W n adm 0 c).share_full fun _ => rfl) (W c) fun _ => rfl
    unfold around
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%S, %hS, HO⟩; iexists S; isplitr; · ipureintro; exact fun p hp => Or.inl (hS p hp)
      iexact HO
    isplitr; · iempintro
    iexact Hrest
  hin c := by
    rw [show (pdats0 W n adm 0 c).Φ 0 = Pipeline.scopedRest (Ix := HIx 3) (Name := ℕ) (U := UU) (Lvl := ℕ) (Val := Elt F) spec0 c from rfl]
    iintro ⟨-, -, Hr⟩; iexact Hr
  hout c := by
    rw [Pipeline.ownSems0_none, show (pdats0 W n adm 0 c).Φ (Fin.last _) = Pipeline.scopedRest (Ix := HIx 3) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 3) (Name := ℕ) (U := UU) (Lvl := ℕ) launch0.win launch0.arr_whole c
      (pdats0 W n adm) ((pdats0 W n adm 0 c).share_full fun _ => rfl) (W c) (W' c) ((pdats0 W n adm 0 c).arrAt · cfg0.N)
      (fun w => by
        fin_cases w
        · exact ((pdats0 W n adm 0 c).arrAt_in 0 rfl _).trans (hne c main_arg0 (by decide) (by decide)).symm
        · exact ((pdats0 W n adm 0 c).arrAt_in 1 rfl _).trans (hne c main_v0 (by decide) (by decide)).symm
        · exact (hout c).symm
        · exact (hout' c).symm)
      (fun b hb => hne c b (fun h => hb (h ▸ Finset.mem_image.mpr ⟨2, Finset.mem_univ _, rfl⟩)) (fun h => hb (h ▸ Finset.mem_image.mpr ⟨3, Finset.mem_univ _, rfl⟩)))
    unfold around
    iintro ⟨Ha, HO, -, Hrest⟩
    imodintro
    isplitl [Ha Hrest]
    · iapply hjoin; isplitl [Ha] <;> iassumption
    unfold Pipeline.Dat.owesAt Pipeline.owesWithin
    icases HO with ⟨%S, %hS, HO⟩; iexists S; isplitr
    · ipureintro
      intro p hp
      rcases hS hp with h | ⟨w, s, h⟩
      · exact h
      · rw [h]; exact Nat.zero_le _
    iexact HO

end Call0

end Cert.Proof.Run
-- ==== Proof.Chain.lean ====
/-
  The program's main thread as lines of host operations, four TensorCore calls and three SparseCore calls, and what every buffer
  holds after each of them.
-/
module

public import proofs.«01_k».proof.Proof.HistJoin
public import proofs.«01_k».proof.Proof.CodesRegion1
public import proofs.«01_k».proof.Proof.CodesRegion3
public import proofs.«01_k».proof.Proof.CodesRegion5
public import proofs.«01_k».proof.Proof.StatsRegion
public import Idealize.ShloMosaic.Lib.StableHlo.Run

@[expose] public section

noncomputable section

namespace Cert.Proof.Run

open Cert.KernelIdeal Cert.KernelIdeal.Gen
open Idealize.ShloMosaic
open Idealize.ShloMosaic.TcCoe
open Idealize.SL Idealize.SL.Sem

variable {F : FTy → Type} [FloatOps F]

/-! ## The lines of host operations -/

/-- Host operations, line 0. -/
abbrev ops0 : List (HloOp τ sig (Elt F)) := [
  (StableHlo.reshape main_arg1 main_v0 (rfl : (.i32 : EltTy) = .i32) shapeCasts_S4096_S1x4096)]
/-- Host operations, line 1. -/
abbrev ops1 : List (HloOp τ sig (Elt F)) := [
  (StableHlo.reshape main_arg1 main_v2 (rfl : (.i32 : EltTy) = .i32) shapeCasts_S4096_S4096x1),
  (StableHlo.reshape main_arg1 main_v3 (rfl : (.i32 : EltTy) = .i32) shapeCasts_S4096_S1x4096)]
/-- Host operations, line 2. -/
abbrev ops2 : List (HloOp τ sig (Elt F)) := [
  (StableHlo.reshape main_v4 main_v5 (rfl : (.i32 : EltTy) = .i32) shapeCasts_S16384x128_S2097152)]
/-- Host operations, line 3. -/
abbrev ops3 : List (HloOp τ sig (Elt F)) := [
  (StableHlo.reshape main_arg1 main_v7 (rfl : (.i32 : EltTy) = .i32) shapeCasts_S4096_S4096x1),
  (StableHlo.reshape main_arg1 main_v8 (rfl : (.i32 : EltTy) = .i32) shapeCasts_S4096_S1x4096)]
/-- Host operations, line 4. -/
abbrev ops4 : List (HloOp τ sig (Elt F)) := [
  (StableHlo.reshape main_v9 main_v10 (rfl : (.i32 : EltTy) = .i32) shapeCasts_S8192x128_S1048576)]
/-- Host operations, line 5. -/
abbrev ops5 : List (HloOp τ sig (Elt F)) := [
  (StableHlo.binary main_v6 main_v11 main_v12 (addf : (⟨S131072, .f32⟩ : BufTy).Contents (Elt F) → (⟨S131072, .f32⟩ : BufTy).Contents (Elt F) → (⟨S131072, .f32⟩ : BufTy).Contents (Elt F))),
  (StableHlo.reshape main_arg1 main_v13 (rfl : (.i32 : EltTy) = .i32) shapeCasts_S4096_S4096x1),
  (StableHlo.reshape main_arg1 main_v14 (rfl : (.i32 : EltTy) = .i32) shapeCasts_S4096_S1x4096)]
/-- Host operations, line 6. -/
abbrev ops6 : List (HloOp τ sig (Elt F)) := [
  (StableHlo.reshape main_v15 main_v16 (rfl : (.i32 : EltTy) = .i32) shapeCasts_S8192x128_S1048576)]
/-- Host operations, line 7. -/
abbrev ops7 : List (HloOp τ sig (Elt F)) := [
  (StableHlo.binary main_v12 main_v17 main_v18 (addf : (⟨S131072, .f32⟩ : BufTy).Contents (Elt F) → (⟨S131072, .f32⟩ : BufTy).Contents (Elt F) → (⟨S131072, .f32⟩ : BufTy).Contents (Elt F))),
  (StableHlo.reshape main_v18 main_v19 (rfl : (.f32 : EltTy) = .f32) shapeCasts_S131072_S32x256x16),
  (StableHlo.nullary main_cst (constant S_ .f32 0x00000000#32)),
  (StableHlo.binary main_v19 main_cst main_v20 ((fun x v => Host.reduceAdd x v reducesTo_S32x256x16_S256_d0_2 h_S_) : (⟨S32x256x16, .f32⟩ : BufTy).Contents (Elt F) → (⟨S_, .f32⟩ : BufTy).Contents (Elt F) → (⟨S256, .f32⟩ : BufTy).Contents (Elt F))),
  (StableHlo.unary main_v20 main_v21 ((extractStridedSlice S100 ![0] · slices_S256_S100_0) : (⟨S256, .f32⟩ : BufTy).Contents (Elt F) → (⟨S100, .f32⟩ : BufTy).Contents (Elt F))),
  (StableHlo.unary main_v20 main_v22 ((extractStridedSlice S100 ![100] · slices_S256_S100_100) : (⟨S256, .f32⟩ : BufTy).Contents (Elt F) → (⟨S100, .f32⟩ : BufTy).Contents (Elt F))),
  (StableHlo.nullary main_cst_0 (constant S_ .f32 0x00000000#32)),
  (StableHlo.binary main_v22 main_cst_0 main_v23 ((fun x v => Host.reduceAdd x v reducesTo_S100_S_d0 h_S_) : (⟨S100, .f32⟩ : BufTy).Contents (Elt F) → (⟨S_, .f32⟩ : BufTy).Contents (Elt F) → (⟨S_, .f32⟩ : BufTy).Contents (Elt F))),
  (StableHlo.nullary main_cst_1 (constant S_ .f32 0x24E69595#32)),
  (StableHlo.binary main_v23 main_cst_1 main_v24 (addf : (⟨S_, .f32⟩ : BufTy).Contents (Elt F) → (⟨S_, .f32⟩ : BufTy).Contents (Elt F) → (⟨S_, .f32⟩ : BufTy).Contents (Elt F))),
  (StableHlo.unary main_v24 main_v25 (broadcastInDim S100 ![] bcast_S_S100 : (⟨S_, .f32⟩ : BufTy).Contents (Elt F) → (⟨S100, .f32⟩ : BufTy).Contents (Elt F))),
  (StableHlo.binary main_v22 main_v25 main_v26 (Host.divf : (⟨S100, .f32⟩ : BufTy).Contents (Elt F) → (⟨S100, .f32⟩ : BufTy).Contents (Elt F) → (⟨S100, .f32⟩ : BufTy).Contents (Elt F))),
  (StableHlo.nullary main_cst_2 (constant S_ .f32 0x00000000#32)),
  (StableHlo.binary main_v21 main_cst_2 main_v27 ((fun x v => Host.reduceAdd x v reducesTo_S100_S_d0 h_S_) : (⟨S100, .f32⟩ : BufTy).Contents (Elt F) → (⟨S_, .f32⟩ : BufTy).Contents (Elt F) → (⟨S_, .f32⟩ : BufTy).Contents (Elt F))),
  (StableHlo.nullary main_cst_3 (constant S_ .f32 0x24E69595#32)),
  (StableHlo.binary main_v27 main_cst_3 main_v28 (addf : (⟨S_, .f32⟩ : BufTy).Contents (Elt F) → (⟨S_, .f32⟩ : BufTy).Contents (Elt F) → (⟨S_, .f32⟩ : BufTy).Contents (Elt F))),
  (StableHlo.unary main_v28 main_v29 (broadcastInDim S100 ![] bcast_S_S100 : (⟨S_, .f32⟩ : BufTy).Contents (Elt F) → (⟨S100, .f32⟩ : BufTy).Contents (Elt F))),
  (StableHlo.binary main_v21 main_v29 main_v30 (Host.divf : (⟨S100, .f32⟩ : BufTy).Contents (Elt F) → (⟨S100, .f32⟩ : BufTy).Contents (Elt F) → (⟨S100, .f32⟩ : BufTy).Contents (Elt F))),
  (StableHlo.binary main_v26 main_v30 main_v31 (minimumf : (⟨S100, .f32⟩ : BufTy).Contents (Elt F) → (⟨S100, .f32⟩ : BufTy).Contents (Elt F) → (⟨S100, .f32⟩ : BufTy).Contents (Elt F))),
  (StableHlo.nullary main_cst_4 (constant S_ .f32 0x00000000#32)),
  (StableHlo.binary main_v31 main_cst_4 main_v32 ((fun x v => Host.reduceAdd x v reducesTo_S100_S_d0 h_S_) : (⟨S100, .f32⟩ : BufTy).Contents (Elt F) → (⟨S_, .f32⟩ : BufTy).Contents (Elt F) → (⟨S_, .f32⟩ : BufTy).Contents (Elt F))),
  (StableHlo.unary main_v1_1 main_v33 ((extractStridedSlice S1x1 ![0, 0] · slices_S8x128_S1x1_0_0) : (⟨S8x128, .f32⟩ : BufTy).Contents (Elt F) → (⟨S1x1, .f32⟩ : BufTy).Contents (Elt F))),
  (StableHlo.reshape main_v33 main_v34 (rfl : (.f32 : EltTy) = .f32) shapeCasts_S1x1_S_),
  (StableHlo.unary main_v1_1 main_v35 ((extractStridedSlice S1x1 ![0, 1] · slices_S8x128_S1x1_0_1) : (⟨S8x128, .f32⟩ : BufTy).Contents (Elt F) → (⟨S1x1, .f32⟩ : BufTy).Contents (Elt F))),
  (StableHlo.reshape main_v35 main_v36 (rfl : (.f32 : EltTy) = .f32) shapeCasts_S1x1_S_),
  (StableHlo.unary main_v1_1 main_v37 ((extractStridedSlice S1x1 ![0, 2] · slices_S8x128_S1x1_0_2) : (⟨S8x128, .f32⟩ : BufTy).Contents (Elt F) → (⟨S1x1, .f32⟩ : BufTy).Contents (Elt F))),
  (StableHlo.reshape main_v37 main_v38 (rfl : (.f32 : EltTy) = .f32) shapeCasts_S1x1_S_),
  (StableHlo.unary main_v1_1 main_v39 ((extractStridedSlice S1x1 ![0, 3] · slices_S8x128_S1x1_0_3) : (⟨S8x128, .f32⟩ : BufTy).Contents (Elt F) → (⟨S1x1, .f32⟩ : BufTy).Contents (Elt F))),
  (StableHlo.reshape main_v39 main_v40 (rfl : (.f32 : EltTy) = .f32) shapeCasts_S1x1_S_),
  (StableHlo.binary main_v36 main_v40 main_v41 (subf : (⟨S_, .f32⟩ : BufTy).Contents (Elt F) → (⟨S_, .f32⟩ : BufTy).Contents (Elt F) → (⟨S_, .f32⟩ : BufTy).Contents (Elt F))),
  (StableHlo.nullary main_cst_5 (constant S_ .f32 0x45800000#32)),
  (StableHlo.binary main_v38 main_cst_5 main_v42 (subf : (⟨S_, .f32⟩ : BufTy).Contents (Elt F) → (⟨S_, .f32⟩ : BufTy).Contents (Elt F) → (⟨S_, .f32⟩ : BufTy).Contents (Elt F))),
  (StableHlo.binary main_v41 main_v42 main_v43 (Host.divf : (⟨S_, .f32⟩ : BufTy).Contents (Elt F) → (⟨S_, .f32⟩ : BufTy).Contents (Elt F) → (⟨S_, .f32⟩ : BufTy).Contents (Elt F))),
  (StableHlo.binary main_v34 main_v36 main_v44 (subf : (⟨S_, .f32⟩ : BufTy).Contents (Elt F) → (⟨S_, .f32⟩ : BufTy).Contents (Elt F) → (⟨S_, .f32⟩ : BufTy).Contents (Elt F))),
  (StableHlo.nullary main_cst_6 (constant S_ .f32 0x45800000#32)),
  (StableHlo.nullary main_cst_7 (constant S_ .f32 0x45800000#32)),
  (StableHlo.binary main_cst_6 main_cst_7 main_v45 (mulf : (⟨S_, .f32⟩ : BufTy).Contents (Elt F) → (⟨S_, .f32⟩ : BufTy).Contents (Elt F) → (⟨S_, .f32⟩ : BufTy).Contents (Elt F))),
  (StableHlo.binary main_v45 main_v38 main_v46 (subf : (⟨S_, .f32⟩ : BufTy).Contents (Elt F) → (⟨S_, .f32⟩ : BufTy).Contents (Elt F) → (⟨S_, .f32⟩ : BufTy).Contents (Elt F))),
  (StableHlo.binary main_v44 main_v46 main_v47 (Host.divf : (⟨S_, .f32⟩ : BufTy).Contents (Elt F) → (⟨S_, .f32⟩ : BufTy).Contents (Elt F) → (⟨S_, .f32⟩ : BufTy).Contents (Elt F))),
  (StableHlo.binary main_v43 main_v47 main_v48 (subf : (⟨S_, .f32⟩ : BufTy).Contents (Elt F) → (⟨S_, .f32⟩ : BufTy).Contents (Elt F) → (⟨S_, .f32⟩ : BufTy).Contents (Elt F))),
  (StableHlo.nullary main_cst_8 (constant S_ .f32 0x3DCCCCCD#32)),
  (StableHlo.binary main_cst_8 main_v48 main_v49 (subf : (⟨S_, .f32⟩ : BufTy).Contents (Elt F) → (⟨S_, .f32⟩ : BufTy).Contents (Elt F) → (⟨S_, .f32⟩ : BufTy).Contents (Elt F))),
  (StableHlo.TRef.nullary main_call0.cst (constant S_ .f32 0x00000000#32)),
  (StableHlo.TRef.binary (.of main_v49 : StableHlo.TRef sig ⟨S_, .f32⟩) main_call0.cst main_call0.v0 maximumf),
  (StableHlo.binary main_v32 main_v50 main_v51 (addf : (⟨S_, .f32⟩ : BufTy).Contents (Elt F) → (⟨S_, .f32⟩ : BufTy).Contents (Elt F) → (⟨S_, .f32⟩ : BufTy).Contents (Elt F)))]

/-- The call of TensorCore pipeline `p`. -/
abbrev enter (p : Fin 4) : Prog (TpuEff nD τ sig (Elt F) (SparseCore.Sig (ΛP (F := F)) 3) .tc) PUnit :=
  Prog.lift (.customCall (SparseCore.inner (Pipeline.entry p)) ())

set_option maxRecDepth 16384 in
set_option maxHeartbeats 4000000 in
/-- The main thread, line by line. -/
theorem main_eq (d : Dev nD) : main (F := F) d =
    (StableHlo.seq ops0 >>= fun _ => enter 0 >>= fun _ => StableHlo.seq ops1 >>= fun _ => enter 1 >>= fun _ => StableHlo.seq ops2 >>= fun _ => (K (F := F)).run d 0 >>= fun _ =>
      StableHlo.seq ops3 >>= fun _ => enter 2 >>= fun _ => StableHlo.seq ops4 >>= fun _ => (K (F := F)).run d 1 >>= fun _ =>
      StableHlo.seq ops5 >>= fun _ => enter 3 >>= fun _ => StableHlo.seq ops6 >>= fun _ => (K (F := F)).run d 2 >>= fun _ => StableHlo.seq ops7 >>= fun _ => pure ⟨⟩) := by
  unfold main main_part0 main_part1 fn_relu.body
  simp only [ops0, ops1, ops2, ops3, ops4, ops5, ops6, ops7, StableHlo.seq, bind_assoc, pure_bind]

/-! ## What the buffers hold -/

/-- A valuation with one buffer's contents replaced. -/
def repl (V : Valuation τ sig (Elt F)) (b : Ref sig .tc) (x : (Proc.devRef (τ := τ) .tc b).ty.Contents (Elt F)) : Valuation τ sig (Elt F) :=
  Function.update V (Proc.devRef .tc b) x
theorem repl_self (V : Valuation τ sig (Elt F)) (b : Ref sig .tc) (x) : repl V b x (Proc.devRef .tc b) = x := Function.update_self ..
theorem repl_ne (V : Valuation τ sig (Elt F)) (b : Ref sig .tc) (x) (b' : Ref sig .tc) (h : b' ≠ b) : repl V b x (Proc.devRef .tc b') = V (Proc.devRef .tc b') :=
  Function.update_of_ne (fun e => h (Proc.devRef_injective (.tc : Proc τ) e)) _ _

/-- The TensorCore's buffers at a valuation per device. -/
def bufs (U : Dev nD → Valuation τ sig (Elt F)) : Bufs F := fun c b => U c (Proc.devRef .tc b)

variable (m : (ℓ : Loc nD τ sig) → Buf (Elt F) ℓ)

/-- At the launch. -/
def U0 (d : Dev nD) : Valuation τ sig (Elt F) := fun b => m (d, b)
/-- After line 0. -/
def U1 (d : Dev nD) : Valuation τ sig (Elt F) := StableHlo.after ops0 (U0 m d)
/-- After the statistics call. -/
def U2 (d : Dev nD) : Valuation τ sig (Elt F) := repl (repl (U1 m d) main_v1_0 (rows0 (bufs (U1 m)) 0 d)) main_v1_1 (table0 (bufs (U1 m)) 0 d)
/-- After line 1. -/
def U3 (d : Dev nD) : Valuation τ sig (Elt F) := StableHlo.after ops1 (U2 m d)
/-- After a codes call. -/
def U4 (d : Dev nD) : Valuation τ sig (Elt F) := repl (U3 m d) main_v4 (codes1 (bufs (U3 m)) 0 d)
/-- After line 2. -/
def U5 (d : Dev nD) : Valuation τ sig (Elt F) := StableHlo.after ops2 (U4 m d)
/-- After histogram call 0. -/
def U6 (d : Dev nD) : Valuation τ sig (Elt F) := repl (U5 m d) main_v6 (join (outTile0 (U5 m d (Proc.devRef .tc main_v5))))
/-- After line 3. -/
def U7 (d : Dev nD) : Valuation τ sig (Elt F) := StableHlo.after ops3 (U6 m d)
/-- After a codes call. -/
def U8 (d : Dev nD) : Valuation τ sig (Elt F) := repl (U7 m d) main_v9 (codes3 (bufs (U7 m)) 1 d)
/-- After line 4. -/
def U9 (d : Dev nD) : Valuation τ sig (Elt F) := StableHlo.after ops4 (U8 m d)
/-- After histogram call 1. -/
def U10 (d : Dev nD) : Valuation τ sig (Elt F) := repl (U9 m d) main_v11 (join (outTile1 (U9 m d (Proc.devRef .tc main_v10))))
/-- After line 5. -/
def U11 (d : Dev nD) : Valuation τ sig (Elt F) := StableHlo.after ops5 (U10 m d)
/-- After a codes call. -/
def U12 (d : Dev nD) : Valuation τ sig (Elt F) := repl (U11 m d) main_v15 (codes5 (bufs (U11 m)) 2 d)
/-- After line 6. -/
def U13 (d : Dev nD) : Valuation τ sig (Elt F) := StableHlo.after ops6 (U12 m d)
/-- After histogram call 2. -/
def U14 (d : Dev nD) : Valuation τ sig (Elt F) := repl (U13 m d) main_v17 (join (outTile1 (U13 m d (Proc.devRef .tc main_v16))))
/-- After line 7. -/
def U15 (d : Dev nD) : Valuation τ sig (Elt F) := StableHlo.after ops7 (U14 m d)

/-- The codes the three histogram calls read. -/
def codesOf : Codes F where
  c0 d := U5 m d (Proc.devRef .tc main_v5)
  c1 d := U9 m d (Proc.devRef .tc main_v10)
  c2 d := U13 m d (Proc.devRef .tc main_v16)

end Cert.Proof.Run
-- ==== Proof.Steps.lean ====
/-
  The three kinds of steps of the program's main thread — a line of host operations, a TensorCore call, a SparseCore call — each
  from every unscoped buffer at a valuation to every one at the next.
-/
module

public import proofs.«01_k».proof.Proof.Chain
public import Idealize.ShloMosaic.Lib.SparseCore.Quiescent

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe

variable {F : FTy → Type} [FloatOps F]

local notation "𝕄" => MT nD τ sig (HIx 3) (Elt F) ℕ UU ℕ

/-- The buffers the main thread keeps across its calls. -/
def ucRefs : Finset (DevRef τ sig) := (StableHlo.tcRefs τ sig).filter fun b => ¬ b.isScoped

theorem mem_ucRefs (b : Ref sig .tc) (h : ¬ b.isScoped) : Proc.devRef (τ := τ) .tc b ∈ ucRefs :=
  Finset.mem_filter.mpr ⟨StableHlo.devRef_mem_tcRefs b, h⟩

theorem unscopedBufs_held (d : Dev nD) (W : Valuation τ sig (Elt F)) :
    (unscopedBufs d (fun b => W (Proc.devRef .tc b)) : sProp 𝕄) = StableHlo.held (d : Thread nD τ) ucRefs W := by
  unfold unscopedBufs StableHlo.held ucRefs StableHlo.tcRefs
  rw [Finset.filter_map, bigSep_map]
  rfl

section Steps

variable {β : Type}

/-- A line of host operations. -/
theorem host_step {E : Set ℕ} {Q : β → sProp 𝕄} (d : Dev nD) (ops : List (HloOp τ sig (Elt F))) (hS : ∀ op ∈ ops, op.bufs ⊆ ucRefs) (hf : ∀ op ∈ ops, op.fresh = ∅)
    (U : Valuation τ sig (Elt F)) (k : PUnit → Prog (TpuEff nD τ sig (Elt F) (SparseCore.Sig (ΛP (F := F)) 3) .tc) β) :
    (iprop(boundary (d.tc : Thread nD τ) ∗ unscopedBufs d (fun b => U (Proc.devRef .tc b))
      ∗ ((boundary (d.tc : Thread nD τ) ∗ unscopedBufs d (fun b => StableHlo.after ops U (Proc.devRef .tc b)))
          -∗ wp frame (wpE ((K (F := F)).defs D) 𝒱 (d.tc : Thread nD τ) none) E (k ⟨⟩) Q)) : sProp 𝕄)
      ⊢ wp frame (wpE ((K (F := F)).defs D) 𝒱 (d.tc : Thread nD τ) none) E (StableHlo.seq ops >>= k) Q := by
  rw [unscopedBufs_held, unscopedBufs_held]
  have h := StableHlo.wp_seq (defs := (K (F := F)).defs D) (bd := none) (K := Q) 𝒱 E d ucRefs k ops hS hf U
  iintro ⟨Hb, Hu, Hk⟩
  iapply h $$ [Hb Hu]
  · isplitl [Hb] <;> iassumption
  iexact Hk

theorem two_of_held (d : Dev nD) (a b : Ref sig .tc) (ha : ¬ a.isScoped) (hb : ¬ b.isScoped) (hab : a ≠ b) (V : Valuation τ sig (Elt F)) :
    (StableHlo.held (d : Thread nD τ) ucRefs V : sProp 𝕄)
      = iprop((((d.tc : Thread nD τ).loc a ↦{fullShare} V (Proc.devRef .tc a)) ∗ ((d.tc : Thread nD τ).loc b ↦{fullShare} V (Proc.devRef .tc b)))
          ∗ StableHlo.held (d : Thread nD τ) (ucRefs \ {Proc.devRef .tc a, Proc.devRef .tc b}) V) := by
  have hT : ({Proc.devRef .tc a, Proc.devRef .tc b} : Finset (DevRef τ sig)) ⊆ ucRefs := by
    intro x hx
    rcases Finset.mem_insert.mp hx with rfl | hx
    · exact mem_ucRefs a ha
    · rw [Finset.mem_singleton.mp hx]; exact mem_ucRefs b hb
  rw [StableHlo.held_sub_split _ hT V]
  congr 1
  unfold StableHlo.held
  rw [SparseCore.bigSep_insert' (by rw [Finset.mem_singleton]; exact fun e => hab (Proc.devRef_injective (.tc : Proc τ) e)), bigSep_singleton]

/-- A histogram call, given what it is dealt and what it hands back. -/
theorem call_step (X : Codes F) (κ : GSem nD τ sig → ℕ) (d : Dev nD) (q : Fin 3) (U : Valuation τ sig (Elt F))
    (a b : Ref sig .tc) (ha : ¬ a.isScoped) (hb : ¬ b.isScoped) (hab : a ≠ b) (y)
    (hst : (iprop(((d.tc : Thread nD τ).loc a ↦{fullShare} U (Proc.devRef .tc a)) ∗ ((d.tc : Thread nD τ).loc b ↦{fullShare} U (Proc.devRef .tc b))) : sProp 𝕄)
      ⊢ bigSep Finset.univ fun c : Fin ((K (F := F)).nCore q) => (P X).st q d c)
    (hdn : (bigSep Finset.univ fun c : Fin ((K (F := F)).nCore q) => (P X).dn q d c : sProp 𝕄)
      ⊢ iprop(((d.tc : Thread nD τ).loc a ↦{fullShare} U (Proc.devRef .tc a)) ∗ ((d.tc : Thread nD τ).loc b ↦{fullShare} y)))
    (k : PUnit → Prog (TpuEff nD τ sig (Elt F) (SparseCore.Sig (ΛP (F := F)) 3) .tc) β) {Q : β → sProp 𝕄} :
    (iprop((K (F := F)).ctx EH (P X) κ ∗ (K (F := F)).tcSt EH d q.val ∗ unscopedBufs d (fun b => U (Proc.devRef .tc b))
      ∗ (((K (F := F)).tcSt EH d (q.val + 1) ∗ unscopedBufs d (fun b' => repl U b y (Proc.devRef .tc b')))
          -∗ wp frame (wpE ((K (F := F)).defs D) 𝒱 (d.tc : Thread nD τ) none) Set.univ (k ⟨⟩) Q)) : sProp 𝕄)
      ⊢ wp frame (wpE ((K (F := F)).defs D) 𝒱 (d.tc : Thread nD τ) none) Set.univ ((K (F := F)).run d q >>= k) Q := by
  rw [unscopedBufs_held, unscopedBufs_held, two_of_held d a b ha hb hab U, two_of_held d a b ha hb hab (repl U b y), wp_bind,
    repl_self, repl_ne U b y a hab]
  have hrest : (StableHlo.held (d : Thread nD τ) (ucRefs \ {Proc.devRef .tc a, Proc.devRef .tc b}) (repl U b y) : sProp 𝕄)
      = StableHlo.held (d : Thread nD τ) (ucRefs \ {Proc.devRef .tc a, Proc.devRef .tc b}) U := by
    refine StableHlo.held_congr _ fun x hx => ?_
    refine Function.update_of_ne (fun e => ?_) _ _
    rw [e] at hx
    exact (Finset.mem_sdiff.mp hx).2 (Finset.mem_insert_of_mem (Finset.mem_singleton_self _))
  rw [hrest]
  iintro ⟨#Hctx, Hst, ⟨Hab, Hr⟩, Hk⟩
  iapply ((K (F := F)).wp_run (D (F := F)) 𝒱 (EH := EH) (P := P X) κ d q) $$ [Hst Hab Hr Hk]
  isplitr; · iexact Hctx
  isplitl [Hst]; · iexact Hst
  isplitl [Hab]; · iapply hst; iexact Hab
  iintro ⟨Hst, Hdn⟩
  ihave Hdn := hdn $$ Hdn
  iapply Hk
  isplitl [Hst]; · iexact Hst
  isplitl [Hdn] <;> iassumption

/-- The contents the launch pins (none). -/
abbrev adm : (p : Fin 4) → (pcfgs (F := F) p).Adm := fun p => (cfgs p).toPCfg_adm

theorem cellInj : Function.Injective (Pipeline.cellOf (nD := nD) (τ := τ) (Pipeline.pin (pcfgs (F := F)) adm)) := cellOf_inj

variable [∀ e, Nonempty (Elt F e)]

/-- A TensorCore call whose region starts and ends around its buffers. -/
theorem enter_step (X : Codes F) (κ : GSem nD τ sig → ℕ) (d : Dev nD) (n : ℕ) (p : Fin 4) (W W' : Bufs F)
    (pdats : (p : Fin 4) → (c : Dev nD) → Pipeline.Dat τ (Elt F) (HIx 3) ℕ UU ℕ (Pipeline.pin (pcfgs (F := F)) adm p) c)
    (R : Pipeline.RegionSeg (pcfgs (F := F)) adm pdats none defs₀ 𝒱₀ (K (F := F)).L (K (F := F)).lev p)
    (hpre : R.pre d = around W n d) (hpost : R.post d = around W' n d)
    (k : PUnit → Prog (TpuEff nD τ sig (Elt F) (SparseCore.Sig (ΛP (F := F)) 3) .tc) β) {Q : β → sProp 𝕄} :
    (iprop((K (F := F)).ctx EH (P X) κ ∗ boundary (d.tc : Thread nD τ) ∗ (K (F := F)).tcSt EH d n ∗ unscopedBufs d (W d)
      ∗ Pipeline.cellsGhost (Pipeline.pin (pcfgs (F := F)) adm) EP p d ∗ Pipeline.toksInit (Pipeline.pin (pcfgs (F := F)) adm) EP p d
      ∗ ((boundary (d.tc : Thread nD τ) ∗ (K (F := F)).tcSt EH d n ∗ unscopedBufs d (W' d))
          -∗ wp frame (wpE ((K (F := F)).defs D) 𝒱 (d.tc : Thread nD τ) none) Set.univ (k ⟨⟩) Q)) : sProp 𝕄)
      ⊢ wp frame (wpE ((K (F := F)).defs D) 𝒱 (d.tc : Thread nD τ) none) Set.univ (enter p >>= k) Q := by
  rw [wp_bind]
  have h1 := fun (Φ : PUnit → sProp 𝕄) => (K (F := F)).wp_liftProg (D (F := F)) 𝒱 (d.tc : Thread nD τ) (Set.univ : Set ℕ) none
    (Prog.lift (.customCall (Pipeline.entry p) ()) : Prog (TpuEff nD τ sig (Elt F) (ΛP (F := F)) .tc) PUnit) Φ (U := UU)
  have h2 := fun (Φ : PUnit → sProp 𝕄) => Pipeline.RegionSeg.wp (pcfgs (F := F)) adm pdats none cellInj EP defs₀ 𝒱₀ (K (F := F)).L (K (F := F)).lev R d none (fun u hu => nomatch hu)
    (fun x => .ret x) Φ
  iintro ⟨#Hctx, Hb, Hst, Hu, Hg, Ht, Hk⟩
  ihave Hlev := ((K (F := F)).ctx_levAts κ) $$ Hctx
  unfold SparseCore.Cfg.tcSt
  icases Hst with ⟨HO, Hst⟩
  iapply (h1 _)
  iapply (h2 _)
  isplitl [Hk Hst]
  · iintro ⟨Hb, Hpost⟩
    ihave Hpost := (Entails.of_eq hpost) $$ Hpost
    unfold around
    icases Hpost with ⟨Hu, HO⟩
    iapply (Entails.of_eq (wp_pure _ _ _ _ _).symm)
    imodintro
    iapply Hk
    isplitl [Hb]; · iexact Hb
    isplitr [Hu]
    · isplitl [HO]; · iexact HO
      iexact Hst
    iexact Hu
  isplitl [Hb]; · iexact Hb
  isplitl [Hu HO]
  · iapply (Entails.of_eq hpre.symm)
    unfold around
    isplitl [Hu]; · iexact Hu
    iexact HO
  isplitl [Hlev]; · iexact Hlev
  isplitl [Hg] <;> iassumption

end Steps

end Cert.Proof.Run
-- ==== Proof.Main.lean ====
/-
  The program's run: the main thread through its steps, the launch's ghost state, and the theorem that every run ends with the
  arguments as they were and the result at the last valuation's.
-/
module

public import proofs.«01_k».proof.Proof.Steps

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 3) (Elt F) ℕ UU ℕ

/-! ## What the lines touch -/

theorem sub_of_forall {ops : List (HloOp τ sig (Elt F))} (h : ops.Forall fun op => op.bufs ⊆ StableHlo.tcRefs τ sig) : ∀ op ∈ ops, op.bufs ⊆ ucRefs :=
  fun op hop b hb => Finset.mem_filter.mpr ⟨(List.forall_iff_forall_mem.mp h) op hop hb, fun h' => Bool.false_ne_true ((op.no_scoped b hb).symm.trans h')⟩
theorem fresh_of_forall {ops : List (HloOp τ sig (Elt F))} (h : ops.Forall fun op => op.fresh = ∅) : ∀ op ∈ ops, op.fresh = ∅ := List.forall_iff_forall_mem.mp h
theorem keeps_of_forall {b : DevRef τ sig} {ops : List (HloOp τ sig (Elt F))} (h : ops.Forall fun op => b ∉ op.writes) : ∀ op ∈ ops, b ∉ op.writes := List.forall_iff_forall_mem.mp h
theorem not_written {b y : Ref sig .tc} (h : b ≠ y) : Proc.devRef (τ := τ) .tc b ∉ ({Proc.devRef .tc y} : Finset (DevRef τ sig)) := fun hm =>
  h (Proc.devRef_injective (.tc : Proc τ) (Finset.mem_singleton.mp hm))

theorem sub0 : ∀ op ∈ (ops0 : List (HloOp τ sig (Elt F))), op.bufs ⊆ ucRefs := sub_of_forall (StableHlo.reshape_bufs_sub ..)
theorem fresh0 : ∀ op ∈ (ops0 : List (HloOp τ sig (Elt F))), op.fresh = ∅ := fresh_of_forall (rfl)
theorem arg0_0 : ∀ op ∈ (ops0 : List (HloOp τ sig (Elt F))), Proc.devRef (τ := τ) .tc main_arg0 ∉ op.writes := keeps_of_forall (not_written (by decide))
theorem arg1_0 : ∀ op ∈ (ops0 : List (HloOp τ sig (Elt F))), Proc.devRef (τ := τ) .tc main_arg1 ∉ op.writes := keeps_of_forall (not_written (by decide))
theorem sub1 : ∀ op ∈ (ops1 : List (HloOp τ sig (Elt F))), op.bufs ⊆ ucRefs := sub_of_forall ⟨StableHlo.reshape_bufs_sub .., StableHlo.reshape_bufs_sub ..⟩
theorem fresh1 : ∀ op ∈ (ops1 : List (HloOp τ sig (Elt F))), op.fresh = ∅ := fresh_of_forall ⟨rfl, rfl⟩
theorem arg0_1 : ∀ op ∈ (ops1 : List (HloOp τ sig (Elt F))), Proc.devRef (τ := τ) .tc main_arg0 ∉ op.writes := keeps_of_forall ⟨not_written (by decide), not_written (by decide)⟩
theorem arg1_1 : ∀ op ∈ (ops1 : List (HloOp τ sig (Elt F))), Proc.devRef (τ := τ) .tc main_arg1 ∉ op.writes := keeps_of_forall ⟨not_written (by decide), not_written (by decide)⟩
theorem sub2 : ∀ op ∈ (ops2 : List (HloOp τ sig (Elt F))), op.bufs ⊆ ucRefs := sub_of_forall (StableHlo.reshape_bufs_sub ..)
theorem fresh2 : ∀ op ∈ (ops2 : List (HloOp τ sig (Elt F))), op.fresh = ∅ := fresh_of_forall (rfl)
theorem arg0_2 : ∀ op ∈ (ops2 : List (HloOp τ sig (Elt F))), Proc.devRef (τ := τ) .tc main_arg0 ∉ op.writes := keeps_of_forall (not_written (by decide))
theorem arg1_2 : ∀ op ∈ (ops2 : List (HloOp τ sig (Elt F))), Proc.devRef (τ := τ) .tc main_arg1 ∉ op.writes := keeps_of_forall (not_written (by decide))
theorem sub3 : ∀ op ∈ (ops3 : List (HloOp τ sig (Elt F))), op.bufs ⊆ ucRefs := sub_of_forall ⟨StableHlo.reshape_bufs_sub .., StableHlo.reshape_bufs_sub ..⟩
theorem fresh3 : ∀ op ∈ (ops3 : List (HloOp τ sig (Elt F))), op.fresh = ∅ := fresh_of_forall ⟨rfl, rfl⟩
theorem arg0_3 : ∀ op ∈ (ops3 : List (HloOp τ sig (Elt F))), Proc.devRef (τ := τ) .tc main_arg0 ∉ op.writes := keeps_of_forall ⟨not_written (by decide), not_written (by decide)⟩
theorem arg1_3 : ∀ op ∈ (ops3 : List (HloOp τ sig (Elt F))), Proc.devRef (τ := τ) .tc main_arg1 ∉ op.writes := keeps_of_forall ⟨not_written (by decide), not_written (by decide)⟩
theorem sub4 : ∀ op ∈ (ops4 : List (HloOp τ sig (Elt F))), op.bufs ⊆ ucRefs := sub_of_forall (StableHlo.reshape_bufs_sub ..)
theorem fresh4 : ∀ op ∈ (ops4 : List (HloOp τ sig (Elt F))), op.fresh = ∅ := fresh_of_forall (rfl)
theorem arg0_4 : ∀ op ∈ (ops4 : List (HloOp τ sig (Elt F))), Proc.devRef (τ := τ) .tc main_arg0 ∉ op.writes := keeps_of_forall (not_written (by decide))
theorem arg1_4 : ∀ op ∈ (ops4 : List (HloOp τ sig (Elt F))), Proc.devRef (τ := τ) .tc main_arg1 ∉ op.writes := keeps_of_forall (not_written (by decide))
theorem sub5 : ∀ op ∈ (ops5 : List (HloOp τ sig (Elt F))), op.bufs ⊆ ucRefs := sub_of_forall ⟨StableHlo.binary_bufs_sub .., StableHlo.reshape_bufs_sub .., StableHlo.reshape_bufs_sub ..⟩
theorem fresh5 : ∀ op ∈ (ops5 : List (HloOp τ sig (Elt F))), op.fresh = ∅ := fresh_of_forall ⟨rfl, rfl, rfl⟩
theorem arg0_5 : ∀ op ∈ (ops5 : List (HloOp τ sig (Elt F))), Proc.devRef (τ := τ) .tc main_arg0 ∉ op.writes := keeps_of_forall ⟨not_written (by decide), not_written (by decide), not_written (by decide)⟩
theorem arg1_5 : ∀ op ∈ (ops5 : List (HloOp τ sig (Elt F))), Proc.devRef (τ := τ) .tc main_arg1 ∉ op.writes := keeps_of_forall ⟨not_written (by decide), not_written (by decide), not_written (by decide)⟩
theorem sub6 : ∀ op ∈ (ops6 : List (HloOp τ sig (Elt F))), op.bufs ⊆ ucRefs := sub_of_forall (StableHlo.reshape_bufs_sub ..)
theorem fresh6 : ∀ op ∈ (ops6 : List (HloOp τ sig (Elt F))), op.fresh = ∅ := fresh_of_forall (rfl)
theorem arg0_6 : ∀ op ∈ (ops6 : List (HloOp τ sig (Elt F))), Proc.devRef (τ := τ) .tc main_arg0 ∉ op.writes := keeps_of_forall (not_written (by decide))
theorem arg1_6 : ∀ op ∈ (ops6 : List (HloOp τ sig (Elt F))), Proc.devRef (τ := τ) .tc main_arg1 ∉ op.writes := keeps_of_forall (not_written (by decide))
theorem sub7 : ∀ op ∈ (ops7 : List (HloOp τ sig (Elt F))), op.bufs ⊆ ucRefs := sub_of_forall ⟨StableHlo.binary_bufs_sub .., StableHlo.reshape_bufs_sub .., StableHlo.nullary_bufs_sub .., StableHlo.binary_bufs_sub .., StableHlo.unary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.binary_bufs_sub .., StableHlo.nullary_bufs_sub .., StableHlo.nullary_bufs_sub .., StableHlo.binary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub ..⟩
theorem fresh7 : ∀ op ∈ (ops7 : List (HloOp τ sig (Elt F))), op.fresh = ∅ := fresh_of_forall ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem arg0_7 : ∀ op ∈ (ops7 : List (HloOp τ sig (Elt F))), Proc.devRef (τ := τ) .tc main_arg0 ∉ op.writes := keeps_of_forall ⟨not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide)⟩
theorem arg1_7 : ∀ op ∈ (ops7 : List (HloOp τ sig (Elt F))), Proc.devRef (τ := τ) .tc main_arg1 ∉ op.writes := keeps_of_forall ⟨not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide), not_written (by decide)⟩

/-! ## The arguments stay -/

section

variable (m : (ℓ : Loc nD τ sig) → Buf (Elt F) ℓ)
theorem arg0_U1 (d : Dev nD) : U1 m d (Proc.devRef .tc main_arg0) = m ((d.tc : Thread nD τ).loc main_arg0) := (StableHlo.after_of_forall_not_mem ops0 _ arg0_0).trans rfl
theorem arg0_U2 (d : Dev nD) : U2 m d (Proc.devRef .tc main_arg0) = m ((d.tc : Thread nD τ).loc main_arg0) := ((repl_ne _ _ _ main_arg0 (by decide)).trans (repl_ne _ _ _ main_arg0 (by decide))).trans (arg0_U1 m d)
theorem arg0_U3 (d : Dev nD) : U3 m d (Proc.devRef .tc main_arg0) = m ((d.tc : Thread nD τ).loc main_arg0) := (StableHlo.after_of_forall_not_mem ops1 _ arg0_1).trans (arg0_U2 m d)
theorem arg0_U4 (d : Dev nD) : U4 m d (Proc.devRef .tc main_arg0) = m ((d.tc : Thread nD τ).loc main_arg0) := (repl_ne _ _ _ main_arg0 (by decide)).trans (arg0_U3 m d)
theorem arg0_U5 (d : Dev nD) : U5 m d (Proc.devRef .tc main_arg0) = m ((d.tc : Thread nD τ).loc main_arg0) := (StableHlo.after_of_forall_not_mem ops2 _ arg0_2).trans (arg0_U4 m d)
theorem arg0_U6 (d : Dev nD) : U6 m d (Proc.devRef .tc main_arg0) = m ((d.tc : Thread nD τ).loc main_arg0) := (repl_ne _ _ _ main_arg0 (by decide)).trans (arg0_U5 m d)
theorem arg0_U7 (d : Dev nD) : U7 m d (Proc.devRef .tc main_arg0) = m ((d.tc : Thread nD τ).loc main_arg0) := (StableHlo.after_of_forall_not_mem ops3 _ arg0_3).trans (arg0_U6 m d)
theorem arg0_U8 (d : Dev nD) : U8 m d (Proc.devRef .tc main_arg0) = m ((d.tc : Thread nD τ).loc main_arg0) := (repl_ne _ _ _ main_arg0 (by decide)).trans (arg0_U7 m d)
theorem arg0_U9 (d : Dev nD) : U9 m d (Proc.devRef .tc main_arg0) = m ((d.tc : Thread nD τ).loc main_arg0) := (StableHlo.after_of_forall_not_mem ops4 _ arg0_4).trans (arg0_U8 m d)
theorem arg0_U10 (d : Dev nD) : U10 m d (Proc.devRef .tc main_arg0) = m ((d.tc : Thread nD τ).loc main_arg0) := (repl_ne _ _ _ main_arg0 (by decide)).trans (arg0_U9 m d)
theorem arg0_U11 (d : Dev nD) : U11 m d (Proc.devRef .tc main_arg0) = m ((d.tc : Thread nD τ).loc main_arg0) := (StableHlo.after_of_forall_not_mem ops5 _ arg0_5).trans (arg0_U10 m d)
theorem arg0_U12 (d : Dev nD) : U12 m d (Proc.devRef .tc main_arg0) = m ((d.tc : Thread nD τ).loc main_arg0) := (repl_ne _ _ _ main_arg0 (by decide)).trans (arg0_U11 m d)
theorem arg0_U13 (d : Dev nD) : U13 m d (Proc.devRef .tc main_arg0) = m ((d.tc : Thread nD τ).loc main_arg0) := (StableHlo.after_of_forall_not_mem ops6 _ arg0_6).trans (arg0_U12 m d)
theorem arg0_U14 (d : Dev nD) : U14 m d (Proc.devRef .tc main_arg0) = m ((d.tc : Thread nD τ).loc main_arg0) := (repl_ne _ _ _ main_arg0 (by decide)).trans (arg0_U13 m d)
theorem arg0_U15 (d : Dev nD) : U15 m d (Proc.devRef .tc main_arg0) = m ((d.tc : Thread nD τ).loc main_arg0) := (StableHlo.after_of_forall_not_mem ops7 _ arg0_7).trans (arg0_U14 m d)
theorem arg1_U1 (d : Dev nD) : U1 m d (Proc.devRef .tc main_arg1) = m ((d.tc : Thread nD τ).loc main_arg1) := (StableHlo.after_of_forall_not_mem ops0 _ arg1_0).trans rfl
theorem arg1_U2 (d : Dev nD) : U2 m d (Proc.devRef .tc main_arg1) = m ((d.tc : Thread nD τ).loc main_arg1) := ((repl_ne _ _ _ main_arg1 (by decide)).trans (repl_ne _ _ _ main_arg1 (by decide))).trans (arg1_U1 m d)
theorem arg1_U3 (d : Dev nD) : U3 m d (Proc.devRef .tc main_arg1) = m ((d.tc : Thread nD τ).loc main_arg1) := (StableHlo.after_of_forall_not_mem ops1 _ arg1_1).trans (arg1_U2 m d)
theorem arg1_U4 (d : Dev nD) : U4 m d (Proc.devRef .tc main_arg1) = m ((d.tc : Thread nD τ).loc main_arg1) := (repl_ne _ _ _ main_arg1 (by decide)).trans (arg1_U3 m d)
theorem arg1_U5 (d : Dev nD) : U5 m d (Proc.devRef .tc main_arg1) = m ((d.tc : Thread nD τ).loc main_arg1) := (StableHlo.after_of_forall_not_mem ops2 _ arg1_2).trans (arg1_U4 m d)
theorem arg1_U6 (d : Dev nD) : U6 m d (Proc.devRef .tc main_arg1) = m ((d.tc : Thread nD τ).loc main_arg1) := (repl_ne _ _ _ main_arg1 (by decide)).trans (arg1_U5 m d)
theorem arg1_U7 (d : Dev nD) : U7 m d (Proc.devRef .tc main_arg1) = m ((d.tc : Thread nD τ).loc main_arg1) := (StableHlo.after_of_forall_not_mem ops3 _ arg1_3).trans (arg1_U6 m d)
theorem arg1_U8 (d : Dev nD) : U8 m d (Proc.devRef .tc main_arg1) = m ((d.tc : Thread nD τ).loc main_arg1) := (repl_ne _ _ _ main_arg1 (by decide)).trans (arg1_U7 m d)
theorem arg1_U9 (d : Dev nD) : U9 m d (Proc.devRef .tc main_arg1) = m ((d.tc : Thread nD τ).loc main_arg1) := (StableHlo.after_of_forall_not_mem ops4 _ arg1_4).trans (arg1_U8 m d)
theorem arg1_U10 (d : Dev nD) : U10 m d (Proc.devRef .tc main_arg1) = m ((d.tc : Thread nD τ).loc main_arg1) := (repl_ne _ _ _ main_arg1 (by decide)).trans (arg1_U9 m d)
theorem arg1_U11 (d : Dev nD) : U11 m d (Proc.devRef .tc main_arg1) = m ((d.tc : Thread nD τ).loc main_arg1) := (StableHlo.after_of_forall_not_mem ops5 _ arg1_5).trans (arg1_U10 m d)
theorem arg1_U12 (d : Dev nD) : U12 m d (Proc.devRef .tc main_arg1) = m ((d.tc : Thread nD τ).loc main_arg1) := (repl_ne _ _ _ main_arg1 (by decide)).trans (arg1_U11 m d)
theorem arg1_U13 (d : Dev nD) : U13 m d (Proc.devRef .tc main_arg1) = m ((d.tc : Thread nD τ).loc main_arg1) := (StableHlo.after_of_forall_not_mem ops6 _ arg1_6).trans (arg1_U12 m d)
theorem arg1_U14 (d : Dev nD) : U14 m d (Proc.devRef .tc main_arg1) = m ((d.tc : Thread nD τ).loc main_arg1) := (repl_ne _ _ _ main_arg1 (by decide)).trans (arg1_U13 m d)
theorem arg1_U15 (d : Dev nD) : U15 m d (Proc.devRef .tc main_arg1) = m ((d.tc : Thread nD τ).loc main_arg1) := (StableHlo.after_of_forall_not_mem ops7 _ arg1_7).trans (arg1_U14 m d)

end

/-! ## The regions of the four TensorCore calls -/

section

variable [∀ e, Nonempty (Elt F e)] (m : (ℓ : Loc nD τ sig) → Buf (Elt F) ℓ) (ρ : Dev nD → PrngReg)

omit [∀ e, Nonempty (Elt F e)] in
theorem bufs_repl_self (V : Dev nD → Valuation τ sig (Elt F)) (b : Ref sig .tc) (x : Dev nD → (Proc.devRef (τ := τ) .tc b).ty.Contents (Elt F)) (c : Dev nD) : bufs (fun d => repl (V d) b (x d)) c b = x c := repl_self _ _ _
omit [∀ e, Nonempty (Elt F e)] in
theorem bufs_repl_ne (V : Dev nD → Valuation τ sig (Elt F)) (b : Ref sig .tc) (x : Dev nD → (Proc.devRef (τ := τ) .tc b).ty.Contents (Elt F)) (c : Dev nD) (b' : Ref sig .tc) (h : b' ≠ b) :
    bufs (fun d => repl (V d) b (x d)) c b' = bufs V c b' := repl_ne _ _ _ _ h

/-- The statistics call in the run. -/
def regionS := reg0 (F := F) (bufs (U1 m)) 0 adm (bufs (U2 m))
  (fun c => (bufs_repl_ne (fun d => repl (U1 m d) main_v1_0 (rows0 (bufs (U1 m)) 0 d)) main_v1_1 (fun d => table0 (bufs (U1 m)) 0 d) c main_v1_0 (by decide)).trans
    (bufs_repl_self (U1 m) main_v1_0 (fun d => rows0 (bufs (U1 m)) 0 d) c))
  (fun c => bufs_repl_self (fun d => repl (U1 m d) main_v1_0 (rows0 (bufs (U1 m)) 0 d)) main_v1_1 (fun d => table0 (bufs (U1 m)) 0 d) c)
  (fun c b h h' => (bufs_repl_ne (fun d => repl (U1 m d) main_v1_0 (rows0 (bufs (U1 m)) 0 d)) main_v1_1 (fun d => table0 (bufs (U1 m)) 0 d) c b h').trans
    (bufs_repl_ne (U1 m) main_v1_0 (fun d => rows0 (bufs (U1 m)) 0 d) c b h))
/-- The first codes call in the run. -/
def regionA := reg1 (F := F) (bufs (U3 m)) 0 adm (bufs (U4 m)) (fun c => bufs_repl_self (U3 m) main_v4 (fun d => codes1 (bufs (U3 m)) 0 d) c)
  (fun c b h => bufs_repl_ne (U3 m) main_v4 (fun d => codes1 (bufs (U3 m)) 0 d) c b h)
/-- The second codes call in the run. -/
def regionB := reg3 (F := F) (bufs (U7 m)) 1 adm (bufs (U8 m)) (fun c => bufs_repl_self (U7 m) main_v9 (fun d => codes3 (bufs (U7 m)) 1 d) c)
  (fun c b h => bufs_repl_ne (U7 m) main_v9 (fun d => codes3 (bufs (U7 m)) 1 d) c b h)
/-- The third codes call in the run. -/
def regionC := reg5 (F := F) (bufs (U11 m)) 2 adm (bufs (U12 m)) (fun c => bufs_repl_self (U11 m) main_v15 (fun d => codes5 (bufs (U11 m)) 2 d) c)
  (fun c b h => bufs_repl_ne (U11 m) main_v15 (fun d => codes5 (bufs (U11 m)) 2 d) c b h)

/-! ## The launch's ghost state -/

/-- The pipelines' cells at the launch. -/
abbrev pipe₀ : UP := initOf (Pipeline.cells (Pipeline.pin (pcfgs (F := F)) adm) cellInj) (Pipeline.launchToks (Pipeline.pin (pcfgs (F := F)) adm) cellInj)
/-- The launch's element of the ghost state. -/
def u₀ : UU := (initOf (K (F := F)).hsCells (K (F := F)).hsToks, (pipe₀ (F := F), 1))

/-- What one core is dealt for its pipelines. -/
def dealt (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

omit [∀ e, Nonempty (Elt F e)] in
theorem split_launch (a : UH) (b : UP) : (ownU ((a, (b, 1)) : UU) : sProp 𝕄) ⊢ iprop(BI.own (EH a) ∗ BI.own (EP b)) :=
  BI.own_op_elim ((uEmb (nD := nD) (sig := sig) (Ix := HIx 3) (Val := Elt F) (Name := ℕ) (U := UU) (Lvl := ℕ)).toEmb.op_of_mem
    (Prod.mk_mem_op (URA.mem_op_one a) (URA.mem_one_op (b, (1 : Counters)))))

omit [∀ e, Nonempty (Elt F e)] in
theorem fund (d0 : Unit) : (ownU (u₀ (F := F)) : sProp 𝕄)
    ⊢ |={Set.univ}=> iprop(BI.own (EH (initOf (K (F := F)).hsCells (K (F := F)).hsToks)) ∗ (bigSep Finset.univ dealt)
        ∗ bigSep Finset.univ fun thr : Thread nD τ => bigSep Finset.univ fun q : Fin 3 => (P (codesOf m)).x q thr) := by
  unfold u₀
  iintro Hu
  ihave H := (split_launch _ _) $$ Hu
  icases H with ⟨HH, HP⟩
  imod (Pipeline.fund_ghost (Pipeline.pin (pcfgs (F := F)) adm) EP cellInj) $$ HP with ⟨Hg, Ht⟩
  imodintro
  isplitl [HH]; · iexact HH
  isplitl [Hg Ht]
  · unfold dealt
    rw [bigSep_sep']
    isplitl [Hg] <;> iassumption
  rw [show (fun thr : Thread nD τ => bigSep Finset.univ fun q : Fin 3 => (P (codesOf m)).x q thr) = fun _ => (iprop(emp) : sProp 𝕄) from
    funext fun thr => BI.bigSep_emp_const _]
  iapply (Entails.of_eq (BI.bigSep_emp_const _).symm)
  iempintro

/-! ## The main thread -/

/-- What the main thread ends with: the arguments as launched, the result at the last valuation. -/
def FIN (d : Dev nD) : sProp 𝕄 :=
  iprop(((d.tc : Thread nD τ).loc main_arg0 ↦{fullShare} m ((d.tc : Thread nD τ).loc main_arg0))
    ∗ ((d.tc : Thread nD τ).loc main_arg1 ↦{fullShare} m ((d.tc : Thread nD τ).loc main_arg1))
    ∗ ((d.tc : Thread nD τ).loc main_v51 ↦{fullShare} U15 m d (Proc.devRef .tc main_v51)))

omit [∀ e, Nonempty (Elt F e)] in
theorem fin_of (d : Dev nD) : (unscopedBufs d (fun b => U15 m d (Proc.devRef .tc b)) : sProp 𝕄) ⊢ FIN m d := by
  rw [unscopedBufs_held]
  have hT : ({Proc.devRef .tc main_arg0, Proc.devRef .tc main_arg1, Proc.devRef .tc main_v51} : Finset (DevRef τ sig)) ⊆ ucRefs := by
    intro x hx
    rcases Finset.mem_insert.mp hx with rfl | hx
    · exact mem_ucRefs main_arg0 (by decide)
    · rcases Finset.mem_insert.mp hx with rfl | hx
      · exact mem_ucRefs main_arg1 (by decide)
      · rw [Finset.mem_singleton.mp hx]; exact mem_ucRefs main_v51 (by decide)
  rw [StableHlo.held_sub_split _ hT]
  refine sep_elim_left.trans ?_
  unfold StableHlo.held FIN
  rw [SparseCore.bigSep_insert' (by decide), SparseCore.bigSep_insert' (by decide), bigSep_singleton, arg0_U15, arg1_U15]

set_option maxHeartbeats 4000000 in
theorem hmain (κ : GSem nD τ sig → ℕ) (d : Dev nD) :
    iprop((K (F := F)).ctx EH (P (codesOf m)) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd dealt
  rw [main_eq, bigSep_W0, bigSep_W0]
  iintro ⟨#Hctx, Hst, ⟨Hb, Hu, Hts, -⟩, ⟨Hg0, Hg1, Hg2, Hg3⟩, ⟨Ht0, Ht1, Ht2, Ht3⟩⟩
  iapply (host_step (F := F) d ops0 sub0 fresh0 (U0 m d) _)
  isplitl [Hb]; · iexact Hb
  isplitl [Hu]; · iexact Hu
  iintro ⟨Hb, Hu⟩
  iapply (enter_step (codesOf m) κ d 0 0 (bufs (U1 m)) (bufs (U2 m)) _ (regionS m) rfl rfl _)
  isplitr; · iexact Hctx
  isplitl [Hb]; · iexact Hb
  isplitl [Hst]; · iexact Hst
  isplitl [Hu]; · iexact Hu
  isplitl [Hg0]; · iexact Hg0
  isplitl [Ht0]; · iexact Ht0
  iintro ⟨Hb, Hst, Hu⟩
  iapply (host_step (F := F) d ops1 sub1 fresh1 (U2 m d) _)
  isplitl [Hb]; · iexact Hb
  isplitl [Hu]; · iexact Hu
  iintro ⟨Hb, Hu⟩
  iapply (enter_step (codesOf m) κ d 0 1 (bufs (U3 m)) (bufs (U4 m)) _ (regionA m) rfl rfl _)
  isplitr; · iexact Hctx
  isplitl [Hb]; · iexact Hb
  isplitl [Hst]; · iexact Hst
  isplitl [Hu]; · iexact Hu
  isplitl [Hg1]; · iexact Hg1
  isplitl [Ht1]; · iexact Ht1
  iintro ⟨Hb, Hst, Hu⟩
  iapply (host_step (F := F) d ops2 sub2 fresh2 (U4 m d) _)
  isplitl [Hb]; · iexact Hb
  isplitl [Hu]; · iexact Hu
  iintro ⟨Hb, Hu⟩
  iapply (call_step (codesOf m) κ d 0 (U5 m d) main_v5 main_v6 (by decide) (by decide) (by decide) _ (st_all0 (codesOf m) d _) (dn_all0 (codesOf m) d) _)
  isplitr; · iexact Hctx
  isplitl [Hst]; · iexact Hst
  isplitl [Hu]; · iexact Hu
  iintro ⟨Hst, Hu⟩
  iapply (host_step (F := F) d ops3 sub3 fresh3 (U6 m d) _)
  isplitl [Hb]; · iexact Hb
  isplitl [Hu]; · iexact Hu
  iintro ⟨Hb, Hu⟩
  iapply (enter_step (codesOf m) κ d 1 2 (bufs (U7 m)) (bufs (U8 m)) _ (regionB m) rfl rfl _)
  isplitr; · iexact Hctx
  isplitl [Hb]; · iexact Hb
  isplitl [Hst]; · iexact Hst
  isplitl [Hu]; · iexact Hu
  isplitl [Hg2]; · iexact Hg2
  isplitl [Ht2]; · iexact Ht2
  iintro ⟨Hb, Hst, Hu⟩
  iapply (host_step (F := F) d ops4 sub4 fresh4 (U8 m d) _)
  isplitl [Hb]; · iexact Hb
  isplitl [Hu]; · iexact Hu
  iintro ⟨Hb, Hu⟩
  iapply (call_step (codesOf m) κ d 1 (U9 m d) main_v10 main_v11 (by decide) (by decide) (by decide) _ (st_all1 (codesOf m) d _) (dn_all1 (codesOf m) d) _)
  isplitr; · iexact Hctx
  isplitl [Hst]; · iexact Hst
  isplitl [Hu]; · iexact Hu
  iintro ⟨Hst, Hu⟩
  iapply (host_step (F := F) d ops5 sub5 fresh5 (U10 m d) _)
  isplitl [Hb]; · iexact Hb
  isplitl [Hu]; · iexact Hu
  iintro ⟨Hb, Hu⟩
  iapply (enter_step (codesOf m) κ d 2 3 (bufs (U11 m)) (bufs (U12 m)) _ (regionC m) rfl rfl _)
  isplitr; · iexact Hctx
  isplitl [Hb]; · iexact Hb
  isplitl [Hst]; · iexact Hst
  isplitl [Hu]; · iexact Hu
  isplitl [Hg3]; · iexact Hg3
  isplitl [Ht3]; · iexact Ht3
  iintro ⟨Hb, Hst, Hu⟩
  iapply (host_step (F := F) d ops6 sub6 fresh6 (U12 m d) _)
  isplitl [Hb]; · iexact Hb
  isplitl [Hu]; · iexact Hu
  iintro ⟨Hb, Hu⟩
  iapply (call_step (codesOf m) κ d 2 (U13 m d) main_v16 main_v17 (by decide) (by decide) (by decide) _ (st_all2 (codesOf m) d _) (dn_all2 (codesOf m) d) _)
  isplitr; · iexact Hctx
  isplitl [Hst]; · iexact Hst
  isplitl [Hu]; · iexact Hu
  iintro ⟨Hst, Hu⟩
  iapply (host_step (F := F) d ops7 sub7 fresh7 (U14 m d) _)
  isplitl [Hb]; · iexact Hb
  isplitl [Hu]; · iexact Hu
  iintro ⟨Hb, Hu⟩
  iapply (Entails.of_eq (wp_pure _ _ _ _ _).symm)
  imodintro
  isplitl [Hst]; · iexact Hst
  isplitl [Hu]; · iapply (fin_of m d); iexact Hu
  isplitl [Hb] <;> iassumption

/-! ## The run -/

/-- What every run ends with on device `d`. -/
def fq (d : Dev nD) (s' : Phys nD τ sig (Elt F)) : Prop :=
  s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_v51) = U15 m d (Proc.devRef .tc main_v51)

omit [∀ e, Nonempty (Elt F e)] in
theorem hfin (d : Dev nD) (s' : Phys nD τ sig (Elt F)) : iprop(FIN m d ∗ SI s') ⊢ (⌜fq m d s'⌝ : sProp 𝕄) := by
  unfold FIN
  iintro ⟨⟨Ha, Hb, Hc⟩, HSI⟩
  ihave H := (persistent_entails_right (SI_pointsTo_agree (st := s') (ℓ := (d.tc : Thread nD τ).loc main_arg0) (I := Finset.univ) (q := fullShare) (f := m ((d.tc : Thread nD τ).loc main_arg0)))) $$ [HSI Ha]
  · isplitl [HSI] <;> iassumption
  icases H with ⟨%h1, HSI, -⟩
  ihave H := (persistent_entails_right (SI_pointsTo_agree (st := s') (ℓ := (d.tc : Thread nD τ).loc main_arg1) (I := Finset.univ) (q := fullShare) (f := m ((d.tc : Thread nD τ).loc main_arg1)))) $$ [HSI Hb]
  · isplitl [HSI] <;> iassumption
  icases H with ⟨%h2, HSI, -⟩
  ihave H := (SI_pointsTo_agree (st := s') (ℓ := (d.tc : Thread nD τ).loc main_v51) (I := Finset.univ) (q := fullShare) (f := U15 m d (Proc.devRef .tc main_v51))) $$ [HSI Hc]
  · isplitl [HSI] <;> iassumption
  icases H with %h3
  ipureintro
  exact ⟨funext fun i => h1 i (Finset.mem_univ i), funext fun i => h2 i (Finset.mem_univ i), funext fun i => h3 i (Finset.mem_univ i)⟩

/-- What every run ends with. -/
def QC : PUnit × MemSt nD τ sig (Elt F) → Prop := fun r =>
  (∀ d : Dev nD, r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_v51) = U15 m d (Proc.devRef .tc main_v51)) ∧ r.2.sem = fun _ => 0

/-- Every run of the program. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (codesOf m)) (A := ∅) facts v₀
    (fun q hq => match q with | 0 => nomatch hq | 1 => nomatch hq | 2 => nomatch hq)
    (fun q _ => match q with | 0 => tileObl0 (codesOf m) | 1 => tileObl1 (codesOf m) | 2 => tileObl2 (codesOf m))
    (fun q _ => SparseCore.Cfg.VecSplit.of_plain (vecSplit (codesOf m) q))
    m ρ main dealt (FIN m) (u₀ (F := F)) (sep_elim_left.trans (fund m ())) (hmain m ρ) (fq m) (hfin m) (QC m) (fun _ h hz => ⟨h, hz⟩)

end

end Cert.Proof.Run
-- ==== Proof.Same.lean ====
/-
  The kernel as printed is, at any float values, the idealized one's text: no operation was rewritten.
-/
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

@[expose] public section

noncomputable section

namespace Cert.Proof

open Idealize.ShloMosaic Idealize.SL.Sem

instance kernelFacts : Cert.Kernel.Facts := Cert.Kernel.Gen.facts
instance kernelIdealFacts : Cert.KernelIdeal.Facts := Cert.KernelIdeal.Gen.facts

set_option maxHeartbeats 1000000

theorem same_tc0 (a) : Cert.Kernel.defs₀ (F := Bits) .tc 0 a = Cert.KernelIdeal.defs₀ (F := Bits) .tc 0 a := rfl
theorem same_tc1 (a) : Cert.Kernel.defs₀ (F := Bits) .tc 1 a = Cert.KernelIdeal.defs₀ (F := Bits) .tc 1 a := rfl
theorem same_tc2 (a) : Cert.Kernel.defs₀ (F := Bits) .tc 2 a = Cert.KernelIdeal.defs₀ (F := Bits) .tc 2 a := rfl
theorem same_tc3 (a) : Cert.Kernel.defs₀ (F := Bits) .tc 3 a = Cert.KernelIdeal.defs₀ (F := Bits) .tc 3 a := rfl
theorem same_tc4 (a) : Cert.Kernel.defs₀ (F := Bits) .tc 4 a = Cert.KernelIdeal.defs₀ (F := Bits) .tc 4 a := rfl
theorem same_tc5 (a) : Cert.Kernel.defs₀ (F := Bits) .tc 5 a = Cert.KernelIdeal.defs₀ (F := Bits) .tc 5 a := rfl
theorem same_tc6 (a) : Cert.Kernel.defs₀ (F := Bits) .tc 6 a = Cert.KernelIdeal.defs₀ (F := Bits) .tc 6 a := rfl
theorem same_ss0 (c) (a) : Cert.Kernel.defs₀ (F := Bits) (.scScalar c) 0 a = Cert.KernelIdeal.defs₀ (F := Bits) (.scScalar c) 0 a := rfl
theorem same_ss1 (c) (a) : Cert.Kernel.defs₀ (F := Bits) (.scScalar c) 1 a = Cert.KernelIdeal.defs₀ (F := Bits) (.scScalar c) 1 a := rfl
theorem same_ss2 (c) (a) : Cert.Kernel.defs₀ (F := Bits) (.scScalar c) 2 a = Cert.KernelIdeal.defs₀ (F := Bits) (.scScalar c) 2 a := rfl
theorem same_ss3 (c) (a) : Cert.Kernel.defs₀ (F := Bits) (.scScalar c) 3 a = Cert.KernelIdeal.defs₀ (F := Bits) (.scScalar c) 3 a := rfl
theorem same_ss4 (c) (a) : Cert.Kernel.defs₀ (F := Bits) (.scScalar c) 4 a = Cert.KernelIdeal.defs₀ (F := Bits) (.scScalar c) 4 a := rfl
theorem same_ss5 (c) (a) : Cert.Kernel.defs₀ (F := Bits) (.scScalar c) 5 a = Cert.KernelIdeal.defs₀ (F := Bits) (.scScalar c) 5 a := rfl
theorem same_ss6 (c) (a) : Cert.Kernel.defs₀ (F := Bits) (.scScalar c) 6 a = Cert.KernelIdeal.defs₀ (F := Bits) (.scScalar c) 6 a := rfl
theorem same_sv0 (c s) (a) : Cert.Kernel.defs₀ (F := Bits) (.scVector c s) 0 a = Cert.KernelIdeal.defs₀ (F := Bits) (.scVector c s) 0 a := rfl
theorem same_sv1 (c s) (a) : Cert.Kernel.defs₀ (F := Bits) (.scVector c s) 1 a = Cert.KernelIdeal.defs₀ (F := Bits) (.scVector c s) 1 a := rfl
theorem same_sv2 (c s) (a) : Cert.Kernel.defs₀ (F := Bits) (.scVector c s) 2 a = Cert.KernelIdeal.defs₀ (F := Bits) (.scVector c s) 2 a := rfl
theorem same_sv3 (c s) (a) : Cert.Kernel.defs₀ (F := Bits) (.scVector c s) 3 a = Cert.KernelIdeal.defs₀ (F := Bits) (.scVector c s) 3 a := rfl
theorem same_sv4 (c s) (a) : Cert.Kernel.defs₀ (F := Bits) (.scVector c s) 4 a = Cert.KernelIdeal.defs₀ (F := Bits) (.scVector c s) 4 a := rfl
theorem same_sv5 (c s) (a) : Cert.Kernel.defs₀ (F := Bits) (.scVector c s) 5 a = Cert.KernelIdeal.defs₀ (F := Bits) (.scVector c s) 5 a := rfl
theorem same_sv6 (c s) (a) : Cert.Kernel.defs₀ (F := Bits) (.scVector c s) 6 a = Cert.KernelIdeal.defs₀ (F := Bits) (.scVector c s) 6 a := rfl

theorem defs₀_same : ∀ p l a, Cert.Kernel.defs₀ (F := Bits) p l a = Cert.KernelIdeal.defs₀ (F := Bits) p l a
  | .tc, 0, a => same_tc0  a
  | .tc, 1, a => same_tc1  a
  | .tc, 2, a => same_tc2  a
  | .tc, 3, a => same_tc3  a
  | .tc, 4, a => same_tc4  a
  | .tc, 5, a => same_tc5  a
  | .tc, 6, a => same_tc6  a
  | .scScalar c, 0, a => same_ss0 c a
  | .scScalar c, 1, a => same_ss1 c a
  | .scScalar c, 2, a => same_ss2 c a
  | .scScalar c, 3, a => same_ss3 c a
  | .scScalar c, 4, a => same_ss4 c a
  | .scScalar c, 5, a => same_ss5 c a
  | .scScalar c, 6, a => same_ss6 c a
  | .scVector c s, 0, a => same_sv0 c s a
  | .scVector c s, 1, a => same_sv1 c s a
  | .scVector c s, 2, a => same_sv2 c s a
  | .scVector c s, 3, a => same_sv3 c s a
  | .scVector c s, 4, a => same_sv4 c s a
  | .scVector c s, 5, a => same_sv5 c s a
  | .scVector c s, 6, a => same_sv6 c s a

theorem defs_same : Cert.Kernel.defs (F := Bits) = Cert.KernelIdeal.defs (F := Bits) := by
  have e : Cert.Kernel.defs₀ (F := Bits) = Cert.KernelIdeal.defs₀ (F := Bits) := funext fun p => funext fun l => funext fun a => defs₀_same p l a
  unfold Cert.Kernel.defs Cert.KernelIdeal.defs
  rw [e]
  rfl

theorem threads_same : Cert.Kernel.threads (F := Bits) = Cert.KernelIdeal.threads (F := Bits) := rfl

end Cert.Proof
-- ==== Proof.Frames.lean ====
/-
  The frames: every run of the kernel — as printed and idealized — ends with the arguments as they were and every semaphore
  counter at zero.
-/
module

public import proofs.«01_k».proof.Proof.Main
public import proofs.«01_k».proof.Proof.Same
public import proofs.«01_k».proof.Defs

@[expose] public section

noncomputable section

namespace Cert.Proof

open Idealize.ShloMosaic Idealize.SL.Sem

/-- What the frame of the kernel asks, in the idealized kernel's names. -/
def framePost {F : FTy → Type} [FloatOps F] (m : (ℓ : Loc Cert.KernelIdeal.nD Cert.KernelIdeal.τ Cert.KernelIdeal.sig) → Buf (Elt F) ℓ) :
    PUnit × MemSt Cert.KernelIdeal.nD Cert.KernelIdeal.τ Cert.KernelIdeal.sig (Elt F) → Prop := fun r =>
  (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0

theorem frame_run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (framePost m) :=
  (θ_run Cert.KernelIdeal.defs _ _).mono (fun _ h => ⟨fun c => ⟨(h.1 c).1, (h.1 c).2.1⟩, h.2⟩) (Run.run_main m ρ)

theorem frame_kernelIdeal : Cert.quiescent_KernelIdeal := fun m ρ _ => frame_run (F := Ideal) m ρ

theorem frame_kernel : Cert.quiescent_Kernel := fun m ρ _ =>
  (congrArg (fun D => θ_run D (Cert.Kernel.threads (F := Bits)) ⟨m, fun _ => 0, ρ⟩ (framePost (F := Bits) m)) defs_same).mpr
    ((congrArg (fun p => θ_run (Cert.KernelIdeal.defs (F := Bits)) p ⟨m, fun _ => 0, ρ⟩ (framePost (F := Bits) m)) threads_same).mpr
      (frame_run (F := Bits) m ρ))

end Cert.Proof
-- ==== Proof.RefFrame.lean ====
/-
  The reference's frame: its run leaves its arguments as they were, and it has no semaphores.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

instance referenceFacts : Cert.ReferenceIdeal.Facts := Cert.ReferenceIdeal.Gen.facts

theorem frame_reference : Cert.quiescent_ReferenceIdeal := fun m ρ _ =>
  (θ_run Cert.ReferenceIdeal.defs _ _).mono (fun r h => ⟨fun c => (h c).2, sem_eq_zero_of_no_sems (by rfl) _⟩) (Cert.ReferenceIdeal.Value.run m ρ)

end Cert.Proof
-- ==== Proof.ValueTail.lean ====
module

public import proofs.«01_k».proof.Proof.Chain

/-!
The loss from the two histograms and the two means' sums, and the last line of the main thread as that function.
-/

@[expose] public section

noncomputable section

namespace Cert.Proof.Val

open Cert.KernelIdeal Cert.KernelIdeal.Gen Cert.Proof.Run
open Idealize.ShloMosaic
open Idealize.ShloMosaic.TcCoe

variable {F : FTy → Type} [FloatOps F]

/-- A histogram divided by its sum. -/
def scaled (h : FVec F S100 .f32) : FVec F S100 .f32 :=
  Host.divf h (broadcastInDim S100 ![] bcast_S_S100 (addf (Host.reduceAdd h (constant S_ .f32 0x00000000#32) reducesTo_S100_S_d0 h_S_) (constant S_ .f32 0x24E69595#32)))

/-- The loss: the histograms' overlap and the hinge of the means' difference. -/
def lossOf (pos neg : FVec F S100 .f32) (pn pd nn nd : FVec F S_ .f32) : FVec F S_ .f32 :=
  addf (Host.reduceAdd (minimumf (scaled pos) (scaled neg)) (constant S_ .f32 0x00000000#32) reducesTo_S100_S_d0 h_S_)
    (maximumf (subf (constant S_ .f32 0x3DCCCCCD#32) (subf (Host.divf pn pd) (Host.divf nn nd))) (constant S_ .f32 0x00000000#32))

/-- Both histograms, from the counters of every tile. -/
def counters (v : FVec F S131072 .f32) : FVec F S256 .f32 :=
  Host.reduceAdd (shapeCast S32x256x16 v shapeCasts_S131072_S32x256x16) (constant S_ .f32 0x00000000#32) reducesTo_S32x256x16_S256_d0_2 h_S_
/-- The sum the statistics' table holds at a lane. -/
def lane0 (T : FVec F S8x128 .f32) : FVec F S_ .f32 := shapeCast S_ (extractStridedSlice S1x1 ![0, 0] T slices_S8x128_S1x1_0_0) shapeCasts_S1x1_S_
@[inherit_doc lane0] def lane1 (T : FVec F S8x128 .f32) : FVec F S_ .f32 := shapeCast S_ (extractStridedSlice S1x1 ![0, 1] T slices_S8x128_S1x1_0_1) shapeCasts_S1x1_S_
@[inherit_doc lane0] def lane2 (T : FVec F S8x128 .f32) : FVec F S_ .f32 := shapeCast S_ (extractStridedSlice S1x1 ![0, 2] T slices_S8x128_S1x1_0_2) shapeCasts_S1x1_S_
@[inherit_doc lane0] def lane3 (T : FVec F S8x128 .f32) : FVec F S_ .f32 := shapeCast S_ (extractStridedSlice S1x1 ![0, 3] T slices_S8x128_S1x1_0_3) shapeCasts_S1x1_S_

set_option maxHeartbeats 4000000 in
set_option maxRecDepth 16384 in
/-- The last line: the loss of the counters and the table. -/
theorem tail_eq (V : Valuation τ sig (Elt F)) (v12 v17 : FVec F S131072 .f32) (T : FVec F S8x128 .f32)
    (h12 : V (Proc.devRef .tc main_v12) = v12) (h17 : V (Proc.devRef .tc main_v17) = v17) (hT : V (Proc.devRef .tc main_v1_1) = T) :
    StableHlo.after ops7 V (Proc.devRef .tc main_v51)
      = lossOf (extractStridedSlice S100 ![100] (counters (addf v12 v17)) slices_S256_S100_100) (extractStridedSlice S100 ![0] (counters (addf v12 v17)) slices_S256_S100_0)
          (subf (lane1 T) (lane3 T)) (subf (lane2 T) (constant S_ .f32 0x45800000#32))
          (subf (lane0 T) (lane1 T)) (subf (mulf (constant S_ .f32 0x45800000#32) (constant S_ .f32 0x45800000#32)) (lane2 T)) := by
  subst h12; subst h17; subst hT
  unfold ops7
  after_results_simp
  rfl

end Cert.Proof.Val
-- ==== Proof.ValueMath.lean ====
module

public import proofs.«01_k».proof.KernelIdeal
public import Idealize.ShloMosaic.Lib.IdealHost
public import Idealize.ShloMosaic.Lib.Pointwise
public import Mathlib.Algebra.BigOperators.Field
public import Mathlib.Tactic.IntervalCases
public import Mathlib.Tactic.FieldSimp
public import Mathlib.Tactic.Positivity

/-!
The mathematics of the loss, over the reals and the extended reals, free of any program: the
normalised rows are real with norm at most one, the two ways of binning a similarity agree, and
the sums of similarities over the pairs of one class are the squared norms of the class sums.
-/

@[expose] public section

noncomputable section

namespace Cert.Proof.Val

open Idealize.ShloMosaic

/-! ## Constants -/

theorem lit_eps : ∃ r : ℝ, 0 < r ∧ Ideal.ofBits .f32 0x2B8CBCCC#32 = (r : EReal) := by
  refine ⟨_, ?_, by simp [Ideal.ofBits, Ideal.ieee]; rfl⟩
  positivity
theorem lit_one : Ideal.ofBits .f32 0x3F800000#32 = ((1 : ℝ) : EReal) := by
  simp [Ideal.ofBits, Ideal.ieee]; norm_cast; norm_num
theorem lit_two : Ideal.ofBits .f32 0x40000000#32 = ((2 : ℝ) : EReal) := by
  simp [Ideal.ofBits, Ideal.ieee]; norm_cast; norm_num
theorem lit_100 : Ideal.ofBits .f32 0x42C80000#32 = ((100 : ℝ) : EReal) := by
  simp [Ideal.ofBits, Ideal.ieee]; norm_cast; norm_num
theorem lit_50 : Ideal.ofBits .f32 0x42480000#32 = ((50 : ℝ) : EReal) := by
  simp [Ideal.ofBits, Ideal.ieee]; norm_cast; norm_num
theorem lit_150 : Ideal.ofBits .f32 0x43160000#32 = ((150 : ℝ) : EReal) := by
  simp [Ideal.ofBits, Ideal.ieee]; norm_cast; norm_num
theorem lit_49 : Ideal.ofBits .f32 0x42460000#32 = ((49.5 : ℝ) : EReal) := by
  simp [Ideal.ofBits, Ideal.ieee]; norm_cast; norm_num
theorem lit_4096 : Ideal.ofBits .f32 0x45800000#32 = ((4096 : ℝ) : EReal) := by
  simp [Ideal.ofBits, Ideal.ieee]; norm_cast; norm_num

/-! ## A normalised row -/

/-- The length a row is divided by. -/
def len {n : ℕ} (x : Fin n → EReal) : EReal := max (Ideal.sqrt (∑ k, x k * x k)) (Ideal.ofBits .f32 0x2B8CBCCC#32)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_self_nonneg' (a : EReal) : 0 ≤ a * a := by
  induction a using EReal.rec with
  | bot => simp
  | coe r => exact_mod_cast mul_self_nonneg r
  | top => simp

theorem sqrt_real {r : ℝ} (h : 0 ≤ r) : Ideal.sqrt (r : EReal) = (Real.sqrt r : EReal) := by
  show (if r < 0 then (⊥ : EReal) else _) = _
  rw [if_neg (not_lt.2 h)]

/-- Every normalised row is real, of norm at most one, and is the row times the reciprocal length. -/
theorem unit_row {n : ℕ} (x : Fin n → EReal) : ∃ N : Fin n → ℝ,
    (∀ k, Ideal.div (x k) (len x) = (N k : EReal)) ∧
    (∀ k, x k * Ideal.div ((1 : ℝ) : EReal) (len x) = (N k : EReal)) ∧ ∑ k, N k * N k ≤ 1 := by
  obtain ⟨ε, hε, he⟩ := lit_eps
  by_cases hx : ∀ k, x k ≠ ⊤ ∧ x k ≠ ⊥
  · have hr : ∀ k, x k = ((x k).toReal : EReal) := fun k => (EReal.coe_toReal (hx k).1 (hx k).2).symm
    generalize (fun k => (x k).toReal) = r at hr
    have hr : ∀ k, x k = (((fun k => (x k).toReal) k : ℝ) : EReal) := fun k => (EReal.coe_toReal (hx k).1 (hx k).2).symm
    revert hr; generalize (fun k => (x k).toReal) = r; intro hr
    have hs : ∑ k, x k * x k = ((∑ k, r k * r k : ℝ) : EReal) := by
      rw [coe_sum]; exact Finset.sum_congr rfl fun k _ => by rw [hr k, EReal.coe_mul]
    have h0 : 0 ≤ ∑ k, r k * r k := Finset.sum_nonneg fun k _ => mul_self_nonneg _
    have hl : len x = ((max (Real.sqrt (∑ k, r k * r k)) ε : ℝ) : EReal) := by
      unfold len; rw [hs, sqrt_real h0, he, EReal.coe_strictMono.monotone.map_max]
    have hp : 0 < max (Real.sqrt (∑ k, r k * r k)) ε := lt_max_of_lt_right hε
    have hm : Real.sqrt (∑ k, r k * r k) ≤ max (Real.sqrt (∑ k, r k * r k)) ε := le_max_left _ _
    generalize max (Real.sqrt (∑ k, r k * r k)) ε = M at hl hp hm
    have hne : (M : EReal) ≠ 0 := by exact_mod_cast hp.ne'
    refine ⟨fun k => r k * M⁻¹, fun k => ?_, fun k => ?_, ?_⟩
    · rw [hl, Ideal.div, if_neg hne, hr k, ← EReal.coe_inv, ← EReal.coe_mul]
    · rw [hl, Ideal.div, if_neg hne, hr k, ← EReal.coe_inv, ← EReal.coe_mul, ← EReal.coe_mul, one_mul]
    · have : ∑ k, r k * M⁻¹ * (r k * M⁻¹) = (∑ k, r k * r k) / M ^ 2 := by
        rw [Finset.sum_div]; exact Finset.sum_congr rfl fun k _ => by field_simp
      rw [this, div_le_one (by positivity)]
      calc _ = Real.sqrt (∑ k, r k * r k) ^ 2 := (Real.sq_sqrt h0).symm
        _ ≤ M ^ 2 := pow_le_pow_left₀ (Real.sqrt_nonneg _) hm 2
  · push Not at hx
    obtain ⟨k₀, hk₀⟩ := hx
    have htop : x k₀ * x k₀ = ⊤ := by
      by_cases h : x k₀ = ⊤
      · rw [h]; rfl
      · rw [hk₀ h]; rfl
    have hs : ∑ k, x k * x k = ⊤ := by
      refine top_le_iff.1 ?_
      rw [← htop]
      exact Finset.single_le_sum (f := fun k => x k * x k) (fun k _ => mul_self_nonneg' _) (Finset.mem_univ k₀)
    have hl : len x = ⊤ := by
      unfold len; rw [hs]; exact top_le_iff.1 (le_max_left (⊤ : EReal) _)
    refine ⟨fun _ => 0, fun k => ?_, fun k => ?_, by simp⟩
    · rw [hl, Ideal.div, if_neg (by simp)]; simp
    · rw [hl, Ideal.div, if_neg (by simp)]; simp

/-- The normalised row, as reals. -/
def unitR {n : ℕ} (x : Fin n → EReal) : Fin n → ℝ := Classical.choose (unit_row x)
theorem unitR_div {n : ℕ} (x : Fin n → EReal) (k : Fin n) : Ideal.div (x k) (len x) = (unitR x k : EReal) :=
  (Classical.choose_spec (unit_row x)).1 k
theorem unitR_mul {n : ℕ} (x : Fin n → EReal) (k : Fin n) : x k * Ideal.div ((1 : ℝ) : EReal) (len x) = (unitR x k : EReal) :=
  (Classical.choose_spec (unit_row x)).2.1 k
theorem unitR_le {n : ℕ} (x : Fin n → EReal) : ∑ k, unitR x k * unitR x k ≤ 1 :=
  (Classical.choose_spec (unit_row x)).2.2

/-- Two vectors of norm at most one have an inner product between -1 and 1. -/
theorem inner_le {n : ℕ} (u v : Fin n → ℝ) (hu : ∑ k, u k * u k ≤ 1) (hv : ∑ k, v k * v k ≤ 1) :
    -1 ≤ ∑ k, u k * v k ∧ ∑ k, u k * v k ≤ 1 := by
  have h1 : 0 ≤ ∑ k, (u k - v k) * (u k - v k) := Finset.sum_nonneg fun k _ => mul_self_nonneg _
  have h2 : 0 ≤ ∑ k, (u k + v k) * (u k + v k) := Finset.sum_nonneg fun k _ => mul_self_nonneg _
  have e1 : ∑ k, (u k - v k) * (u k - v k) = ∑ k, u k * u k + ∑ k, v k * v k - 2 * ∑ k, u k * v k := by
    rw [Finset.mul_sum, ← Finset.sum_add_distrib, ← Finset.sum_sub_distrib]
    exact Finset.sum_congr rfl fun k _ => by ring
  have e2 : ∑ k, (u k + v k) * (u k + v k) = ∑ k, u k * u k + ∑ k, v k * v k + 2 * ∑ k, u k * v k := by
    rw [Finset.mul_sum, ← Finset.sum_add_distrib, ← Finset.sum_add_distrib]
    exact Finset.sum_congr rfl fun k _ => by ring
  constructor <;> linarith

/-! ## The bin of a similarity -/

/-- The bin: a hundred bins over [-1, 1], the right end in the last. -/
def bin (s : ℝ) : ℕ := min 99 ⌊(s + 1) / 2 * 100⌋₊

theorem bin_lt (s : ℝ) : bin s < 100 := by unfold bin; omega

/-- The bin as the kernel finds it, with the code's offset. -/
theorem code_eq (s : ℝ) (h : -1 ≤ s ∧ s ≤ 1) (e : Bool) :
    Ideal.fptosi 32 (min ((s : EReal) * ((50 : ℝ) : EReal)) ((49.5 : ℝ) : EReal) + (if e then ((150 : ℝ) : EReal) else ((50 : ℝ) : EReal)))
      = BitVec.ofNat 32 (bin s + if e then 100 else 0) := by
  obtain ⟨h1, h2⟩ := h
  have hc : min ((s : EReal) * ((50 : ℝ) : EReal)) ((49.5 : ℝ) : EReal) + (if e then ((150 : ℝ) : EReal) else ((50 : ℝ) : EReal))
      = ((min (s * 50) 49.5 + 50 + ((if e then 100 else 0 : ℕ) : ℝ) : ℝ) : EReal) := by
    rw [← EReal.coe_mul, ← EReal.coe_strictMono.monotone.map_min]
    cases e
    · simp only [Bool.false_eq_true, if_false, Nat.cast_zero, add_zero]; rw [← EReal.coe_add]
    · simp only [if_true]; rw [← EReal.coe_add]; congr 1; push_cast; ring
  have hf : ⌊min (s * 50) 49.5 + 50⌋₊ = bin s := by
    have e0 : (s + 1) / 2 * 100 = s * 50 + 50 := by ring
    unfold bin
    rw [e0]
    rcases le_total (s * 50) 49.5 with hh | hh
    · rw [min_eq_left hh]
      have : ⌊s * 50 + 50⌋₊ ≤ 99 := by
        have : ⌊s * 50 + 50⌋₊ < 100 := (Nat.floor_lt (by linarith)).2 (by push_cast; linarith)
        omega
      omega
    · rw [min_eq_right hh]
      have a1 : ⌊(49.5 + 50 : ℝ)⌋₊ = 99 := (Nat.floor_eq_iff (by norm_num)).2 ⟨by norm_num, by norm_num⟩
      have a2 : 99 ≤ ⌊s * 50 + 50⌋₊ := Nat.le_floor (by push_cast; linarith)
      omega
  have hn : 0 ≤ min (s * 50) 49.5 + 50 := by
    rcases le_total (s * 50) 49.5 with hh | hh
    · rw [min_eq_left hh]; linarith
    · rw [min_eq_right hh]; norm_num
  have hlt := bin_lt s
  rw [hc]
  generalize min (s * 50) 49.5 + 50 = t at hf hn
  unfold Ideal.fptosi
  have : Ideal.toIntClamped (-(2 ^ (32 - 1) : Nat)) ((2 ^ (32 - 1) : Nat) - 1) ((t + ((if e then 100 else 0 : ℕ) : ℝ) : ℝ) : EReal)
      = ((bin s + if e then 100 else 0 : ℕ) : ℤ) := by
    show max _ (min _ (if 0 ≤ t + ((if e then 100 else 0 : ℕ) : ℝ) then ⌊t + ((if e then 100 else 0 : ℕ) : ℝ)⌋ else _)) = _
    rw [if_pos (by positivity), Int.floor_add_natCast, ← Int.natCast_floor_eq_floor hn, hf]
    cases e <;> norm_num <;> omega
  rw [this]; rfl

/-- The bin as the reference finds it. -/
theorem bin_eq (s : ℝ) (h : -1 ≤ s ∧ s ≤ 1) :
    IntOp.minsi (99#32) (IntOp.maxsi (0#32) (Ideal.fptosi 32 (Ideal.liftRound Int.floor
      (Ideal.div ((s : EReal) + ((1 : ℝ) : EReal)) ((2 : ℝ) : EReal) * ((100 : ℝ) : EReal))))) = BitVec.ofNat 32 (bin s) := by
  obtain ⟨h1, h2⟩ := h
  have hd : Ideal.div ((s : EReal) + ((1 : ℝ) : EReal)) ((2 : ℝ) : EReal) * ((100 : ℝ) : EReal) = (((s + 1) / 2 * 100 : ℝ) : EReal) := by
    rw [Ideal.div, if_neg (by norm_cast), ← EReal.coe_add, ← EReal.coe_inv, ← EReal.coe_mul, ← EReal.coe_mul, div_eq_mul_inv]
  have hn : 0 ≤ (s + 1) / 2 * 100 := by linarith
  have hle : ⌊(s + 1) / 2 * 100⌋₊ ≤ 100 := by
    have : ⌊(s + 1) / 2 * 100⌋₊ < 101 := (Nat.floor_lt hn).2 (by push_cast; linarith)
    omega
  rw [hd]
  unfold bin
  generalize (s + 1) / 2 * 100 = t at hn hle
  have : Ideal.fptosi 32 (Ideal.liftRound Int.floor (t : EReal)) = BitVec.ofNat 32 ⌊t⌋₊ := by
    show Ideal.fptosi 32 (((⌊t⌋ : ℝ)) : EReal) = _
    unfold Ideal.fptosi
    have : Ideal.toIntClamped (-(2 ^ (32 - 1) : Nat)) ((2 ^ (32 - 1) : Nat) - 1) (((⌊t⌋ : ℝ)) : EReal) = ((⌊t⌋₊ : ℕ) : ℤ) := by
      show max _ (min _ (if 0 ≤ ((⌊t⌋ : ℝ)) then ⌊((⌊t⌋ : ℤ) : ℝ)⌋ else _)) = _
      rw [if_pos (by exact_mod_cast Int.floor_nonneg.2 hn), Int.floor_intCast, ← Int.natCast_floor_eq_floor hn]
      norm_num; omega
    rw [this]; rfl
  rw [this]
  generalize ⌊t⌋₊ = n at hle
  interval_cases n <;> decide

/-! ## Sums over the pairs of one class -/

section Sums
variable {n d K : ℕ} (u : Fin n → Fin d → ℝ) (c : Fin n → Fin K)

/-- The sum of the inner products over all pairs is the squared norm of the total. -/
theorem sum_all : ∑ i, ∑ j, ∑ k, u i k * u j k = ∑ k, (∑ i, u i k) * (∑ i, u i k) := by
  simp_rw [Finset.sum_mul_sum]
  calc _ = ∑ i, ∑ k, ∑ j, u i k * u j k := Finset.sum_congr rfl fun i _ => Finset.sum_comm
    _ = _ := Finset.sum_comm

/-- Over the pairs of one class, the squared norms of the class sums. -/
theorem sum_same : ∑ i, ∑ j, (if c i = c j then ∑ k, u i k * u j k else 0)
    = ∑ q, ∑ k, (∑ i, (if c i = q then 1 else 0) * u i k) * (∑ i, (if c i = q then 1 else 0) * u i k) := by
  simp_rw [Finset.sum_mul_sum]
  have h : ∀ i j, (if c i = c j then ∑ k, u i k * u j k else 0)
      = ∑ q, ∑ k, ((if c i = q then 1 else 0) * u i k) * ((if c j = q then 1 else 0) * u j k) := by
    intro i j
    rw [Finset.sum_eq_single (c i)]
    · by_cases e : c i = c j
      · simp [e]
      · rw [if_neg e]; symm; apply Finset.sum_eq_zero; intro k _; rw [if_neg (show ¬ c j = c i from fun h => e h.symm)]; ring
    · intro q _ hq; apply Finset.sum_eq_zero; intro k _; rw [if_neg (fun h => hq h.symm)]; ring
    · intro h; exact absurd (Finset.mem_univ _) h
  simp_rw [h]
  calc _ = ∑ i, ∑ q, ∑ j, ∑ k, ((if c i = q then 1 else 0) * u i k) * ((if c j = q then 1 else 0) * u j k) :=
        Finset.sum_congr rfl fun i _ => Finset.sum_comm
    _ = ∑ q, ∑ i, ∑ j, ∑ k, ((if c i = q then 1 else 0) * u i k) * ((if c j = q then 1 else 0) * u j k) := Finset.sum_comm
    _ = ∑ q, ∑ i, ∑ k, ∑ j, ((if c i = q then 1 else 0) * u i k) * ((if c j = q then 1 else 0) * u j k) :=
        Finset.sum_congr rfl fun q _ => Finset.sum_congr rfl fun i _ => Finset.sum_comm
    _ = _ := Finset.sum_congr rfl fun q _ => Finset.sum_comm

/-- The number of pairs of one class. -/
theorem count_same : ∑ i, ∑ j, (if c i = c j then (1 : ℝ) else 0)
    = ∑ q, (∑ i, (if c i = q then (1 : ℝ) else 0)) * (∑ i, (if c i = q then (1 : ℝ) else 0)) := by
  have := sum_same (d := 1) (fun _ _ => (1 : ℝ)) c
  simpa using this

/-- The class sums add up to the total. -/
theorem sum_classes (k : Fin d) : ∑ q, ∑ i, (if c i = q then 1 else 0) * u i k = ∑ i, u i k := by
  rw [Finset.sum_comm]
  exact Finset.sum_congr rfl fun i _ => by simp
end Sums

end Cert.Proof.Val
-- ==== Proof.ValueStats.lean ====
module

public import proofs.«01_k».proof.Proof.ValueMath
public import proofs.«01_k».proof.Proof.CodesBody

/-!
The values of the statistics program: the normalised embeddings and the four sums of the table.
-/

@[expose] public section

noncomputable section

namespace Cert.Proof.Val

open Cert.KernelIdeal Cert.KernelIdeal.Gen Cert.Proof.Run
open Idealize.ShloMosaic

variable (e : Vec Ideal S4096x128 .f32) (l : Vec Ideal S1x4096 .i32)

/-- The normalised embeddings, as reals. -/
def en (i : Fin 4096) (k : Fin 128) : ℝ := unitR (fun k => e (ix2 i k)) k
/-- The similarity of two rows. -/
def sim (i j : Fin 4096) : ℝ := ∑ k, en e i k * en e j k

theorem sim_mem (i j : Fin 4096) : -1 ≤ sim e i j ∧ sim e i j ≤ 1 := inner_le _ _ (unitR_le _) (unitR_le _)

/-- The normalised embeddings the statistics program writes. -/
theorem rows_apply (i : Fin 4096) (k : Fin 128) : k0_pay2 (F := Ideal) e (ix2 i k) = (en e i k : EReal) := by
  unfold en
  rw [← unitR_mul, ← lit_one]
  unfold k0_pay2 len
  pointwise

/-- An equality test's bit. -/
theorem cmpi_eq_ite {w : ℕ} (a b : BitVec w) : IntOp.cmpi .eq a b = if a = b then 1#1 else 0#1 := by
  unfold IntOp.cmpi
  by_cases h : a = b
  · subst h; simp
  · rw [if_neg h]; show BitVec.ofBool (a == b) = 0#1; rw [beq_eq_false_iff_ne.2 h]; rfl

/-- The one-hot matrix of the labels. -/
theorem onehot_apply (q : Fin 128) (i : Fin 4096) :
    k0_pay3 (F := Ideal) l (ix2 q i) = (((if l (ix2 0 i) = BitVec.ofNat 32 q.val then 1 else 0 : ℝ)) : EReal) := by
  unfold k0_pay3
  pointwise
  generalize l (ix2 0 i) = a
  rw [cmpi_eq_ite]
  by_cases h : a = BitVec.ofNat 32 q.val
  · rw [if_pos h, if_pos h]
    show ((((1#1).setWidth 32).toInt : ℝ) : EReal) = _; simp
  · rw [if_neg h, if_neg h]
    show ((((0#1).setWidth 32).toInt : ℝ) : EReal) = _; simp

theorem class_apply (q k : Fin 128) :
    k0_pay4 (F := Ideal) e l (ix2 q k)
      = ((∑ i : Fin 4096, (if l (ix2 0 i) = BitVec.ofNat 32 q.val then 1 else 0) * en e i k : ℝ) : EReal) := by
  unfold k0_pay4
  pointwise
  rw [coe_sum]
  exact Finset.sum_congr rfl fun i _ => by rw [onehot_apply, rows_apply, EReal.coe_mul]

section Labels
variable (hl : ∀ i : Fin 4096, (l (ix2 0 i)).toNat < 128)

/-- The class of a row. -/
def cls (i : Fin 4096) : Fin 128 := ⟨(l (ix2 0 i)).toNat, hl i⟩

theorem cls_eq (i : Fin 4096) (q : Fin 128) : (l (ix2 0 i) = BitVec.ofNat 32 q.val) ↔ cls l hl i = q := by
  have hq := q.isLt
  constructor
  · intro h; apply Fin.ext; show (l (ix2 0 i)).toNat = q.val; rw [h, BitVec.toNat_ofNat]; omega
  · intro h; apply BitVec.eq_of_toNat_eq; rw [BitVec.toNat_ofNat, ← h]
    show _ = (l (ix2 0 i)).toNat % _
    have := hl i; omega
theorem cls_same (i j : Fin 4096) : (l (ix2 0 i) = l (ix2 0 j)) ↔ cls l hl i = cls l hl j := by
  constructor
  · intro h; apply Fin.ext; show (l (ix2 0 i)).toNat = (l (ix2 0 j)).toNat; rw [h]
  · intro h; exact BitVec.eq_of_toNat_eq (congrArg (fun q : Fin 128 => q.val) h)

include hl in
theorem seq_val : k0_pay5 (F := Ideal) e l = ((∑ i, ∑ j, (if l (ix2 0 i) = l (ix2 0 j) then sim e i j else 0) : ℝ) : EReal) := by
  simp only [cls_same l hl]
  unfold sim
  rw [sum_same (en e) (cls l hl), coe_sum]
  unfold k0_pay5
  pointwise
  refine Finset.sum_congr rfl fun q _ => ?_
  rw [coe_sum]
  refine Finset.sum_congr rfl fun k _ => ?_
  rw [class_apply, ← EReal.coe_mul]
  simp only [cls_eq l hl]
include hl in
theorem neq_val : k0_pay6 (F := Ideal) l = ((∑ i : Fin 4096, ∑ j : Fin 4096, (if l (ix2 0 i) = l (ix2 0 j) then 1 else 0) : ℝ) : EReal) := by
  simp only [cls_same l hl]
  rw [count_same (cls l hl), coe_sum]
  unfold k0_pay6
  pointwise
  refine Finset.sum_congr rfl fun q _ => ?_
  simp only [onehot_apply]
  rw [← coe_sum, ← EReal.coe_mul]
  simp only [cls_eq l hl]
include hl in
theorem sall_val : k0_pay7 (F := Ideal) e l = ((∑ i, ∑ j, sim e i j : ℝ) : EReal) := by
  unfold sim
  rw [sum_all, coe_sum]
  unfold k0_pay7
  pointwise
  refine Finset.sum_congr rfl fun k _ => ?_
  simp only [class_apply, cls_eq l hl]
  rw [← coe_sum, ← EReal.coe_mul, sum_classes (en e) (cls l hl)]
end Labels

theorem trace_val : k0_pay8 (F := Ideal) e = ((∑ i, sim e i i : ℝ) : EReal) := by
  unfold sim
  rw [coe_sum]
  unfold k0_pay8
  pointwise
  refine Finset.sum_congr rfl fun i _ => ?_
  rw [coe_sum]
  refine Finset.sum_congr rfl fun k _ => ?_
  rw [rows_apply, EReal.coe_mul]

theorem table_0 (a b c d : EReal) : k0_pay1 (F := Ideal) a b c d (iota .tc S8x128 32 [0] iota_S8x128_d0_w32) (ix2 0 0) = c := by
  unfold k0_pay1
  pointwise
  simp [Scalar.select, IntOp.andi, IntOp.cmpi]
theorem table_1 (a b c d : EReal) : k0_pay1 (F := Ideal) a b c d (iota .tc S8x128 32 [0] iota_S8x128_d0_w32) (ix2 0 1) = a := by
  unfold k0_pay1
  pointwise
  simp [Scalar.select, IntOp.andi, IntOp.cmpi]
theorem table_2 (a b c d : EReal) : k0_pay1 (F := Ideal) a b c d (iota .tc S8x128 32 [0] iota_S8x128_d0_w32) (ix2 0 2) = b := by
  unfold k0_pay1
  pointwise
  simp [Scalar.select, IntOp.andi, IntOp.cmpi]
theorem table_3 (a b c d : EReal) : k0_pay1 (F := Ideal) a b c d (iota .tc S8x128 32 [0] iota_S8x128_d0_w32) (ix2 0 3) = d := by
  unfold k0_pay1
  pointwise
  simp [Scalar.select, IntOp.andi, IntOp.cmpi]

end Cert.Proof.Val
-- ==== Proof.ValueHist.lean ====
module

public import proofs.«01_k».proof.Proof.ValueMath
public import proofs.«01_k».proof.Proof.HistCall

/-!
The histogram over the extended reals: a bin's counters, summed over the sixteen lanes, hold the
number of bytes of the words that name the bin.
-/

@[expose] public section

noncomputable section

namespace Cert.Proof.Val

open Cert.KernelIdeal Cert.KernelIdeal.Gen Cert.Proof.Run
open Idealize.ShloMosaic

/-! ## Sums over ranges -/

theorem sum_blocks {M : Type} [AddCommMonoid M] (a b : ℕ) (f : ℕ → M) :
    ∑ q ∈ Finset.range (a * b), f q = ∑ i ∈ Finset.range a, ∑ j ∈ Finset.range b, f (i * b + j) := by
  induction a with
  | zero => simp
  | succ a ih => rw [Nat.succ_mul, Finset.sum_range_add, ih, Finset.sum_range_succ]

theorem sum_blocks_eq {M : Type} [AddCommMonoid M] {N : ℕ} (a b : ℕ) (h : N = a * b) (f : ℕ → M) :
    ∑ q ∈ Finset.range N, f q = ∑ i ∈ Finset.range a, ∑ j ∈ Finset.range b, f (i * b + j) := by
  subst h; exact sum_blocks a b f

theorem sum_split_eq {M : Type} [AddCommMonoid M] {N : ℕ} (a b : ℕ) (h : N = a + b) (f : ℕ → M) :
    ∑ q ∈ Finset.range N, f q = ∑ i ∈ Finset.range a, f i + ∑ j ∈ Finset.range b, f (a + j) := by
  subst h; exact Finset.sum_range_add ..

/-! ## Bytes of a word -/

/-- Byte `k` of a word. -/
def byteOf (k : Fin 4) (w : BitVec 32) : ℕ := w.toNat / 256 ^ k.val % 256

theorem and_4080 (y : ℕ) : y &&& 4080 = y / 16 % 256 * 16 := by
  have h : y / 16 % 256 * 16 = (y >>> 4 &&& (2 ^ 8 - 1)) <<< 4 := by
    rw [Nat.shiftRight_eq_div_pow, Nat.and_two_pow_sub_one_eq_mod, Nat.shiftLeft_eq]
  have h' : 4080 = (2 ^ 8 - 1) <<< 4 := by decide
  rw [h, h']
  apply Nat.eq_of_testBit_eq
  intro i
  simp only [Nat.testBit_and, Nat.testBit_shiftLeft, Nat.testBit_shiftRight, Nat.testBit_two_pow_sub_one]
  by_cases hi : 4 ≤ i
  · simp only [hi, decide_true, Bool.true_and, ge_iff_le]; rw [show 4 + (i - 4) = i by omega]
  · simp [hi]

theorem slots_toNat (k : Fin 4) (w : IVec S16 32) (x : S16.Idx) : (slots k w x).toNat = byteOf k (w x) * 16 + (x 0).val := by
  have hl : (lanes x).toNat < 16 := by rw [lanes_toNat]; exact (x 0).isLt
  have key : ∀ y : BitVec 32, ((y &&& 4080#32) + lanes x).toNat = y.toNat / 16 % 256 * 16 + (x 0).val := by
    intro y; rw [slot_toNat _ _ hl, lanes_toNat, BitVec.toNat_and]; congr 1; exact and_4080 _
  have hw := (w x).isLt
  unfold byteOf
  match k with
  | 0 => refine (key ((w x) <<< 4)).trans ?_; rw [BitVec.toNat_shiftLeft, Nat.shiftLeft_eq]; norm_num; omega
  | 1 => refine (key ((w x) >>> 4)).trans ?_; rw [BitVec.toNat_ushiftRight, Nat.shiftRight_eq_div_pow]; norm_num; omega
  | 2 => refine (key ((w x) >>> 12)).trans ?_; rw [BitVec.toNat_ushiftRight, Nat.shiftRight_eq_div_pow]; norm_num; omega
  | 3 => refine (key ((w x) >>> 20)).trans ?_; rw [BitVec.toNat_ushiftRight, Nat.shiftRight_eq_div_pow]; norm_num; omega

/-! ## A bin's counters -/

/-- The counters of bin `b`, added up. -/
def binSum (h : Vec Ideal S4096 .f32) (b : Fin 256) : EReal :=
  ∑ l : Fin 16, (show EReal from h (ValueIdx.ix1 ⟨b.val * 16 + l.val, by omega⟩))

/-- How many of a word's bytes are `b`. -/
def hits (b : ℕ) (w : BitVec 32) : EReal := ∑ k : Fin 4, if byteOf k w = b then 1 else 0

theorem binSum_step (g : Vec Ideal S4096 .f32) (i : S4096.Idx) (b : Fin 256) :
    binSum (fun j => if (∀ a, (j a).val = (i a).val) then (show EReal from g i) + 1 else g j) b
      = binSum g b + if (i 0).val / 16 = b.val then 1 else 0 := by
  unfold binSum
  have hi : (i 0).val < 4096 := (i 0).isLt
  have e : ∀ l : Fin 16, (show EReal from (fun j : S4096.Idx => if (∀ a, (j a).val = (i a).val) then (show EReal from g i) + 1 else g j)
      (ValueIdx.ix1 ⟨b.val * 16 + l.val, by omega⟩))
      = (show EReal from g (ValueIdx.ix1 ⟨b.val * 16 + l.val, by omega⟩)) + if l.val = (i 0).val % 16 ∧ (i 0).val / 16 = b.val then 1 else 0 := by
    intro l
    by_cases h : b.val * 16 + l.val = (i 0).val
    · have : (ValueIdx.ix1 ⟨b.val * 16 + l.val, by omega⟩ : S4096.Idx) = i := by
        funext a; obtain rfl : a = 0 := Subsingleton.elim _ _; exact Fin.ext h
      show (if _ then _ else _) = _
      rw [this, if_pos (fun _ => rfl), if_pos (by omega)]
    · show (if _ then _ else _) = _
      rw [if_neg (fun hh => h (hh 0)), if_neg (by omega), add_zero]
  rw [Finset.sum_congr rfl fun l _ => e l, Finset.sum_add_distrib]
  congr 1
  by_cases h : (i 0).val / 16 = b.val
  · rw [if_pos h, Finset.sum_eq_single ⟨(i 0).val % 16, by omega⟩]
    · rw [if_pos ⟨rfl, h⟩]
    · intro l _ hl; rw [if_neg]; rintro ⟨h1, _⟩; exact hl (Fin.ext h1)
    · intro h; exact absurd (Finset.mem_univ _) h
  · rw [if_neg h]; exact Finset.sum_eq_zero fun l _ => if_neg fun hh => h hh.2

theorem binSum_count (k : Fin 4) (w : IVec S16 32) (h : Vec Ideal S4096 .f32) (b : Fin 256) :
    binSum (Run.count k w h) b = binSum h b + ∑ x : Fin 16, if byteOf k (w (ValueIdx.ix1 x)) = b.val then 1 else 0 := by
  have gen : ∀ (L : List (Fin 16)) (g : Vec Ideal S4096 .f32),
      binSum (L.foldl (fun g x => fun j => if (∀ a, (j a).val = (idxAt (s := S4096) ![slots k w] (slots_lt k w) (ValueIdx.ix1 x) a).val)
        then (show EReal from g (idxAt (s := S4096) ![slots k w] (slots_lt k w) (ValueIdx.ix1 x))) + 1 else g j) g) b
        = binSum g b + (L.map fun x => if byteOf k (w (ValueIdx.ix1 x)) = b.val then (1 : EReal) else 0).sum := by
    intro L
    induction L with
    | nil => intro g; simp
    | cons x L ih =>
      intro g
      rw [List.foldl_cons, ih, binSum_step, List.map_cons, List.sum_cons, add_assoc]
      congr 2
      have e : (idxAt (s := S4096) ![slots k w] (slots_lt k w) (ValueIdx.ix1 x) 0).val = byteOf k (w (ValueIdx.ix1 x)) * 16 + x.val := slots_toNat k w _
      rw [e]
      have hx := x.isLt
      have : (byteOf k (w (ValueIdx.ix1 x)) * 16 + x.val) / 16 = byteOf k (w (ValueIdx.ix1 x)) := by omega
      rw [this]
  have e := gen (List.finRange 16) h
  rw [← List.ofFn_eq_map, List.sum_ofFn] at e
  refine Eq.trans (congrArg (fun f => binSum f b) ?_) e
  unfold Run.count storeIdx
  have one : ∀ x, (ones (F := Ideal) x : EReal) = 1 := fun x => lit_one
  refine congrArg (fun st => List.foldl st h (List.finRange 16)) ?_
  funext g x
  have hx : (Shape.ofLane x : S16.Idx) = ValueIdx.ix1 x := by
    funext a; obtain rfl : a = 0 := Subsingleton.elim _ _; rfl
  funext j
  simp only [if_true, Elt.idxAdd_f32, one]
  rw [hx]
  rfl

theorem binSum_countWord (w : IVec S16 32) (h : Vec Ideal S4096 .f32) (b : Fin 256) :
    binSum (countWord w h) b = binSum h b + ∑ x : Fin 16, hits b.val (w (ValueIdx.ix1 x)) := by
  unfold countWord hits
  rw [binSum_count, binSum_count, binSum_count, binSum_count, Finset.sum_comm, Fin.sum_univ_four]
  simp only [add_assoc]

theorem binSum_trip (wd : Fin 8 → IVec S16 32) (h : Vec Ideal S4096 .f32) (b : Fin 256) :
    binSum (tripVal wd h) b = binSum h b + ∑ k : Fin 8, ∑ x : Fin 16, hits b.val (wd k (ValueIdx.ix1 x)) := by
  unfold tripVal
  simp only [binSum_countWord]
  rw [Fin.sum_univ_eight]
  simp only [add_assoc]

/-- A vector of words at a number. -/
def at1 {n : ℕ} (hn : 0 < n) (g : Vec Ideal ⟨1, ![n]⟩ .i32) (p : ℕ) : BitVec 32 := g (ValueIdx.ix1 ⟨p % n, Nat.mod_lt _ hn⟩)

theorem binSum_chunk (g : Vec Ideal S32768 .i32) (h : Vec Ideal S4096 .f32) (b : Fin 256) (n : ℕ) :
    binSum (countChunk g h n) b = binSum h b + ∑ p ∈ Finset.range (n * 128), hits b.val (at1 (n := 32768) (by decide) g p) := by
  induction n with
  | zero => simp [countChunk]
  | succ n ih =>
    show binSum (tripVal (chunkWords g n) (countChunk g h n)) b = _
    rw [binSum_trip, ih, Nat.succ_mul, Finset.sum_range_add, add_assoc]
    congr 2
    rw [sum_blocks_eq 8 16 (by norm_num), Finset.sum_range]
    refine Finset.sum_congr rfl fun k _ => ?_
    rw [Finset.sum_range]
    refine Finset.sum_congr rfl fun x _ => ?_
    congr 1
    unfold chunkWords at1
    congr 3
    show (128 * n + 16 * k.val + x.val) % 32768 = _
    congr 1; ring

theorem binSum_zeros (b : Fin 256) : binSum (zeros (F := Ideal)) b = 0 := by
  unfold binSum
  refine Finset.sum_eq_zero fun l _ => ?_
  exact Ideal.ofBits_zero_f32

theorem binSum_hist1 (g : Vec Ideal S32768 .i32) (b : Fin 256) :
    binSum (hist1Val g) b = ∑ p ∈ Finset.range 32768, hits b.val (at1 (n := 32768) (by decide) g p) := by
  unfold hist1Val; rw [binSum_chunk, binSum_zeros, zero_add]

theorem chunk_at {n : ℕ} (hn : 0 < n) (X : Vec Ideal ⟨1, ![n]⟩ .i32) (k p : ℕ) (hp : p < 32768) :
    at1 (n := 32768) (by decide) (chunkAt hn X k) p = at1 hn X (k * 32768 + p) := by
  unfold at1 chunkAt
  congr 3
  show (k * 32768 + p % 32768) % n = _
  rw [Nat.mod_eq_of_lt hp]

theorem binSum_tile1 (X : Vec Ideal S1048576 .i32) (w : ℕ) (b : Fin 256) :
    binSum (outTile1 X w) b = ∑ p ∈ Finset.range 32768, hits b.val (at1 (n := 1048576) (by decide) X (w * 32768 + p)) := by
  unfold outTile1; rw [binSum_hist1]
  exact Finset.sum_congr rfl fun p hp => by rw [chunk_at _ _ _ _ (Finset.mem_range.1 hp)]

theorem binSum_tile0 (X : Vec Ideal S2097152 .i32) (w : ℕ) (b : Fin 256) :
    binSum (outTile0 X w) b = ∑ p ∈ Finset.range 65536, hits b.val (at1 (n := 2097152) (by decide) X (w * 65536 + p)) := by
  unfold outTile0 hist2Val
  refine (binSum_chunk _ _ b 256).trans ?_
  rw [binSum_hist1, sum_split_eq (N := 65536) 32768 32768 (by norm_num), show 256 * 128 = 32768 by norm_num]
  refine congrArg₂ (· + ·) (Finset.sum_congr rfl fun p hp => ?_) (Finset.sum_congr rfl fun p hp => ?_)
  · rw [chunk_at _ _ _ _ (Finset.mem_range.1 hp)]
    exact congrArg (fun q => hits b.val (at1 _ X q)) (by ring)
  · rw [chunk_at _ _ _ _ (Finset.mem_range.1 hp)]
    exact congrArg (fun q => hits b.val (at1 _ X q)) (by ring)

/-- The counters of bin `b` in every tile's part, added up. -/
def joinSum (v : Vec Ideal S131072 .f32) (b : Fin 256) : EReal :=
  ∑ w : Fin 32, ∑ l : Fin 16, (show EReal from v (ValueIdx.ix1 ⟨w.val * 4096 + b.val * 16 + l.val, by omega⟩))

theorem joinSum_join (t : ℕ → Vec Ideal S4096 .f32) (b : Fin 256) : joinSum (join t) b = ∑ w : Fin 32, binSum (t w.val) b := by
  unfold joinSum binSum
  refine Finset.sum_congr rfl fun w _ => Finset.sum_congr rfl fun l _ => ?_
  show t ((w.val * 4096 + b.val * 16 + l.val) / 4096) (ValueIdx.ix1 ⟨(w.val * 4096 + b.val * 16 + l.val) % 4096, _⟩) = _
  have h1 : (w.val * 4096 + b.val * 16 + l.val) / 4096 = w.val := by omega
  have h2 : (w.val * 4096 + b.val * 16 + l.val) % 4096 = b.val * 16 + l.val := by omega
  rw [h1]
  exact congrArg (fun q => t w.val (ValueIdx.ix1 q)) (Fin.ext h2)

/-- The first call's counters. -/
theorem joinSum_0 (X : Vec Ideal S2097152 .i32) (b : Fin 256) :
    joinSum (join (outTile0 X)) b = ∑ p ∈ Finset.range 2097152, hits b.val (at1 (n := 2097152) (by decide) X p) := by
  rw [joinSum_join, sum_blocks_eq 32 65536 (by norm_num), Finset.sum_range]
  exact Finset.sum_congr rfl fun w _ => binSum_tile0 X w.val b
/-- The second and third calls' counters. -/
theorem joinSum_1 (X : Vec Ideal S1048576 .i32) (b : Fin 256) :
    joinSum (join (outTile1 X)) b = ∑ p ∈ Finset.range 1048576, hits b.val (at1 (n := 1048576) (by decide) X p) := by
  rw [joinSum_join, sum_blocks_eq 32 32768 (by norm_num), Finset.sum_range]
  exact Finset.sum_congr rfl fun w _ => binSum_tile1 X w.val b

end Cert.Proof.Val
-- ==== Proof.ValueCodes.lean ====
module

public import proofs.«01_k».proof.Proof.ValueStats
public import proofs.«01_k».proof.Proof.ValueHist
public import proofs.«01_k».proof.Proof.CodesRegion1

/-!
The codes of a tile: every word of the packed tile holds four codes, a quarter of the tile's rows apart.
-/

@[expose] public section

noncomputable section

namespace Cert.Proof.Val

open Cert.KernelIdeal Cert.KernelIdeal.Gen Cert.Proof.Run
open Idealize.ShloMosaic

/-! ## Four codes in a word -/

theorem byteOf_pack (c0 c1 c2 c3 : BitVec 32) (h0 : c0.toNat < 256) (h1 : c1.toNat < 256) (h2 : c2.toNat < 256) (h3 : c3.toNat < 256) (k : Fin 4) :
    byteOf k (c0 ||| c1 <<< 8 ||| c2 <<< 16 ||| c3 <<< 24) = (![c0, c1, c2, c3] k).toNat := by
  have e : (c0 ||| c1 <<< 8 ||| c2 <<< 16 ||| c3 <<< 24).toNat = c0.toNat + c1.toNat * 256 + c2.toNat * 65536 + c3.toNat * 16777216 := by
    have o : ∀ (i a b : ℕ), a < 2 ^ i → a ||| b * 2 ^ i = a + b * 2 ^ i := fun i a b h => by
      rw [← Nat.shiftLeft_eq, Nat.or_comm, ← Nat.shiftLeft_add_eq_or_of_lt h, Nat.add_comm]
    simp only [BitVec.toNat_or, BitVec.toNat_shiftLeft, Nat.shiftLeft_eq]
    rw [Nat.mod_eq_of_lt (by omega), Nat.mod_eq_of_lt (by omega), Nat.mod_eq_of_lt (by omega),
      o 8 _ _ (by omega), o 16 _ _ (by omega), o 24 _ _ (by omega)]
    norm_num
  unfold byteOf
  rw [e]
  match k with
  | 0 => show (_ / 1 % 256) = c0.toNat; omega
  | 1 => show (_ / 256 % 256) = c1.toNat; omega
  | 2 => show (_ / 65536 % 256) = c2.toNat; omega
  | 3 => show (_ / 16777216 % 256) = c3.toNat; omega

/-! ## A tile -/

section Tile
variable (v1 v3 : Vec Ideal S512x128 .f32) (v6 : Vec Ideal S512x1 .i32) (v8 : Vec Ideal S1x512 .i32)

theorem code_apply (r c : Fin 512) (s : ℝ) (hs : (∑ k : Fin 128, (v1 (ix2 r k) : EReal) * v3 (ix2 c k)) = (s : EReal)) (h : -1 ≤ s ∧ s ≤ 1) :
    k1_pay1 (F := Ideal) v1 v3 v6 v8 (ix2 r c)
      = BitVec.ofNat 32 (bin s + if v6 (ix2 r 0) = v8 (ix2 0 c) then 100 else 0) := by
  have e := code_eq s h (decide (v6 (ix2 r 0) = v8 (ix2 0 c)))
  simp only [decide_eq_true_eq] at e
  rw [← e]
  unfold k1_pay1
  pointwise
  rw [hs, lit_50, lit_49, lit_150, cmpi_eq_ite]
  by_cases hh : v6 (ix2 r 0) = v8 (ix2 0 c)
  · simp only [hh, if_true]; rfl
  · simp only [hh, if_false]; rfl

theorem shl_8 (x : BitVec 32) : IntOp.shli .vector x 8#32 = x <<< 8 := by simp [IntOp.shli]
theorem shl_16 (x : BitVec 32) : IntOp.shli .vector x 16#32 = x <<< 16 := by simp [IntOp.shli]
theorem shl_24 (x : BitVec 32) : IntOp.shli .vector x 24#32 = x <<< 24 := by simp [IntOp.shli]

/-- The code the kernel puts at an element of the tile. -/
def tileAt (diag : Bool) (P : ℕ → ℕ → ℕ) (r c : ℕ) : ℕ := if diag = true ∧ r = c then 255 else P r c

theorem tile_byte (diag : Bool) (P : ℕ → ℕ → ℕ) (hP : ∀ r c : Fin 512, k1_pay1 (F := Ideal) v1 v3 v6 v8 (ix2 r c) = BitVec.ofNat 32 (P r.val c.val))
    (hlt : ∀ r c : ℕ, P r c < 256) (R : Fin 512) (l : Fin 128) (k : Fin 4) :
    byteOf k (tileCodes (F := Ideal) diag v1 v3 v6 v8 (ix2 R l)) = tileAt diag P (128 * k.val + R.val / 4) (R.val % 4 * 128 + l.val) := by
  have hl := l.isLt
  have hR := R.isLt
  have tl : ∀ r c, tileAt diag P r c < 256 := fun r c => by unfold tileAt; split <;> [omega; exact hlt r c]
  have tn : ∀ r c, (BitVec.ofNat 32 (tileAt diag P r c)).toNat = tileAt diag P r c := fun r c => by
    rw [BitVec.toNat_ofNat]; exact Nat.mod_eq_of_lt (by have := tl r c; omega)
  have key : tileCodes (F := Ideal) diag v1 v3 v6 v8 (ix2 R l)
      = BitVec.ofNat 32 (tileAt diag P (R.val / 4) (R.val % 4 * 128 + l.val))
        ||| BitVec.ofNat 32 (tileAt diag P (128 + R.val / 4) (R.val % 4 * 128 + l.val)) <<< 8
        ||| BitVec.ofNat 32 (tileAt diag P (256 + R.val / 4) (R.val % 4 * 128 + l.val)) <<< 16
        ||| BitVec.ofNat 32 (tileAt diag P (384 + R.val / 4) (R.val % 4 * 128 + l.val)) <<< 24 := by
    have sel : ∀ r : ℕ, r < 512 → ∀ c : ℕ, c < 512 → ∀ hr hc, Scalar.select (IntOp.cmpi CmpIPredicate.eq (BitVec.ofNat 32 r) (BitVec.ofNat 32 c)) 255#32
        (k1_pay1 (F := Ideal) v1 v3 v6 v8 (ix2 ⟨r, hr⟩ ⟨c, hc⟩)) = BitVec.ofNat 32 (tileAt true P r c) := by
      intro r h1 c h2 hr hc
      rw [cmpi_eq_ite, hP]
      unfold tileAt
      by_cases h : r = c
      · rw [if_pos (congrArg _ h), if_pos ⟨rfl, h⟩]; rfl
      · rw [if_neg, if_neg (fun hh => h hh.2)]
        · rfl
        · intro hh
          have := congrArg BitVec.toNat hh
          rw [BitVec.toNat_ofNat, BitVec.toNat_ofNat] at this
          omega
    cases diag with
    | true =>
      unfold tileCodes; rw [if_pos rfl]
      unfold k1_pay2
      pointwise
      rw [sel _ (by omega) _ (by omega), sel _ (by omega) _ (by omega), sel _ (by omega) _ (by omega), sel _ (by omega) _ (by omega), shl_8, shl_16, shl_24]
      rfl
    | false =>
      unfold tileCodes; rw [if_neg (by decide)]
      unfold k1_pay3
      pointwise
      rw [hP, hP, hP, hP, shl_8, shl_16, shl_24]
      simp only [tileAt, Bool.false_eq_true, false_and, if_false]
      rfl
  rw [key, byteOf_pack _ _ _ _ (by rw [tn]; exact tl _ _) (by rw [tn]; exact tl _ _) (by rw [tn]; exact tl _ _) (by rw [tn]; exact tl _ _)]
  match k with
  | 0 => refine (tn _ _).trans ?_; congr 1; show _ = 128 * 0 + _; omega
  | 1 => exact tn _ _
  | 2 => exact tn _ _
  | 3 => exact tn _ _
end Tile

/-! ## A band's words -/

theorem hits_eq (c : ℕ) (w : BitVec 32) : hits c w = ∑ k ∈ Finset.range 4, if byteOf ⟨k % 4, Nat.mod_lt _ (by decide)⟩ w = c then 1 else 0 := by
  rw [Finset.sum_range]; unfold hits
  refine Finset.sum_congr rfl fun k _ => ?_
  have : (⟨k.val % 4, Nat.mod_lt _ (by decide)⟩ : Fin 4) = k := Fin.ext (Nat.mod_eq_of_lt k.isLt)
  rw [this]

/-- The bytes of a band's words are the codes of the band's elements, each once. -/
theorem band_sum (nt base : ℕ) {N : ℕ} (hN : N = nt * 8 * 65536) (X : ℕ → BitVec 32) (cd : ℕ → ℕ → ℕ)
    (h : ∀ T J a b : ℕ, T < nt → J < 8 → a < 128 → b < 512 → ∀ k : Fin 4,
      byteOf k (X ((T * 8 + J) * 65536 + (a * 512 + b))) = cd (base * 512 + (T * 512 + (k.val * 128 + a))) (J * 512 + b)) (c : ℕ) :
    ∑ p ∈ Finset.range N, hits c (X p)
      = ∑ r ∈ Finset.range (nt * 512), ∑ j ∈ Finset.range 4096, if cd (base * 512 + r) j = c then (1 : EReal) else 0 := by
  rw [sum_blocks_eq (nt * 8) 65536 hN, sum_blocks nt 8, sum_blocks nt 512]
  refine Finset.sum_congr rfl fun T hT => ?_
  have hT' := Finset.mem_range.1 hT
  have e1 : ∀ J ∈ Finset.range 8, (∑ q ∈ Finset.range 65536, hits c (X ((T * 8 + J) * 65536 + q)))
      = ∑ r ∈ Finset.range 512, ∑ b ∈ Finset.range 512, if cd (base * 512 + (T * 512 + r)) (J * 512 + b) = c then (1 : EReal) else 0 := by
    intro J hJ
    have hJ' := Finset.mem_range.1 hJ
    refine (sum_blocks_eq (N := 65536) 128 512 (by norm_num) (fun q => hits c (X ((T * 8 + J) * 65536 + q)))).trans ?_
    refine Eq.trans ?_ (sum_blocks_eq (N := 512) 4 128 (by norm_num)
      (fun r => ∑ b ∈ Finset.range 512, if cd (base * 512 + (T * 512 + r)) (J * 512 + b) = c then (1 : EReal) else 0)).symm
    rw [Finset.sum_comm (s := Finset.range 4)]
    refine Finset.sum_congr rfl fun a ha => ?_
    rw [Finset.sum_comm (s := Finset.range 4)]
    refine Finset.sum_congr rfl fun b hb => ?_
    rw [hits_eq]
    refine Finset.sum_congr rfl fun k hk => ?_
    have hk' : (⟨k % 4, Nat.mod_lt _ (by decide)⟩ : Fin 4).val = k := Nat.mod_eq_of_lt (Finset.mem_range.1 hk)
    rw [h T J a b hT' hJ' (Finset.mem_range.1 ha) (Finset.mem_range.1 hb), hk']
  refine (Finset.sum_congr rfl e1).trans (Finset.sum_comm.trans ?_)
  refine Finset.sum_congr rfl fun r _ => ?_
  exact (sum_blocks_eq (N := 4096) 8 512 (by norm_num) (fun j => if cd (base * 512 + (T * 512 + r)) j = c then (1 : EReal) else 0)).symm

/-! ## The codes of all pairs -/

/-- A row, from a number. -/
def row (i : ℕ) : Fin 4096 := ⟨i % 4096, Nat.mod_lt _ (by decide)⟩

section Pairs
variable (e : Vec Ideal S4096x128 .f32) (L : Fin 4096 → BitVec 32)

/-- The code of a pair of rows: its bin, a hundred more for a pair of one class, and 255 for a row with itself. -/
def code (i j : Fin 4096) : ℕ := if i = j then 255 else bin (sim e i j) + if L i = L j then 100 else 0

/-- The code of a pair of a tile's rows, the diagonal left aside. -/
def pairAt (bi bj r c : ℕ) : ℕ := bin (sim e (row (bi * 512 + r)) (row (bj * 512 + c))) + if L (row (bi * 512 + r)) = L (row (bj * 512 + c)) then 100 else 0

theorem pairAt_lt (bi bj r c : ℕ) : pairAt e L bi bj r c < 256 := by
  unfold pairAt
  have := bin_lt (sim e (row (bi * 512 + r)) (row (bj * 512 + c)))
  split <;> omega

theorem tile_code (v1 v3 : Vec Ideal S512x128 .f32) (v6 : Vec Ideal S512x1 .i32) (v8 : Vec Ideal S1x512 .i32) (bi bj : ℕ) (hbi : bi < 8) (hbj : bj < 8)
    (h1 : ∀ (r : Fin 512) (k : Fin 128), v1 (ix2 r k) = (en e (row (bi * 512 + r.val)) k : EReal))
    (h3 : ∀ (r : Fin 512) (k : Fin 128), v3 (ix2 r k) = (en e (row (bj * 512 + r.val)) k : EReal))
    (h6 : ∀ r : Fin 512, v6 (ix2 r 0) = L (row (bi * 512 + r.val)))
    (h8 : ∀ r : Fin 512, v8 (ix2 0 r) = L (row (bj * 512 + r.val)))
    (R : Fin 512) (l : Fin 128) (k : Fin 4) :
    byteOf k (tileCodes (F := Ideal) (decide (bi = bj)) v1 v3 v6 v8 (ix2 R l))
      = code e L (row (bi * 512 + (128 * k.val + R.val / 4))) (row (bj * 512 + (R.val % 4 * 128 + l.val))) := by
  have hP : ∀ r c : Fin 512, k1_pay1 (F := Ideal) v1 v3 v6 v8 (ix2 r c)
      = BitVec.ofNat 32 (pairAt e L bi bj r.val c.val) := by
    intro r c
    rw [code_apply v1 v3 v6 v8 r c (sim e (row (bi * 512 + r.val)) (row (bj * 512 + c.val))) ?_ (sim_mem e _ _), h6, h8]
    · rfl
    unfold sim
    rw [coe_sum]
    exact Finset.sum_congr rfl fun k _ => by rw [h1, h3, EReal.coe_mul]
  rw [tile_byte v1 v3 v6 v8 _ (pairAt e L bi bj) hP (pairAt_lt e L bi bj)]
  unfold tileAt code pairAt
  have hR := R.isLt
  have hl := l.isLt
  have hk := k.isLt
  have iff : (decide (bi = bj) = true ∧ 128 * k.val + R.val / 4 = R.val % 4 * 128 + l.val)
      ↔ row (bi * 512 + (128 * k.val + R.val / 4)) = row (bj * 512 + (R.val % 4 * 128 + l.val)) := by
    rw [decide_eq_true_iff, Fin.ext_iff]
    show _ ↔ (bi * 512 + (128 * k.val + R.val / 4)) % 4096 = (bj * 512 + (R.val % 4 * 128 + l.val)) % 4096
    have hx : 128 * k.val + R.val / 4 < 512 := by omega
    have hy : R.val % 4 * 128 + l.val < 512 := by omega
    generalize 128 * k.val + R.val / 4 = x at hx
    generalize R.val % 4 * 128 + l.val = y at hy
    rw [Nat.mod_eq_of_lt (by omega), Nat.mod_eq_of_lt (by omega)]
    omega
  by_cases h : decide (bi = bj) = true ∧ 128 * k.val + R.val / 4 = R.val % 4 * 128 + l.val
  · rw [if_pos h, if_pos (iff.1 h)]
  · rw [if_neg h, if_neg (fun hh => h (iff.2 hh))]

end Pairs

end Cert.Proof.Val
-- ==== Proof.ValueBlocks.lean ====
module

public import proofs.«01_k».proof.Proof.ValueCodes

/-!
Where a codes call's blocks lie in their arrays, and what the array it writes holds.
-/

@[expose] public section

noncomputable section

namespace Cert.Proof.Val

open Cert.KernelIdeal Cert.KernelIdeal.Gen Cert.Proof.Run
open Idealize.ShloMosaic
open Idealize.ShloMosaic.TcCoe

variable (W : Bufs Ideal) (n : ℕ) (c : Dev nD)

theorem index1_0 : ∀ t : Fin cfg1.N, (cfg1.win 0).index t 0 = t.val / 8 ∧ (cfg1.win 0).index t 1 = 0 := by decide
theorem index1_1 : ∀ t : Fin cfg1.N, (cfg1.win 1).index t 0 = t.val % 8 ∧ (cfg1.win 1).index t 1 = 0 := by decide
theorem index1_2 : ∀ t : Fin cfg1.N, (cfg1.win 2).index t 0 = t.val / 8 ∧ (cfg1.win 2).index t 1 = 0 := by decide
theorem index1_3 : ∀ t : Fin cfg1.N, (cfg1.win 3).index t 0 = 0 ∧ (cfg1.win 3).index t 1 = t.val % 8 := by decide
theorem index1_4 : ∀ t : Fin cfg1.N, (cfg1.win 4).index t 0 = t.val ∧ (cfg1.win 4).index t 1 = 0 := by decide
theorem cond1_iff : ∀ t : Fin cfg1.N, decide (k1_cond1 (grid1.coords t) = 1#1) = decide (t.val / 8 = t.val % 8) := by decide

theorem blk1_0 (t : Fin cfg1.N) (r : Fin 512) (k : Fin 128) (p : Fin 4096) (hp : p.val = t.val / 8 * 512 + r.val) :
    blk1 W c 0 t (ix2 r k) = W c main_v1_0 (ix2 p k) := by
  unfold blk1
  rw [View.read_apply]
  refine congrArg (W c main_v1_0) ?_
  funext a
  apply Fin.ext
  refine ((cfg1.win 0).rect_emb_val t _ a).trans ?_
  match a with
  | 0 => rw [(index1_0 t).1]; exact hp.symm
  | 1 => rw [(index1_0 t).2, Nat.zero_mul, Nat.zero_add]; rfl

theorem blk1_1 (t : Fin cfg1.N) (r : Fin 512) (k : Fin 128) (p : Fin 4096) (hp : p.val = t.val % 8 * 512 + r.val) :
    blk1 W c 1 t (ix2 r k) = W c main_v1_0 (ix2 p k) := by
  unfold blk1
  rw [View.read_apply]
  refine congrArg (W c main_v1_0) ?_
  funext a
  apply Fin.ext
  refine ((cfg1.win 1).rect_emb_val t _ a).trans ?_
  match a with
  | 0 => rw [(index1_1 t).1]; exact hp.symm
  | 1 => rw [(index1_1 t).2, Nat.zero_mul, Nat.zero_add]; rfl
theorem blk1_2 (t : Fin cfg1.N) (r : Fin 512) (p : Fin 4096) (hp : p.val = t.val / 8 * 512 + r.val) :
    blk1 W c 2 t (ix2 r 0) = W c main_v2 (ix2 p 0) := by
  unfold blk1
  rw [View.read_apply]
  refine congrArg (W c main_v2) ?_
  funext a
  apply Fin.ext
  refine ((cfg1.win 2).rect_emb_val t _ a).trans ?_
  match a with
  | 0 => rw [(index1_2 t).1]; exact hp.symm
  | 1 => rw [(index1_2 t).2, Nat.zero_mul, Nat.zero_add]; rfl
theorem blk1_3 (t : Fin cfg1.N) (r : Fin 512) (p : Fin 4096) (hp : p.val = t.val % 8 * 512 + r.val) :
    blk1 W c 3 t (ix2 0 r) = W c main_v3 (ix2 0 p) := by
  unfold blk1
  rw [View.read_apply]
  refine congrArg (W c main_v3) ?_
  funext a
  apply Fin.ext
  refine ((cfg1.win 3).rect_emb_val t _ a).trans ?_
  match a with
  | 0 => rw [(index1_3 t).1, Nat.zero_mul, Nat.zero_add]; rfl
  | 1 => rw [(index1_3 t).2]; exact hp.symm

/-- What the first band's codes call leaves at an index. -/
def codesAt1 (i : S16384x128.Idx) : BitVec 32 :=
  tileOut1 W c ⟨(i 0).val / 512, by rw [show cfg1.N = 32 from N_1]; have : (i 0).val < 16384 := (i 0).isLt; omega⟩ (ix2 ⟨(i 0).val % 512, Nat.mod_lt _ (by decide)⟩ ⟨(i 1).val, (i 1).isLt⟩)

theorem codes1_apply (t : Fin cfg1.N) (R : Fin 512) (l : Fin 128) (p : Fin 16384) (hp : p.val = t.val * 512 + R.val) :
    codes1 W n c (ix2 p l) = tileOut1 W c t (ix2 R l) := by
  have emb : ∀ (t : Fin cfg1.N) (R : Fin 512) (l : Fin 128) (p : Fin 16384), p.val = t.val * 512 + R.val →
      ((cfg1.win 4).blk t).view.emb (ix2 R l) = (ix2 p l : S16384x128.Idx) := by
    intro t R l p hp
    funext a
    apply Fin.ext
    refine ((cfg1.win 4).rect_emb_val t _ a).trans ?_
    match a with
    | 0 => rw [(index1_4 t).1]; exact hp.symm
    | 1 => rw [(index1_4 t).2, Nat.zero_mul, Nat.zero_add]; rfl
  have at' : ∀ (t : Fin cfg1.N) (R : Fin 512) (l : Fin 128) (p : Fin 16384), p.val = t.val * 512 + R.val →
      codesAt1 W c (ix2 p l) = tileOut1 W c t (ix2 R l) := by
    intro t R l p hp
    have hR := R.isLt
    have e1 : p.val / 512 = t.val := by omega
    have e2 : p.val % 512 = R.val := by omega
    unfold codesAt1
    exact congrArg₂ (fun t R => tileOut1 W c t (ix2 R l)) (Fin.ext e1) (Fin.ext e2)
  unfold codes1
  refine ((dat1 W n c).arrAt_apply_of_mem 4 (codesAt1 W c) ?_ cfg1.N t (ix2 p l) t.isLt (flush1_4 t) ?_).trans (at' t R l p hp)
  · intro t _
    funext y
    rw [View.read_apply]
    have ht : t.val < 32 := lt_of_lt_of_eq t.isLt N_1
    obtain ⟨R, l, rfl⟩ : ∃ (R : Fin 512) (l : Fin 128), y = ix2 R l := ⟨y 0, y 1, by funext a; match a with | 0 => rfl | 1 => rfl⟩
    have hR := R.isLt
    have h := emb t R l ⟨t.val * 512 + R.val, by omega⟩ rfl
    refine Eq.trans ?_ (congrArg (codesAt1 W c) h).symm
    rw [at' t R l _ rfl]
    rfl
  · rw [← emb t R l p hp]
    exact View.emb_mem_set _ _

/-- The bytes of the first band's words are the codes of its pairs. -/
theorem band1 (e : Vec Ideal S4096x128 .f32) (L : Fin 4096 → BitVec 32)
    (h0 : ∀ (p : Fin 4096) (k : Fin 128), W c main_v1_0 (ix2 p k) = (en e p k : EReal))
    (h2 : ∀ p : Fin 4096, W c main_v2 (ix2 p 0) = L p) (h3 : ∀ p : Fin 4096, W c main_v3 (ix2 0 p) = L p) (b : ℕ) :
    ∑ p ∈ Finset.range 2097152, hits b (at1 (n := 2097152) (by decide) (shapeCast S2097152 (codes1 W n c) shapeCasts_S16384x128_S2097152) p)
      = ∑ r ∈ Finset.range 2048, ∑ j ∈ Finset.range 4096, if code e L (row (0 * 512 + r)) (row j) = b then (1 : EReal) else 0 := by
  refine band_sum 4 0 (by norm_num) _ (fun i j => code e L (row i) (row j)) ?_ b
  intro T J a q hT hJ ha hq k
  have hk := k.isLt
  have e1 : at1 (n := 2097152) (by decide) (shapeCast S2097152 (codes1 W n c) shapeCasts_S16384x128_S2097152) ((T * 8 + J) * 65536 + (a * 512 + q))
      = codes1 W n c (ix2 ⟨(T * 8 + J) * 512 + (a * 4 + q / 128), by omega⟩ ⟨q % 128, Nat.mod_lt _ (by decide)⟩) := by
    unfold at1
    refine (show shapeCast S2097152 (codes1 W n c) shapeCasts_S16384x128_S2097152 (ix1 ⟨((T * 8 + J) * 65536 + (a * 512 + q)) % 2097152, Nat.mod_lt _ (by decide)⟩) = _ from ?_)
    pointwise
    refine congrArg₂ (fun x y => codes1 W n c (ix2 x y)) (Fin.ext ?_) (Fin.ext ?_)
    · show ((T * 8 + J) * 65536 + (a * 512 + q)) % 2097152 / 128 = (T * 8 + J) * 512 + (a * 4 + q / 128)
      omega
    · show ((T * 8 + J) * 65536 + (a * 512 + q)) % 2097152 % 128 = q % 128
      omega
  have ht : T * 8 + J < cfg1.N := by rw [show cfg1.N = 32 from N_1]; omega
  have d8 : (T * 8 + J) / 8 = T := by omega
  have m8 : (T * 8 + J) % 8 = J := by omega
  have rv : ∀ i : ℕ, i < 4096 → (row i).val = i := fun i hi => Nat.mod_eq_of_lt hi
  rw [e1, codes1_apply W n c ⟨T * 8 + J, ht⟩ ⟨a * 4 + q / 128, by omega⟩ ⟨q % 128, Nat.mod_lt _ (by decide)⟩ _ rfl]
  unfold tileOut1
  rw [cond1_iff]
  show byteOf k (tileCodes (decide ((T * 8 + J) / 8 = (T * 8 + J) % 8)) _ _ _ _ _) = _
  rw [d8, m8, show decide (T = J) = decide (0 + T = J) by rw [Nat.zero_add]]
  rw [tile_code e L _ _ _ _ (0 + T) J (by omega) hJ
    (fun r k => by have := r.isLt; rw [blk1_0 W c _ r k (row ((0 + T) * 512 + r.val)) (by rw [rv _ (by omega)]; show _ = (T * 8 + J) / 8 * 512 + _; omega), h0])
    (fun r k => by have := r.isLt; rw [blk1_1 W c _ r k (row (J * 512 + r.val)) (by rw [rv _ (by omega)]; show _ = (T * 8 + J) % 8 * 512 + _; omega), h0])
    (fun r => by have := r.isLt; rw [blk1_2 W c _ r (row ((0 + T) * 512 + r.val)) (by rw [rv _ (by omega)]; show _ = (T * 8 + J) / 8 * 512 + _; omega), h2])
    (fun r => by have := r.isLt; rw [blk1_3 W c _ r (row (J * 512 + r.val)) (by rw [rv _ (by omega)]; show _ = (T * 8 + J) % 8 * 512 + _; omega), h3])]
  refine congrArg₂ (fun x y => code e L (row x) (row y)) ?_ ?_
  · show (0 + T) * 512 + (128 * k.val + (a * 4 + q / 128) / 4) = 0 * 512 + (T * 512 + (k.val * 128 + a)); omega
  · show J * 512 + ((a * 4 + q / 128) % 4 * 128 + q % 128) = J * 512 + q; omega

end Cert.Proof.Val
-- ==== Proof.ValueBlocks3.lean ====
module

public import proofs.«01_k».proof.Proof.ValueCodes
public import proofs.«01_k».proof.Proof.CodesRegion3

/-!
Where a codes call's blocks lie in their arrays, and what the array it writes holds.
-/

@[expose] public section

noncomputable section

namespace Cert.Proof.Val

open Cert.KernelIdeal Cert.KernelIdeal.Gen Cert.Proof.Run
open Idealize.ShloMosaic
open Idealize.ShloMosaic.TcCoe

variable (W : Bufs Ideal) (n : ℕ) (c : Dev nD)

theorem index3_0 : ∀ t : Fin cfg3.N, (cfg3.win 0).index t 0 = t.val / 8 + 4 ∧ (cfg3.win 0).index t 1 = 0 := by decide
theorem index3_1 : ∀ t : Fin cfg3.N, (cfg3.win 1).index t 0 = t.val % 8 ∧ (cfg3.win 1).index t 1 = 0 := by decide
theorem index3_2 : ∀ t : Fin cfg3.N, (cfg3.win 2).index t 0 = t.val / 8 + 4 ∧ (cfg3.win 2).index t 1 = 0 := by decide
theorem index3_3 : ∀ t : Fin cfg3.N, (cfg3.win 3).index t 0 = 0 ∧ (cfg3.win 3).index t 1 = t.val % 8 := by decide
theorem index3_4 : ∀ t : Fin cfg3.N, (cfg3.win 4).index t 0 = t.val ∧ (cfg3.win 4).index t 1 = 0 := by decide
theorem cond3_iff : ∀ t : Fin cfg3.N, decide (k3_cond1 (grid3.coords t) = 1#1) = decide (t.val / 8 + 4 = t.val % 8) := by decide

theorem blk3_0 (t : Fin cfg3.N) (r : Fin 512) (k : Fin 128) (p : Fin 4096) (hp : p.val = (t.val / 8 + 4) * 512 + r.val) :
    blk3 W c 0 t (ix2 r k) = W c main_v1_0 (ix2 p k) := by
  unfold blk3
  rw [View.read_apply]
  refine congrArg (W c main_v1_0) ?_
  funext a
  apply Fin.ext
  refine ((cfg3.win 0).rect_emb_val t _ a).trans ?_
  match a with
  | 0 => rw [(index3_0 t).1]; exact hp.symm
  | 1 => rw [(index3_0 t).2, Nat.zero_mul, Nat.zero_add]; rfl

theorem blk3_1 (t : Fin cfg3.N) (r : Fin 512) (k : Fin 128) (p : Fin 4096) (hp : p.val = t.val % 8 * 512 + r.val) :
    blk3 W c 1 t (ix2 r k) = W c main_v1_0 (ix2 p k) := by
  unfold blk3
  rw [View.read_apply]
  refine congrArg (W c main_v1_0) ?_
  funext a
  apply Fin.ext
  refine ((cfg3.win 1).rect_emb_val t _ a).trans ?_
  match a with
  | 0 => rw [(index3_1 t).1]; exact hp.symm
  | 1 => rw [(index3_1 t).2, Nat.zero_mul, Nat.zero_add]; rfl
theorem blk3_2 (t : Fin cfg3.N) (r : Fin 512) (p : Fin 4096) (hp : p.val = (t.val / 8 + 4) * 512 + r.val) :
    blk3 W c 2 t (ix2 r 0) = W c main_v7 (ix2 p 0) := by
  unfold blk3
  rw [View.read_apply]
  refine congrArg (W c main_v7) ?_
  funext a
  apply Fin.ext
  refine ((cfg3.win 2).rect_emb_val t _ a).trans ?_
  match a with
  | 0 => rw [(index3_2 t).1]; exact hp.symm
  | 1 => rw [(index3_2 t).2, Nat.zero_mul, Nat.zero_add]; rfl
theorem blk3_3 (t : Fin cfg3.N) (r : Fin 512) (p : Fin 4096) (hp : p.val = t.val % 8 * 512 + r.val) :
    blk3 W c 3 t (ix2 0 r) = W c main_v8 (ix2 0 p) := by
  unfold blk3
  rw [View.read_apply]
  refine congrArg (W c main_v8) ?_
  funext a
  apply Fin.ext
  refine ((cfg3.win 3).rect_emb_val t _ a).trans ?_
  match a with
  | 0 => rw [(index3_3 t).1, Nat.zero_mul, Nat.zero_add]; rfl
  | 1 => rw [(index3_3 t).2]; exact hp.symm

/-- What the second band's codes call leaves at an index. -/
def codesAt3 (i : S8192x128.Idx) : BitVec 32 :=
  tileOut3 W c ⟨(i 0).val / 512, by rw [show cfg3.N = 16 from N_3]; have : (i 0).val < 8192 := (i 0).isLt; omega⟩ (ix2 ⟨(i 0).val % 512, Nat.mod_lt _ (by decide)⟩ ⟨(i 1).val, (i 1).isLt⟩)

theorem codes3_apply (t : Fin cfg3.N) (R : Fin 512) (l : Fin 128) (p : Fin 8192) (hp : p.val = t.val * 512 + R.val) :
    codes3 W n c (ix2 p l) = tileOut3 W c t (ix2 R l) := by
  have emb : ∀ (t : Fin cfg3.N) (R : Fin 512) (l : Fin 128) (p : Fin 8192), p.val = t.val * 512 + R.val →
      ((cfg3.win 4).blk t).view.emb (ix2 R l) = (ix2 p l : S8192x128.Idx) := by
    intro t R l p hp
    funext a
    apply Fin.ext
    refine ((cfg3.win 4).rect_emb_val t _ a).trans ?_
    match a with
    | 0 => rw [(index3_4 t).1]; exact hp.symm
    | 1 => rw [(index3_4 t).2, Nat.zero_mul, Nat.zero_add]; rfl
  have at' : ∀ (t : Fin cfg3.N) (R : Fin 512) (l : Fin 128) (p : Fin 8192), p.val = t.val * 512 + R.val →
      codesAt3 W c (ix2 p l) = tileOut3 W c t (ix2 R l) := by
    intro t R l p hp
    have hR := R.isLt
    have e1 : p.val / 512 = t.val := by omega
    have e2 : p.val % 512 = R.val := by omega
    unfold codesAt3
    exact congrArg₂ (fun t R => tileOut3 W c t (ix2 R l)) (Fin.ext e1) (Fin.ext e2)
  unfold codes3
  refine ((dat3 W n c).arrAt_apply_of_mem 4 (codesAt3 W c) ?_ cfg3.N t (ix2 p l) t.isLt (flush3_4 t) ?_).trans (at' t R l p hp)
  · intro t _
    funext y
    rw [View.read_apply]
    have ht : t.val < 16 := lt_of_lt_of_eq t.isLt N_3
    obtain ⟨R, l, rfl⟩ : ∃ (R : Fin 512) (l : Fin 128), y = ix2 R l := ⟨y 0, y 1, by funext a; match a with | 0 => rfl | 1 => rfl⟩
    have hR := R.isLt
    have h := emb t R l ⟨t.val * 512 + R.val, by omega⟩ rfl
    refine Eq.trans ?_ (congrArg (codesAt3 W c) h).symm
    rw [at' t R l _ rfl]
    rfl
  · rw [← emb t R l p hp]
    exact View.emb_mem_set _ _

/-- The bytes of the second band's words are the codes of its pairs. -/
theorem band3 (e : Vec Ideal S4096x128 .f32) (L : Fin 4096 → BitVec 32)
    (h0 : ∀ (p : Fin 4096) (k : Fin 128), W c main_v1_0 (ix2 p k) = (en e p k : EReal))
    (h2 : ∀ p : Fin 4096, W c main_v7 (ix2 p 0) = L p) (h3 : ∀ p : Fin 4096, W c main_v8 (ix2 0 p) = L p) (b : ℕ) :
    ∑ p ∈ Finset.range 1048576, hits b (at1 (n := 1048576) (by decide) (shapeCast S1048576 (codes3 W n c) shapeCasts_S8192x128_S1048576) p)
      = ∑ r ∈ Finset.range 1024, ∑ j ∈ Finset.range 4096, if code e L (row (4 * 512 + r)) (row j) = b then (1 : EReal) else 0 := by
  refine band_sum 2 4 (by norm_num) _ (fun i j => code e L (row i) (row j)) ?_ b
  intro T J a q hT hJ ha hq k
  have hk := k.isLt
  have e1 : at1 (n := 1048576) (by decide) (shapeCast S1048576 (codes3 W n c) shapeCasts_S8192x128_S1048576) ((T * 8 + J) * 65536 + (a * 512 + q))
      = codes3 W n c (ix2 ⟨(T * 8 + J) * 512 + (a * 4 + q / 128), by omega⟩ ⟨q % 128, Nat.mod_lt _ (by decide)⟩) := by
    unfold at1
    refine (show shapeCast S1048576 (codes3 W n c) shapeCasts_S8192x128_S1048576 (ix1 ⟨((T * 8 + J) * 65536 + (a * 512 + q)) % 1048576, Nat.mod_lt _ (by decide)⟩) = _ from ?_)
    pointwise
    refine congrArg₂ (fun x y => codes3 W n c (ix2 x y)) (Fin.ext ?_) (Fin.ext ?_)
    · show ((T * 8 + J) * 65536 + (a * 512 + q)) % 1048576 / 128 = (T * 8 + J) * 512 + (a * 4 + q / 128)
      omega
    · show ((T * 8 + J) * 65536 + (a * 512 + q)) % 1048576 % 128 = q % 128
      omega
  have ht : T * 8 + J < cfg3.N := by rw [show cfg3.N = 16 from N_3]; omega
  have d8 : (T * 8 + J) / 8 = T := by omega
  have m8 : (T * 8 + J) % 8 = J := by omega
  have rv : ∀ i : ℕ, i < 4096 → (row i).val = i := fun i hi => Nat.mod_eq_of_lt hi
  rw [e1, codes3_apply W n c ⟨T * 8 + J, ht⟩ ⟨a * 4 + q / 128, by omega⟩ ⟨q % 128, Nat.mod_lt _ (by decide)⟩ _ rfl]
  unfold tileOut3
  rw [cond3_iff]
  show byteOf k (tileCodes (decide ((T * 8 + J) / 8 + 4 = (T * 8 + J) % 8)) _ _ _ _ _) = _
  rw [d8, m8]
  rw [tile_code e L _ _ _ _ (T + 4) J (by omega) hJ
    (fun r k => by have := r.isLt; rw [blk3_0 W c _ r k (row ((T + 4) * 512 + r.val)) (by rw [rv _ (by omega)]; show _ = ((T * 8 + J) / 8 + 4) * 512 + _; omega), h0])
    (fun r k => by have := r.isLt; rw [blk3_1 W c _ r k (row (J * 512 + r.val)) (by rw [rv _ (by omega)]; show _ = (T * 8 + J) % 8 * 512 + _; omega), h0])
    (fun r => by have := r.isLt; rw [blk3_2 W c _ r (row ((T + 4) * 512 + r.val)) (by rw [rv _ (by omega)]; show _ = ((T * 8 + J) / 8 + 4) * 512 + _; omega), h2])
    (fun r => by have := r.isLt; rw [blk3_3 W c _ r (row (J * 512 + r.val)) (by rw [rv _ (by omega)]; show _ = (T * 8 + J) % 8 * 512 + _; omega), h3])]
  refine congrArg₂ (fun x y => code e L (row x) (row y)) ?_ ?_
  · show (T + 4) * 512 + (128 * k.val + (a * 4 + q / 128) / 4) = 4 * 512 + (T * 512 + (k.val * 128 + a)); omega
  · show J * 512 + ((a * 4 + q / 128) % 4 * 128 + q % 128) = J * 512 + q; omega

end Cert.Proof.Val
-- ==== Proof.ValueBlocks5.lean ====
module

public import proofs.«01_k».proof.Proof.ValueCodes
public import proofs.«01_k».proof.Proof.CodesRegion5

/-!
Where a codes call's blocks lie in their arrays, and what the array it writes holds.
-/

@[expose] public section

noncomputable section

namespace Cert.Proof.Val

open Cert.KernelIdeal Cert.KernelIdeal.Gen Cert.Proof.Run
open Idealize.ShloMosaic
open Idealize.ShloMosaic.TcCoe

variable (W : Bufs Ideal) (n : ℕ) (c : Dev nD)

theorem index5_0 : ∀ t : Fin cfg5.N, (cfg5.win 0).index t 0 = t.val / 8 + 6 ∧ (cfg5.win 0).index t 1 = 0 := by decide
theorem index5_1 : ∀ t : Fin cfg5.N, (cfg5.win 1).index t 0 = t.val % 8 ∧ (cfg5.win 1).index t 1 = 0 := by decide
theorem index5_2 : ∀ t : Fin cfg5.N, (cfg5.win 2).index t 0 = t.val / 8 + 6 ∧ (cfg5.win 2).index t 1 = 0 := by decide
theorem index5_3 : ∀ t : Fin cfg5.N, (cfg5.win 3).index t 0 = 0 ∧ (cfg5.win 3).index t 1 = t.val % 8 := by decide
theorem index5_4 : ∀ t : Fin cfg5.N, (cfg5.win 4).index t 0 = t.val ∧ (cfg5.win 4).index t 1 = 0 := by decide
theorem cond5_iff : ∀ t : Fin cfg5.N, decide (k5_cond1 (grid5.coords t) = 1#1) = decide (t.val / 8 + 6 = t.val % 8) := by decide

theorem blk5_0 (t : Fin cfg5.N) (r : Fin 512) (k : Fin 128) (p : Fin 4096) (hp : p.val = (t.val / 8 + 6) * 512 + r.val) :
    blk5 W c 0 t (ix2 r k) = W c main_v1_0 (ix2 p k) := by
  unfold blk5
  rw [View.read_apply]
  refine congrArg (W c main_v1_0) ?_
  funext a
  apply Fin.ext
  refine ((cfg5.win 0).rect_emb_val t _ a).trans ?_
  match a with
  | 0 => rw [(index5_0 t).1]; exact hp.symm
  | 1 => rw [(index5_0 t).2, Nat.zero_mul, Nat.zero_add]; rfl

theorem blk5_1 (t : Fin cfg5.N) (r : Fin 512) (k : Fin 128) (p : Fin 4096) (hp : p.val = t.val % 8 * 512 + r.val) :
    blk5 W c 1 t (ix2 r k) = W c main_v1_0 (ix2 p k) := by
  unfold blk5
  rw [View.read_apply]
  refine congrArg (W c main_v1_0) ?_
  funext a
  apply Fin.ext
  refine ((cfg5.win 1).rect_emb_val t _ a).trans ?_
  match a with
  | 0 => rw [(index5_1 t).1]; exact hp.symm
  | 1 => rw [(index5_1 t).2, Nat.zero_mul, Nat.zero_add]; rfl
theorem blk5_2 (t : Fin cfg5.N) (r : Fin 512) (p : Fin 4096) (hp : p.val = (t.val / 8 + 6) * 512 + r.val) :
    blk5 W c 2 t (ix2 r 0) = W c main_v13 (ix2 p 0) := by
  unfold blk5
  rw [View.read_apply]
  refine congrArg (W c main_v13) ?_
  funext a
  apply Fin.ext
  refine ((cfg5.win 2).rect_emb_val t _ a).trans ?_
  match a with
  | 0 => rw [(index5_2 t).1]; exact hp.symm
  | 1 => rw [(index5_2 t).2, Nat.zero_mul, Nat.zero_add]; rfl
theorem blk5_3 (t : Fin cfg5.N) (r : Fin 512) (p : Fin 4096) (hp : p.val = t.val % 8 * 512 + r.val) :
    blk5 W c 3 t (ix2 0 r) = W c main_v14 (ix2 0 p) := by
  unfold blk5
  rw [View.read_apply]
  refine congrArg (W c main_v14) ?_
  funext a
  apply Fin.ext
  refine ((cfg5.win 3).rect_emb_val t _ a).trans ?_
  match a with
  | 0 => rw [(index5_3 t).1, Nat.zero_mul, Nat.zero_add]; rfl
  | 1 => rw [(index5_3 t).2]; exact hp.symm

/-- What the third band's codes call leaves at an index. -/
def codesAt5 (i : S8192x128.Idx) : BitVec 32 :=
  tileOut5 W c ⟨(i 0).val / 512, by rw [show cfg5.N = 16 from N_5]; have : (i 0).val < 8192 := (i 0).isLt; omega⟩ (ix2 ⟨(i 0).val % 512, Nat.mod_lt _ (by decide)⟩ ⟨(i 1).val, (i 1).isLt⟩)

theorem codes5_apply (t : Fin cfg5.N) (R : Fin 512) (l : Fin 128) (p : Fin 8192) (hp : p.val = t.val * 512 + R.val) :
    codes5 W n c (ix2 p l) = tileOut5 W c t (ix2 R l) := by
  have emb : ∀ (t : Fin cfg5.N) (R : Fin 512) (l : Fin 128) (p : Fin 8192), p.val = t.val * 512 + R.val →
      ((cfg5.win 4).blk t).view.emb (ix2 R l) = (ix2 p l : S8192x128.Idx) := by
    intro t R l p hp
    funext a
    apply Fin.ext
    refine ((cfg5.win 4).rect_emb_val t _ a).trans ?_
    match a with
    | 0 => rw [(index5_4 t).1]; exact hp.symm
    | 1 => rw [(index5_4 t).2, Nat.zero_mul, Nat.zero_add]; rfl
  have at' : ∀ (t : Fin cfg5.N) (R : Fin 512) (l : Fin 128) (p : Fin 8192), p.val = t.val * 512 + R.val →
      codesAt5 W c (ix2 p l) = tileOut5 W c t (ix2 R l) := by
    intro t R l p hp
    have hR := R.isLt
    have e1 : p.val / 512 = t.val := by omega
    have e2 : p.val % 512 = R.val := by omega
    unfold codesAt5
    exact congrArg₂ (fun t R => tileOut5 W c t (ix2 R l)) (Fin.ext e1) (Fin.ext e2)
  unfold codes5
  refine ((dat5 W n c).arrAt_apply_of_mem 4 (codesAt5 W c) ?_ cfg5.N t (ix2 p l) t.isLt (flush5_4 t) ?_).trans (at' t R l p hp)
  · intro t _
    funext y
    rw [View.read_apply]
    have ht : t.val < 16 := lt_of_lt_of_eq t.isLt N_5
    obtain ⟨R, l, rfl⟩ : ∃ (R : Fin 512) (l : Fin 128), y = ix2 R l := ⟨y 0, y 1, by funext a; match a with | 0 => rfl | 1 => rfl⟩
    have hR := R.isLt
    have h := emb t R l ⟨t.val * 512 + R.val, by omega⟩ rfl
    refine Eq.trans ?_ (congrArg (codesAt5 W c) h).symm
    rw [at' t R l _ rfl]
    rfl
  · rw [← emb t R l p hp]
    exact View.emb_mem_set _ _

/-- The bytes of the third band's words are the codes of its pairs. -/
theorem band5 (e : Vec Ideal S4096x128 .f32) (L : Fin 4096 → BitVec 32)
    (h0 : ∀ (p : Fin 4096) (k : Fin 128), W c main_v1_0 (ix2 p k) = (en e p k : EReal))
    (h2 : ∀ p : Fin 4096, W c main_v13 (ix2 p 0) = L p) (h3 : ∀ p : Fin 4096, W c main_v14 (ix2 0 p) = L p) (b : ℕ) :
    ∑ p ∈ Finset.range 1048576, hits b (at1 (n := 1048576) (by decide) (shapeCast S1048576 (codes5 W n c) shapeCasts_S8192x128_S1048576) p)
      = ∑ r ∈ Finset.range 1024, ∑ j ∈ Finset.range 4096, if code e L (row (6 * 512 + r)) (row j) = b then (1 : EReal) else 0 := by
  refine band_sum 2 6 (by norm_num) _ (fun i j => code e L (row i) (row j)) ?_ b
  intro T J a q hT hJ ha hq k
  have hk := k.isLt
  have e1 : at1 (n := 1048576) (by decide) (shapeCast S1048576 (codes5 W n c) shapeCasts_S8192x128_S1048576) ((T * 8 + J) * 65536 + (a * 512 + q))
      = codes5 W n c (ix2 ⟨(T * 8 + J) * 512 + (a * 4 + q / 128), by omega⟩ ⟨q % 128, Nat.mod_lt _ (by decide)⟩) := by
    unfold at1
    refine (show shapeCast S1048576 (codes5 W n c) shapeCasts_S8192x128_S1048576 (ix1 ⟨((T * 8 + J) * 65536 + (a * 512 + q)) % 1048576, Nat.mod_lt _ (by decide)⟩) = _ from ?_)
    pointwise
    refine congrArg₂ (fun x y => codes5 W n c (ix2 x y)) (Fin.ext ?_) (Fin.ext ?_)
    · show ((T * 8 + J) * 65536 + (a * 512 + q)) % 1048576 / 128 = (T * 8 + J) * 512 + (a * 4 + q / 128)
      omega
    · show ((T * 8 + J) * 65536 + (a * 512 + q)) % 1048576 % 128 = q % 128
      omega
  have ht : T * 8 + J < cfg5.N := by rw [show cfg5.N = 16 from N_5]; omega
  have d8 : (T * 8 + J) / 8 = T := by omega
  have m8 : (T * 8 + J) % 8 = J := by omega
  have rv : ∀ i : ℕ, i < 4096 → (row i).val = i := fun i hi => Nat.mod_eq_of_lt hi
  rw [e1, codes5_apply W n c ⟨T * 8 + J, ht⟩ ⟨a * 4 + q / 128, by omega⟩ ⟨q % 128, Nat.mod_lt _ (by decide)⟩ _ rfl]
  unfold tileOut5
  rw [cond5_iff]
  show byteOf k (tileCodes (decide ((T * 8 + J) / 8 + 6 = (T * 8 + J) % 8)) _ _ _ _ _) = _
  rw [d8, m8]
  rw [tile_code e L _ _ _ _ (T + 6) J (by omega) hJ
    (fun r k => by have := r.isLt; rw [blk5_0 W c _ r k (row ((T + 6) * 512 + r.val)) (by rw [rv _ (by omega)]; show _ = ((T * 8 + J) / 8 + 6) * 512 + _; omega), h0])
    (fun r k => by have := r.isLt; rw [blk5_1 W c _ r k (row (J * 512 + r.val)) (by rw [rv _ (by omega)]; show _ = (T * 8 + J) % 8 * 512 + _; omega), h0])
    (fun r => by have := r.isLt; rw [blk5_2 W c _ r (row ((T + 6) * 512 + r.val)) (by rw [rv _ (by omega)]; show _ = ((T * 8 + J) / 8 + 6) * 512 + _; omega), h2])
    (fun r => by have := r.isLt; rw [blk5_3 W c _ r (row (J * 512 + r.val)) (by rw [rv _ (by omega)]; show _ = (T * 8 + J) % 8 * 512 + _; omega), h3])]
  refine congrArg₂ (fun x y => code e L (row x) (row y)) ?_ ?_
  · show (T + 6) * 512 + (128 * k.val + (a * 4 + q / 128) / 4) = 6 * 512 + (T * 512 + (k.val * 128 + a)); omega
  · show J * 512 + ((a * 4 + q / 128) % 4 * 128 + q % 128) = J * 512 + q; omega

end Cert.Proof.Val
-- ==== Proof.ValueChain.lean ====
module

public import proofs.«01_k».proof.Proof.ValueTail
public import proofs.«01_k».proof.Proof.ValueBlocks
public import proofs.«01_k».proof.Proof.ValueBlocks3
public import proofs.«01_k».proof.Proof.ValueBlocks5
public import proofs.«01_k».proof.Proof.Main

/-!
What the main thread's buffers hold where the calls read them, and the counters and the table at its last line.
-/

@[expose] public section

noncomputable section

namespace Cert.Proof.Val

open Cert.KernelIdeal Cert.KernelIdeal.Gen Cert.Proof.Run
open Idealize.ShloMosaic
open Idealize.ShloMosaic.TcCoe

/-! ## The statistics call's arrays -/

section Stats

variable (W : Bufs Ideal) (n : ℕ) (c : Dev nD)

theorem index0_0 : ∀ (t : Fin cfg0.N) (a : Fin 2), (cfg0.win 0).index t a = 0 := by decide
theorem index0_1 : ∀ (t : Fin cfg0.N) (a : Fin 2), (cfg0.win 1).index t a = 0 := by decide
theorem index0_2 : ∀ (t : Fin cfg0.N) (a : Fin 2), (cfg0.win 2).index t a = 0 := by decide
theorem index0_3 : ∀ (t : Fin cfg0.N) (a : Fin 2), (cfg0.win 3).index t a = 0 := by decide

theorem emb0_0 (t : Fin cfg0.N) (y : S4096x128.Idx) : ((cfg0.win 0).blk t).view.emb y = y := by
  funext a
  apply Fin.ext
  refine ((cfg0.win 0).rect_emb_val t _ a).trans ?_
  rw [index0_0 t a, Nat.zero_mul, Nat.zero_add]
theorem emb0_1 (t : Fin cfg0.N) (y : S1x4096.Idx) : ((cfg0.win 1).blk t).view.emb y = y := by
  funext a
  apply Fin.ext
  refine ((cfg0.win 1).rect_emb_val t _ a).trans ?_
  rw [index0_1 t a, Nat.zero_mul, Nat.zero_add]
theorem emb0_2 (t : Fin cfg0.N) (y : S4096x128.Idx) : ((cfg0.win 2).blk t).view.emb y = y := by
  funext a
  apply Fin.ext
  refine ((cfg0.win 2).rect_emb_val t _ a).trans ?_
  rw [index0_2 t a, Nat.zero_mul, Nat.zero_add]
theorem emb0_3 (t : Fin cfg0.N) (y : S8x128.Idx) : ((cfg0.win 3).blk t).view.emb y = y := by
  funext a
  apply Fin.ext
  refine ((cfg0.win 3).rect_emb_val t _ a).trans ?_
  rw [index0_3 t a, Nat.zero_mul, Nat.zero_add]

theorem blk0_0 (t : Fin cfg0.N) : blk0 W c 0 t = (W c main_arg0 : Vec Ideal S4096x128 .f32) := by
  funext y
  unfold blk0
  rw [View.read_apply]
  exact congrArg (W c main_arg0) (emb0_0 t y)
theorem blk0_1 (t : Fin cfg0.N) : blk0 W c 1 t = (W c main_v0 : Vec Ideal S1x4096 .i32) := by
  funext y
  unfold blk0
  rw [View.read_apply]
  exact congrArg (W c main_v0) (emb0_1 t y)

/-- The statistics call's one grid point. -/
def pt0 : Fin cfg0.N := ⟨0, by rw [show cfg0.N = 1 from N_0]; exact Nat.one_pos⟩

/-- The rows the statistics call leaves. -/
theorem rows0_eq : rows0 W n c = (k0_pay2 (W c main_arg0) : Vec Ideal S4096x128 .f32) := by
  funext y
  unfold rows0
  refine (dat0 W n c).arrAt_apply_of_mem 2 (k0_pay2 (W c main_arg0) : Vec Ideal S4096x128 .f32) ?_ cfg0.N pt0 y pt0.isLt (flush0_2 pt0) ?_
  · intro t _
    funext y
    rw [View.read_apply]
    refine Eq.trans ?_ (congrArg (k0_pay2 (W c main_arg0) : Vec Ideal S4096x128 .f32) (emb0_2 t y)).symm
    exact congrArg (fun z : Vec Ideal S4096x128 .f32 => k0_pay2 z y) (blk0_0 W c t)
  · have := View.emb_mem_set ((cfg0.win 2).blk pt0).view y
    rw [emb0_2 pt0 y] at this
    exact this

/-- The table the statistics call leaves. -/
theorem table0_eq : table0 W n c = (statsTable (W c main_arg0) (W c main_v0) : Vec Ideal S8x128 .f32) := by
  funext y
  unfold table0
  refine (dat0 W n c).arrAt_apply_of_mem 3 (statsTable (W c main_arg0) (W c main_v0) : Vec Ideal S8x128 .f32) ?_ cfg0.N pt0 y pt0.isLt (flush0_3 pt0) ?_
  · intro t _
    funext y
    rw [View.read_apply]
    refine Eq.trans ?_ (congrArg (statsTable (W c main_arg0) (W c main_v0) : Vec Ideal S8x128 .f32) (emb0_3 t y)).symm
    exact congrArg₂ (fun (z : Vec Ideal S4096x128 .f32) (z' : Vec Ideal S1x4096 .i32) => statsTable z z' y) (blk0_0 W c t) (blk0_1 W c t)
  · have := View.emb_mem_set ((cfg0.win 3).blk pt0).view y
    rw [emb0_3 pt0 y] at this
    exact this

end Stats

/-! ## What a line of host operations leaves alone -/

section Keep

variable (V : Valuation τ sig (Elt Ideal)) (b : Ref sig .tc)

theorem keep1 (h : b ≠ main_v2) (h' : b ≠ main_v3) : StableHlo.after ops1 V (Proc.devRef .tc b) = V (Proc.devRef .tc b) :=
  StableHlo.after_of_forall_not_mem ops1 _ (keeps_of_forall ⟨not_written h, not_written h'⟩)
theorem keep2 (h : b ≠ main_v5) : StableHlo.after ops2 V (Proc.devRef .tc b) = V (Proc.devRef .tc b) :=
  StableHlo.after_of_forall_not_mem ops2 _ (keeps_of_forall (not_written h))
theorem keep3 (h : b ≠ main_v7) (h' : b ≠ main_v8) : StableHlo.after ops3 V (Proc.devRef .tc b) = V (Proc.devRef .tc b) :=
  StableHlo.after_of_forall_not_mem ops3 _ (keeps_of_forall ⟨not_written h, not_written h'⟩)
theorem keep4 (h : b ≠ main_v10) : StableHlo.after ops4 V (Proc.devRef .tc b) = V (Proc.devRef .tc b) :=
  StableHlo.after_of_forall_not_mem ops4 _ (keeps_of_forall (not_written h))
theorem keep5 (h0 : b ≠ main_v12) (h : b ≠ main_v13) (h' : b ≠ main_v14) : StableHlo.after ops5 V (Proc.devRef .tc b) = V (Proc.devRef .tc b) :=
  StableHlo.after_of_forall_not_mem ops5 _ (keeps_of_forall ⟨not_written h0, not_written h, not_written h'⟩)
theorem keep6 (h : b ≠ main_v16) : StableHlo.after ops6 V (Proc.devRef .tc b) = V (Proc.devRef .tc b) :=
  StableHlo.after_of_forall_not_mem ops6 _ (keeps_of_forall (not_written h))

theorem line0 (i : Fin 4096) : StableHlo.after ops0 V (Proc.devRef .tc main_v0) (ix2 0 i) = V (Proc.devRef .tc main_arg1) (ix1 i) := by
  have e : StableHlo.after ops0 V (Proc.devRef .tc main_v0) = shapeCast S1x4096 (V (Proc.devRef .tc main_arg1) : Vec Ideal S4096 .i32) shapeCasts_S4096_S1x4096 := by
    unfold ops0; after_results_simp; rfl
  rw [e]; pointwise
theorem line1_2 (i : Fin 4096) : StableHlo.after ops1 V (Proc.devRef .tc main_v2) (ix2 i 0) = V (Proc.devRef .tc main_arg1) (ix1 i) := by
  have e : StableHlo.after ops1 V (Proc.devRef .tc main_v2) = shapeCast S4096x1 (V (Proc.devRef .tc main_arg1) : Vec Ideal S4096 .i32) shapeCasts_S4096_S4096x1 := by
    unfold ops1; after_results_simp; rfl
  rw [e]; pointwise
theorem line1_3 (i : Fin 4096) : StableHlo.after ops1 V (Proc.devRef .tc main_v3) (ix2 0 i) = V (Proc.devRef .tc main_arg1) (ix1 i) := by
  have e : StableHlo.after ops1 V (Proc.devRef .tc main_v3) = shapeCast S1x4096 (V (Proc.devRef .tc main_arg1) : Vec Ideal S4096 .i32) shapeCasts_S4096_S1x4096 := by
    unfold ops1; after_results_simp; rfl
  rw [e]; pointwise
theorem line3_2 (i : Fin 4096) : StableHlo.after ops3 V (Proc.devRef .tc main_v7) (ix2 i 0) = V (Proc.devRef .tc main_arg1) (ix1 i) := by
  have e : StableHlo.after ops3 V (Proc.devRef .tc main_v7) = shapeCast S4096x1 (V (Proc.devRef .tc main_arg1) : Vec Ideal S4096 .i32) shapeCasts_S4096_S4096x1 := by
    unfold ops3; after_results_simp; rfl
  rw [e]; pointwise
theorem line3_3 (i : Fin 4096) : StableHlo.after ops3 V (Proc.devRef .tc main_v8) (ix2 0 i) = V (Proc.devRef .tc main_arg1) (ix1 i) := by
  have e : StableHlo.after ops3 V (Proc.devRef .tc main_v8) = shapeCast S1x4096 (V (Proc.devRef .tc main_arg1) : Vec Ideal S4096 .i32) shapeCasts_S4096_S1x4096 := by
    unfold ops3; after_results_simp; rfl
  rw [e]; pointwise
theorem line5_2 (i : Fin 4096) : StableHlo.after ops5 V (Proc.devRef .tc main_v13) (ix2 i 0) = V (Proc.devRef .tc main_arg1) (ix1 i) := by
  have e : StableHlo.after ops5 V (Proc.devRef .tc main_v13) = shapeCast S4096x1 (V (Proc.devRef .tc main_arg1) : Vec Ideal S4096 .i32) shapeCasts_S4096_S4096x1 := by
    unfold ops5; after_results_simp; rfl
  rw [e]; pointwise
theorem line5_3 (i : Fin 4096) : StableHlo.after ops5 V (Proc.devRef .tc main_v14) (ix2 0 i) = V (Proc.devRef .tc main_arg1) (ix1 i) := by
  have e : StableHlo.after ops5 V (Proc.devRef .tc main_v14) = shapeCast S1x4096 (V (Proc.devRef .tc main_arg1) : Vec Ideal S4096 .i32) shapeCasts_S4096_S1x4096 := by
    unfold ops5; after_results_simp; rfl
  rw [e]; pointwise
theorem line2 : StableHlo.after ops2 V (Proc.devRef .tc main_v5) = shapeCast S2097152 (V (Proc.devRef .tc main_v4) : Vec Ideal S16384x128 .i32) shapeCasts_S16384x128_S2097152 := by
  unfold ops2; after_results_simp; rfl
theorem line4 : StableHlo.after ops4 V (Proc.devRef .tc main_v10) = shapeCast S1048576 (V (Proc.devRef .tc main_v9) : Vec Ideal S8192x128 .i32) shapeCasts_S8192x128_S1048576 := by
  unfold ops4; after_results_simp; rfl
theorem line6 : StableHlo.after ops6 V (Proc.devRef .tc main_v16) = shapeCast S1048576 (V (Proc.devRef .tc main_v15) : Vec Ideal S8192x128 .i32) shapeCasts_S8192x128_S1048576 := by
  unfold ops6; after_results_simp; rfl
theorem line5 : StableHlo.after ops5 V (Proc.devRef .tc main_v12) = (addf (V (Proc.devRef .tc main_v6)) (V (Proc.devRef .tc main_v11)) : FVec Ideal S131072 .f32) := by
  unfold ops5; after_results_simp

end Keep

/-! ## The chain -/

section Chain

variable (m : (ℓ : Loc nD τ sig) → Buf (Elt Ideal) ℓ) (d : Dev nD)

/-- The embeddings. -/
abbrev E : Vec Ideal S4096x128 .f32 := m ((d.tc : Thread nD τ).loc main_arg0)
/-- The labels. -/
abbrev Lb (p : Fin 4096) : BitVec 32 := (m ((d.tc : Thread nD τ).loc main_arg1) : Vec Ideal S4096 .i32) (ix1 p)

theorem rows_U2 : U2 m d (Proc.devRef .tc main_v1_0) = (k0_pay2 (E m d) : Vec Ideal S4096x128 .f32) := by
  refine (repl_ne _ _ _ main_v1_0 (by decide)).trans ((repl_self _ _ _).trans ?_)
  rw [rows0_eq]
  exact congrArg (fun z : Vec Ideal S4096x128 .f32 => k0_pay2 z) (arg0_U1 m d)
theorem rows_U3 : U3 m d (Proc.devRef .tc main_v1_0) = (k0_pay2 (E m d) : Vec Ideal S4096x128 .f32) :=
  (keep1 _ main_v1_0 (by decide) (by decide)).trans (rows_U2 m d)
theorem rows_U7 : U7 m d (Proc.devRef .tc main_v1_0) = (k0_pay2 (E m d) : Vec Ideal S4096x128 .f32) :=
  (keep3 _ main_v1_0 (by decide) (by decide)).trans <| (repl_ne _ _ _ main_v1_0 (by decide)).trans <| (keep2 _ main_v1_0 (by decide)).trans <|
    (repl_ne _ _ _ main_v1_0 (by decide)).trans (rows_U3 m d)
theorem rows_U11 : U11 m d (Proc.devRef .tc main_v1_0) = (k0_pay2 (E m d) : Vec Ideal S4096x128 .f32) :=
  (keep5 _ main_v1_0 (by decide) (by decide) (by decide)).trans <| (repl_ne _ _ _ main_v1_0 (by decide)).trans <| (keep4 _ main_v1_0 (by decide)).trans <|
    (repl_ne _ _ _ main_v1_0 (by decide)).trans (rows_U7 m d)

/-- The table at the last line. -/
theorem table_U14 : U14 m d (Proc.devRef .tc main_v1_1) = table0 (bufs (U1 m)) 0 d :=
  (repl_ne _ _ _ main_v1_1 (by decide)).trans <| (keep6 _ main_v1_1 (by decide)).trans <| (repl_ne _ _ _ main_v1_1 (by decide)).trans <|
  (keep5 _ main_v1_1 (by decide) (by decide) (by decide)).trans <| (repl_ne _ _ _ main_v1_1 (by decide)).trans <| (keep4 _ main_v1_1 (by decide)).trans <|
  (repl_ne _ _ _ main_v1_1 (by decide)).trans <|
  (keep3 _ main_v1_1 (by decide) (by decide)).trans <| (repl_ne _ _ _ main_v1_1 (by decide)).trans <| (keep2 _ main_v1_1 (by decide)).trans <|
  (repl_ne _ _ _ main_v1_1 (by decide)).trans <| (keep1 _ main_v1_1 (by decide) (by decide)).trans (repl_self _ _ _)

/-- The labels as a row. -/
abbrev lrow : Vec Ideal S1x4096 .i32 := U1 m d (Proc.devRef .tc main_v0)
theorem lrow_apply (i : Fin 4096) : lrow m d (ix2 0 i) = Lb m d i := line0 _ i

theorem table_eq : U14 m d (Proc.devRef .tc main_v1_1) = (statsTable (E m d) (lrow m d) : Vec Ideal S8x128 .f32) := by
  rw [table_U14, table0_eq]
  exact congrArg (fun z : Vec Ideal S4096x128 .f32 => statsTable z (lrow m d)) (arg0_U1 m d)

theorem v6_U6 (b : Fin 256) : joinSum (U6 m d (Proc.devRef .tc main_v6)) b
    = ∑ r ∈ Finset.range 2048, ∑ j ∈ Finset.range 4096, if code (E m d) (Lb m d) (row (0 * 512 + r)) (row j) = b.val then (1 : EReal) else 0 := by
  have e : U6 m d (Proc.devRef .tc main_v6) = join (outTile0 (shapeCast S2097152 (codes1 (bufs (U3 m)) 0 d) shapeCasts_S16384x128_S2097152)) := by
    refine (repl_self _ _ _).trans (congrArg (fun z : Vec Ideal S2097152 .i32 => join (outTile0 z)) ?_)
    exact (line2 _).trans (congrArg (fun z : Vec Ideal S16384x128 .i32 => shapeCast S2097152 z shapeCasts_S16384x128_S2097152) (repl_self _ _ _))
  rw [e, joinSum_0]
  exact band1 (bufs (U3 m)) 0 d (E m d) (Lb m d)
    (fun p k => (congrFun (rows_U3 m d) (ix2 p k)).trans (rows_apply _ p k))
    (fun p => (line1_2 _ p).trans (congrFun (arg1_U2 m d) (ix1 p)))
    (fun p => (line1_3 _ p).trans (congrFun (arg1_U2 m d) (ix1 p))) b.val

theorem v11_U10 (b : Fin 256) : joinSum (U10 m d (Proc.devRef .tc main_v11)) b
    = ∑ r ∈ Finset.range 1024, ∑ j ∈ Finset.range 4096, if code (E m d) (Lb m d) (row (4 * 512 + r)) (row j) = b.val then (1 : EReal) else 0 := by
  have e : U10 m d (Proc.devRef .tc main_v11) = join (outTile1 (shapeCast S1048576 (codes3 (bufs (U7 m)) 1 d) shapeCasts_S8192x128_S1048576)) := by
    refine (repl_self _ _ _).trans (congrArg (fun z : Vec Ideal S1048576 .i32 => join (outTile1 z)) ?_)
    exact (line4 _).trans (congrArg (fun z : Vec Ideal S8192x128 .i32 => shapeCast S1048576 z shapeCasts_S8192x128_S1048576) (repl_self _ _ _))
  rw [e, joinSum_1]
  exact band3 (bufs (U7 m)) 1 d (E m d) (Lb m d)
    (fun p k => (congrFun (rows_U7 m d) (ix2 p k)).trans (rows_apply _ p k))
    (fun p => (line3_2 _ p).trans (congrFun (arg1_U6 m d) (ix1 p)))
    (fun p => (line3_3 _ p).trans (congrFun (arg1_U6 m d) (ix1 p))) b.val

theorem v17_U14 (b : Fin 256) : joinSum (U14 m d (Proc.devRef .tc main_v17)) b
    = ∑ r ∈ Finset.range 1024, ∑ j ∈ Finset.range 4096, if code (E m d) (Lb m d) (row (6 * 512 + r)) (row j) = b.val then (1 : EReal) else 0 := by
  have e : U14 m d (Proc.devRef .tc main_v17) = join (outTile1 (shapeCast S1048576 (codes5 (bufs (U11 m)) 2 d) shapeCasts_S8192x128_S1048576)) := by
    refine (repl_self _ _ _).trans (congrArg (fun z : Vec Ideal S1048576 .i32 => join (outTile1 z)) ?_)
    exact (line6 _).trans (congrArg (fun z : Vec Ideal S8192x128 .i32 => shapeCast S1048576 z shapeCasts_S8192x128_S1048576) (repl_self _ _ _))
  rw [e, joinSum_1]
  exact band5 (bufs (U11 m)) 2 d (E m d) (Lb m d)
    (fun p k => (congrFun (rows_U11 m d) (ix2 p k)).trans (rows_apply _ p k))
    (fun p => (line5_2 _ p).trans (congrFun (arg1_U10 m d) (ix1 p)))
    (fun p => (line5_3 _ p).trans (congrFun (arg1_U10 m d) (ix1 p))) b.val

theorem v12_U14 : U14 m d (Proc.devRef .tc main_v12)
    = (addf (U6 m d (Proc.devRef .tc main_v6)) (U10 m d (Proc.devRef .tc main_v11)) : FVec Ideal S131072 .f32) := by
  refine (repl_ne _ _ _ main_v12 (by decide)).trans <| (keep6 _ main_v12 (by decide)).trans <| (repl_ne _ _ _ main_v12 (by decide)).trans <|
    (line5 _).trans ?_
  refine congrArg (fun z : FVec Ideal S131072 .f32 => addf z (show FVec Ideal S131072 .f32 from U10 m d (Proc.devRef .tc main_v11))) ?_
  exact (repl_ne _ _ _ main_v6 (by decide)).trans <| (keep4 _ main_v6 (by decide)).trans <| (repl_ne _ _ _ main_v6 (by decide)).trans <|
    keep3 _ main_v6 (by decide) (by decide)

/-- A sum over the first and the last axis. -/
theorem sum_outer (h : S32x256x16.ReducesTo [0, 2] S256) (v : S32x256x16.Idx → EReal) (init : EReal) (b : Fin 256) :
    Ideal.hostReduceAdd h v init (ix1 b) = init + ∑ w : Fin 32, ∑ l : Fin 16, v (ix3 w b l) := by
  have e : Ideal.hostReduceAdd h v init (ix1 b) = init + ∑ i ∈ Finset.univ.filter (fun i => h.drop i = (ix1 b : S256.Idx)), v i := rfl
  rw [e]
  refine congrArg (fun s : EReal => init + s) ?_
  refine (Finset.sum_filter_eq_sum_of_fiber _ (fun k : Fin 32 × Fin 16 => (ix3 k.1 b k.2 : S32x256x16.Idx)) ?_ ?_ v).trans (Fintype.sum_prod_type _)
  · intro k k' hk
    exact Prod.ext (congrFun hk 0) (congrFun hk 2)
  · intro i
    constructor
    · intro hd
      refine ⟨(i 0, i 2), ?_⟩
      funext a; apply Fin.ext
      match a with
      | ⟨0, _⟩ => rfl
      | ⟨1, _⟩ => exact (congrArg Fin.val (congrFun hd 0)).symm
      | ⟨2, _⟩ => rfl
    · rintro ⟨k, rfl⟩
      funext a
      apply Fin.ext
      match a with
      | ⟨0, _⟩ => rfl

theorem counters_apply (v : FVec Ideal S131072 .f32) (b : Fin 256) : (counters (F := Ideal) v (ix1 b) : EReal) = joinSum v b := by
  unfold counters joinSum
  pointwise
  rw [sum_outer, zero_add]
  refine Finset.sum_congr rfl fun w _ => Finset.sum_congr rfl fun l _ => ?_
  pointwise
  refine congrArg (fun x => v (ix1 x)) (Fin.ext rfl)

theorem joinSum_add (v v' : FVec Ideal S131072 .f32) (b : Fin 256) : joinSum (addf v v' : FVec Ideal S131072 .f32) b = joinSum v b + joinSum v' b := by
  unfold joinSum
  rw [← Finset.sum_add_distrib]
  refine Finset.sum_congr rfl fun w _ => ?_
  rw [← Finset.sum_add_distrib]
  rfl

/-- A counter at the last line: how many pairs have the code. -/
theorem counters_eq (b : Fin 256) :
    (counters (F := Ideal) (addf (U14 m d (Proc.devRef .tc main_v12)) (U14 m d (Proc.devRef .tc main_v17)) : FVec Ideal S131072 .f32) (ix1 b) : EReal)
      = ∑ i, ∑ j, if code (E m d) (Lb m d) i j = b.val then (1 : EReal) else 0 := by
  rw [counters_apply, joinSum_add, v12_U14, joinSum_add, v6_U6, v11_U10, v17_U14]
  have e : ∑ i : Fin 4096, ∑ j : Fin 4096, (if code (E m d) (Lb m d) i j = b.val then (1 : EReal) else 0)
      = ∑ r ∈ Finset.range 4096, ∑ j ∈ Finset.range 4096, if code (E m d) (Lb m d) (row r) (row j) = b.val then (1 : EReal) else 0 := by
    rw [Finset.sum_range]
    refine Finset.sum_congr rfl fun i _ => ?_
    rw [Finset.sum_range]
    refine Finset.sum_congr rfl fun j _ => ?_
    rw [show row i.val = i from Fin.ext (Nat.mod_eq_of_lt i.isLt), show row j.val = j from Fin.ext (Nat.mod_eq_of_lt j.isLt)]
  rw [e, sum_split_eq (N := 4096) 3072 1024 (by norm_num), sum_split_eq (N := 3072) 2048 1024 (by norm_num)]
  simp only [Nat.zero_mul, Nat.zero_add]

end Chain

end Cert.Proof.Val
-- ==== Proof.ValueRef.lean ====
module

public import proofs.«01_k».proof.Proof.RefFrame
public import proofs.«01_k».proof.Proof.ValueTail

/-!
The reference's result as the loss of its two histograms and its two means' sums.
-/

@[expose] public section

noncomputable section

namespace Cert.Proof.Val.Ref

open Cert.ReferenceIdeal Cert.ReferenceIdeal.Gen
open Idealize.ShloMosaic
open Idealize.ShloMosaic.TcCoe

variable {F : FTy → Type} [FloatOps F]

/-- The rows divided by their lengths. -/
def normed (e : FVec F S4096x128 .f32) : FVec F S4096x128 .f32 :=
  Host.divf e (broadcastInDim S4096x128 ![0, 1] bcast_S4096x1_S4096x128_0_1 (maximumf (Host.sqrt (broadcastInDim S4096x1 ![0] bcast_S4096_S4096x1_0 (Host.reduceAdd (mulf e e) (constant S_ .f32 0x00000000#32) reducesTo_S4096x128_S4096_d1 h_S_))) (broadcastInDim S4096x1 ![] bcast_S_S4096x1 (constant S_ .f32 0x2B8CBCCC#32))))
/-- Every pair's similarity, in one line. -/
def sims (e : FVec F S4096x128 .f32) : FVec F S16777216 .f32 :=
  shapeCast _ (Host.dotGeneral dot_S4096x128_S128x4096_S4096x4096_1_0_0_1_n_n none (normed e) (transpose S128x4096 [1, 0] (normed e) transposes_S4096x128_S128x4096_1_0)) shapeCasts_S4096x4096_S16777216
/-- Every pair's bin. -/
def bins (e : FVec F S4096x128 .f32) : IVec S16777216 32 :=
  minsi (broadcastInDim S16777216 ![] bcast_S_S16777216 (id (constantI S_ 32 99#32))) (maxsi (broadcastInDim S16777216 ![] bcast_S_S16777216 (id (constantI S_ 32 0#32))) (fptosi 32 (Host.floor (mulf (Host.divf (addf (sims e) (broadcastInDim S16777216 ![] bcast_S_S16777216 (constant S_ .f32 0x3F800000#32))) (broadcastInDim S16777216 ![] bcast_S_S16777216 (constant S_ .f32 0x40000000#32))) (broadcastInDim S16777216 ![] bcast_S_S16777216 (constant S_ .f32 0x42C80000#32))))))
/-- The bins as a scatter's indices. -/
def places (e : FVec F S4096x128 .f32) : IVec S16777216x1 32 :=
  broadcastInDim S16777216x1 ![0] bcast_S16777216_S16777216x1_0 (select (cmpi .slt (bins e) (broadcastInDim S16777216 ![] bcast_S_S16777216 (constantI S_ 32 0#32))) (addi (bins e) (broadcastInDim S16777216 ![] bcast_S_S16777216 (constantI S_ 32 100#32))) (bins e))
/-- Whether a pair's labels agree. -/
def agree (l : IVec S4096 32) : IVec S4096x4096 1 :=
  cmpi .eq (broadcastInDim S4096x4096 ![0, 1] bcast_S4096x1_S4096x4096_0_1 (broadcastInDim S4096x1 ![0] bcast_S4096_S4096x1_0 l)) (broadcastInDim S4096x4096 ![0, 1] bcast_S1x4096_S4096x4096_0_1 (transpose S1x4096 [1, 0] (broadcastInDim S4096x1 ![0] bcast_S4096_S4096x1_0 l) transposes_S4096x1_S1x4096_1_0))
/-- The weights of the pairs of one class, the diagonal left out. -/
def wpos (l : IVec S4096 32) : FVec F S16777216 .f32 :=
  shapeCast _ (subf (uitofp .f32 (agree l)) (uitofp .f32 (cmpi .eq (addi (iotaInDim S4096x4096 32 0) (broadcastInDim S4096x4096 ![] bcast_S_S4096x4096 (constantI S_ 32 0#32))) (iotaInDim S4096x4096 32 1)))) shapeCasts_S4096x4096_S16777216
/-- The weights of the pairs of two classes. -/
def wneg (l : IVec S4096 32) : FVec F S16777216 .f32 :=
  shapeCast _ (uitofp .f32 (noti (agree l))) shapeCasts_S4096x4096_S16777216
/-- A weighted histogram of the bins. -/
def histOf (e : FVec F S4096x128 .f32) (w : FVec F S16777216 .f32) : FVec F S100 .f32 :=
  Host.scatterAdd scatter_S100_S16777216x1_S16777216_n_0_0_1 (broadcastInDim S100 ![] bcast_S_S100 (constant S_ .f32 0x00000000#32)) (places e) w
/-- The sum of a weight. -/
def total (w : FVec F S16777216 .f32) : FVec F S_ .f32 := Host.reduceAdd w (constant S_ .f32 0x00000000#32) reducesTo_S16777216_S_d0 h_S_

set_option maxHeartbeats 4000000 in
set_option maxRecDepth 16384 in
theorem result_eq (m : (ℓ : Loc nD τ sig) → Buf (Elt F) ℓ) (c : Dev nD) :
    Cert.ReferenceIdeal.Value.res_main_v71 m c
      = lossOf (histOf (m ((c.tc : Thread nD τ).loc main_arg0)) (wpos (m ((c.tc : Thread nD τ).loc main_arg1))))
          (histOf (m ((c.tc : Thread nD τ).loc main_arg0)) (wneg (m ((c.tc : Thread nD τ).loc main_arg1))))
          (total (mulf (sims (m ((c.tc : Thread nD τ).loc main_arg0))) (wpos (m ((c.tc : Thread nD τ).loc main_arg1))))) (total (wpos (m ((c.tc : Thread nD τ).loc main_arg1))))
          (total (mulf (sims (m ((c.tc : Thread nD τ).loc main_arg0))) (wneg (m ((c.tc : Thread nD τ).loc main_arg1))))) (total (wneg (m ((c.tc : Thread nD τ).loc main_arg1)))) := by
  unfold Cert.ReferenceIdeal.Value.res_main_v71
  rfl

end Cert.Proof.Val.Ref
-- ==== Proof.ValueRefAt.lean ====
module

public import proofs.«01_k».proof.Proof.ValueRef
public import proofs.«01_k».proof.Proof.ValueStats
public import proofs.«01_k».proof.Proof.ValueCodes
public import Idealize.ShloMosaic.Lib.IdealHost

/-!
The reference's similarities, bins and weights at a pair of rows, and its histograms and sums over all pairs.
-/

@[expose] public section

noncomputable section

namespace Cert.Proof.Val.Ref

open Cert.ReferenceIdeal Cert.ReferenceIdeal.Gen
open Idealize.ShloMosaic

variable (e : FVec Ideal S4096x128 .f32) (l : IVec S4096 32)

theorem normed_apply (i : Fin 4096) (k : Fin 128) : normed e (ix2 i k) = (en e i k : EReal) := by
  unfold en
  rw [← unitR_div]
  unfold normed len
  pointwise

/-- A pair's rows, from its place in the line. -/
def fst (p : Fin 16777216) : Fin 4096 := ⟨p.val / 4096, by have := p.isLt; omega⟩
@[inherit_doc fst] def snd (p : Fin 16777216) : Fin 4096 := ⟨p.val % 4096, Nat.mod_lt _ (by decide)⟩

theorem sims_apply (p : Fin 16777216) : sims e (ix1 p) = (sim e (fst p) (snd p) : EReal) := by
  unfold sim
  rw [coe_sum]
  unfold sims
  pointwise
  refine Finset.sum_congr rfl fun k _ => ?_
  rw [normed_apply, normed_apply, EReal.coe_mul]
  rfl

theorem bins_apply (p : Fin 16777216) : bins e (ix1 p) = BitVec.ofNat 32 (bin (sim e (fst p) (snd p))) := by
  rw [← bin_eq _ (sim_mem e _ _)]
  unfold bins
  pointwise
  rw [sims_apply, lit_two, lit_100]
  rfl

theorem wrap_small (n : ℕ) (h : n < 100) (x : BitVec 32) : Scalar.select (IntOp.cmpi .slt (BitVec.ofNat 32 n) 0#32) x (BitVec.ofNat 32 n) = BitVec.ofNat 32 n := by
  have : IntOp.cmpi .slt (BitVec.ofNat 32 n) 0#32 = 0#1 := by
    unfold IntOp.cmpi
    show BitVec.ofBool ((BitVec.ofNat 32 n).slt 0#32) = 0#1
    have h2 : (BitVec.ofNat 32 n).slt 0#32 = false := by
      rw [BitVec.slt_eq_decide, decide_eq_false_iff_not, BitVec.toInt_eq_toNat_cond, BitVec.toNat_ofNat, Nat.mod_eq_of_lt (by omega),
        if_pos (by omega)]
      show ¬((n : ℤ) < 0)
      omega
    rw [h2]; rfl
  rw [this]; rfl

theorem places_apply (p : Fin 16777216) : places e (ix2 p 0) = BitVec.ofNat 32 (bin (sim e (fst p) (snd p))) := by
  unfold places
  pointwise
  rw [bins_apply]
  exact wrap_small _ (bin_lt _) _

/-- The weight of a pair in the histogram of one class. -/
def wp (i j : Fin 4096) : ℝ := (if l (ix1 i) = l (ix1 j) then 1 else 0) - (if i = j then 1 else 0)
/-- The weight of a pair in the histogram of two classes. -/
def wn (i j : Fin 4096) : ℝ := if l (ix1 i) = l (ix1 j) then 0 else 1

theorem bit_real (P : Prop) [Decidable P] : FloatOps.uitofp (F := Ideal) FTy.f32 (if P then 1#1 else 0#1) = ((if P then 1 else 0 : ℝ) : EReal) := by
  by_cases h : P
  · rw [if_pos h, if_pos h]; show (((1#1).toNat : ℝ) : EReal) = _; simp
  · rw [if_neg h, if_neg h]; show (((0#1).toNat : ℝ) : EReal) = _; simp
theorem bit_real_not (P : Prop) [Decidable P] : FloatOps.uitofp (F := Ideal) FTy.f32 (~~~(if P then 1#1 else 0#1)) = ((if P then 0 else 1 : ℝ) : EReal) := by
  by_cases h : P
  · rw [if_pos h, if_pos h]; show (((~~~(1#1)).toNat : ℝ) : EReal) = _; simp
  · rw [if_neg h, if_neg h]; show (((~~~(0#1)).toNat : ℝ) : EReal) = _; simp

theorem wpos_apply (p : Fin 16777216) : wpos (F := Ideal) l (ix1 p) = (wp l (fst p) (snd p) : EReal) := by
  unfold wp
  rw [EReal.coe_sub, ← bit_real, ← bit_real, ← cmpi_eq_ite]
  unfold wpos agree
  pointwise
  refine congrArg₂ (fun x y : EReal => x - y) rfl (congrArg (fun b => (FloatOps.uitofp (F := Ideal) FTy.f32 b : EReal)) ?_)
  have hp := p.isLt
  rw [cmpi_eq_ite]
  have h0 : IntOp.addi (BitVec.ofNat 32 (p.val / 4096)) 0#32 = BitVec.ofNat 32 (p.val / 4096) := BitVec.add_zero _
  rw [h0]
  by_cases h : p.val / 4096 = p.val % 4096
  · rw [if_pos (congrArg _ h), if_pos (Fin.ext h)]
  · rw [if_neg, if_neg (fun hh => h (congrArg Fin.val hh))]
    intro hh
    have := congrArg BitVec.toNat hh
    rw [BitVec.toNat_ofNat, BitVec.toNat_ofNat] at this
    omega
theorem wneg_apply (p : Fin 16777216) : wneg (F := Ideal) l (ix1 p) = (wn l (fst p) (snd p) : EReal) := by
  unfold wn
  rw [← bit_real_not, ← cmpi_eq_ite]
  unfold wneg agree
  pointwise
  rfl

/-- A sum over the line of pairs is the sum over the pairs. -/
theorem sum_pairs {M : Type} [AddCommMonoid M] (f : Fin 4096 → Fin 4096 → M) : ∑ p : Fin 16777216, f (fst p) (snd p) = ∑ i, ∑ j, f i j := by
  have e1 : ∑ p : Fin 16777216, f (fst p) (snd p) = ∑ q ∈ Finset.range 16777216, f (row (q / 4096)) (row q) := by
    rw [Finset.sum_range]
    refine Finset.sum_congr rfl fun p _ => ?_
    refine congrArg₂ f (Fin.ext ?_) rfl
    have := p.isLt
    show p.val / 4096 = p.val / 4096 % 4096
    omega
  rw [e1, sum_blocks_eq (N := 16777216) 4096 4096 (by norm_num), Finset.sum_range]
  refine Finset.sum_congr rfl fun i _ => ?_
  rw [Finset.sum_range]
  refine Finset.sum_congr rfl fun j _ => ?_
  have hi := i.isLt
  have hj := j.isLt
  refine congrArg₂ f (Fin.ext ?_) (Fin.ext ?_)
  · show (i.val * 4096 + j.val) / 4096 % 4096 = i.val; omega
  · show (i.val * 4096 + j.val) % 4096 = j.val; omega

theorem total_apply (w : FVec Ideal S16777216 .f32) (x : S_.Idx) : total w x = ∑ k : Fin 16777216, (w (ix1 k) : EReal) := by
  unfold total
  pointwise

theorem total_real (w : FVec Ideal S16777216 .f32) (f : Fin 4096 → Fin 4096 → ℝ) (h : ∀ p, w (ix1 p) = (f (fst p) (snd p) : EReal)) (x : S_.Idx) :
    total w x = ((∑ i, ∑ j, f i j : ℝ) : EReal) := by
  rw [total_apply, Finset.sum_congr rfl fun p _ => h p, ← coe_sum, sum_pairs]

end Cert.Proof.Val.Ref
-- ==== Proof.ValueScatter.lean ====
module

public import proofs.«01_k».proof.Proof.ValueMath

/-!
Where a scatter's updates land, and what it leaves at a place.
-/

@[expose] public section

noncomputable section

namespace Cert.Proof.Val.Ref

open Idealize.ShloMosaic

/-! ## A scatter of words to bins -/

/-- An update of a scatter of `N` numbers into `B` places, one index each, lands at `x` when its index is `x`. -/
theorem lands {N B : ℕ} (d : ScatterDims ⟨1, ![B]⟩ ⟨2, ![N, 1]⟩ ⟨1, ![N]⟩) (hiw : d.insertedWindowDims = [0])
    (hsd : d.scatterDimsToOperandDims = [0]) (hiv : d.indexVectorDim = 1) (idx : IVec ⟨2, ![N, 1]⟩ 32) (i : Fin N) (x : Fin B) :
    d.resultIdx? (ix1 i) idx = some (ix1 x) ↔ (idx (ix2 i 0)).toInt = (x.val : ℤ) := by
  have mem : (0 : Fin 1) ∈ d.scatterDimsToOperandDims := by rw [hsd]; exact List.mem_singleton.2 rfl
  have w0 : d.window (ix1 i) 0 = 0 := by
    unfold ScatterDims.window
    exact dif_neg fun h => (of_decide_eq_true (List.mem_filter.1 h).2) (by rw [hiw]; exact List.mem_singleton.2 rfl)
  have at0 : d.siIdx (ix1 i) ⟨d.scatterDimsToOperandDims.idxOf 0, List.idxOf_lt_length_iff.2 mem⟩ = ix2 i (0 : Fin 1) := by
    funext a
    apply Fin.ext
    match a with
    | ⟨0, _⟩ =>
      unfold ScatterDims.siIdx
      rw [dif_neg (by rw [hiv]; exact Nat.zero_ne_one)]
      unfold ScatterDims.siCoord
      simp only [Fin.val_cast]
      have one : ∀ X : Fin 1, ((ix1 i : Shape.Idx ⟨1, ![N]⟩) X).val = i.val := fun X => by obtain rfl : X = 0 := Subsingleton.elim _ _; rfl
      exact one _
    | ⟨1, _⟩ =>
      unfold ScatterDims.siIdx
      rw [dif_pos (by rw [hiv])]
      show List.idxOf (0 : Fin 1) d.scatterDimsToOperandDims = 0
      rw [hsd]; simp
  have s0 : d.start (ix1 i) idx 0 = (idx (ix2 i 0)).toInt := by
    unfold ScatterDims.start
    rw [dif_pos mem, at0]
  have hx := x.isLt
  unfold ScatterDims.resultIdx?
  constructor
  · intro h
    by_cases hc : ∀ a, 0 ≤ d.start (ix1 i) idx a + d.window (ix1 i) a ∧ d.start (ix1 i) idx a + d.window (ix1 i) a < (⟨1, ![B]⟩ : Shape).size a
    · rw [dif_pos hc] at h
      have h0 := congrArg Fin.val (congrFun (Option.some.inj h) 0)
      change (d.start (ix1 i) idx 0 + (d.window (ix1 i) 0 : ℤ)).toNat = x.val at h0
      have := (hc 0).1
      rw [s0, w0] at h0 this
      omega
    · rw [dif_neg hc] at h; cases h
  · intro h
    have hc : ∀ a, 0 ≤ d.start (ix1 i) idx a + d.window (ix1 i) a ∧ d.start (ix1 i) idx a + d.window (ix1 i) a < (⟨1, ![B]⟩ : Shape).size a := by
      intro a
      obtain rfl : a = 0 := Subsingleton.elim _ _
      rw [s0, w0, h]
      refine ⟨by omega, ?_⟩
      show (x.val : ℤ) + ((0 : ℕ) : ℤ) < (B : ℤ)
      omega
    rw [dif_pos hc]
    refine congrArg some (funext fun a => Fin.ext ?_)
    obtain rfl : a = 0 := Subsingleton.elim _ _
    show (d.start (ix1 i) idx 0 + (d.window (ix1 i) 0 : ℤ)).toNat = x.val
    rw [s0, w0, h]
    omega

/-- The sum of the updates landing in a place. -/
theorem scatter_sum {N B : ℕ} (d : ScatterDims ⟨1, ![B]⟩ ⟨2, ![N, 1]⟩ ⟨1, ![N]⟩) (hiw : d.insertedWindowDims = [0])
    (hsd : d.scatterDimsToOperandDims = [0]) (hiv : d.indexVectorDim = 1) (x : FVec Ideal ⟨1, ![B]⟩ .f32) (idx : IVec ⟨2, ![N, 1]⟩ 32)
    (upd : FVec Ideal ⟨1, ![N]⟩ .f32) (b : Fin B) (g : Fin N → ℕ) (hg : ∀ i, idx (ix2 i 0) = BitVec.ofNat 32 (g i)) (hlt : ∀ i, g i < 2 ^ 31) :
    Host.scatterAdd d x idx upd (ix1 b) = (x (ix1 b) : EReal) + ∑ i : Fin N, if g i = b.val then (upd (ix1 i) : EReal) else 0 := by
  have e1 : Host.scatterAdd d x idx upd (ix1 b) = (x (ix1 b) : EReal) + ∑ j ∈ Finset.univ.filter (fun j => d.resultIdx? j idx = some (ix1 b)), (upd j : EReal) := rfl
  rw [e1, Finset.sum_filter]
  refine congrArg (fun s : EReal => (x (ix1 b) : EReal) + s) ?_
  refine ((Fintype.sum_equiv (Equiv.mk (fun i : Fin N => (ix1 i : Shape.Idx ⟨1, ![N]⟩)) (fun j => j 0) (fun _ => rfl)
    (fun j => by funext a; obtain rfl : a = 0 := Subsingleton.elim _ _; rfl)) _ _ (fun i => ?_)).symm)
  have iff := lands d hiw hsd hiv idx i b
  have hb : g i = b.val ↔ (idx (ix2 i 0)).toInt = (b.val : ℤ) := by
    have := hlt i
    rw [hg, BitVec.toInt_eq_toNat_cond, BitVec.toNat_ofNat, Nat.mod_eq_of_lt (by omega), if_pos (by omega)]
    omega
  show _ = if d.resultIdx? (ix1 i) idx = some (ix1 b) then _ else _
  by_cases h : g i = b.val
  · rw [if_pos h, if_pos (iff.2 (hb.1 h))]; rfl
  · rw [if_neg h, if_neg (fun hh => h (hb.2 (iff.1 hh)))]

end Cert.Proof.Val.Ref
-- ==== Proof.ValueRefHist.lean ====
module

public import proofs.«01_k».proof.Proof.ValueRefAt
public import proofs.«01_k».proof.Proof.ValueScatter

/-!
The reference's histograms over all pairs.
-/

@[expose] public section

noncomputable section

namespace Cert.Proof.Val.Ref

open Cert.ReferenceIdeal Cert.ReferenceIdeal.Gen
open Idealize.ShloMosaic

variable (e : FVec Ideal S4096x128 .f32)

theorem hist_apply (w : FVec Ideal S16777216 .f32) (b : Fin 100) :
    histOf e w (ix1 b) = ∑ p : Fin 16777216, if bin (sim e (fst p) (snd p)) = b.val then (w (ix1 p) : EReal) else 0 := by
  unfold histOf
  refine (scatter_sum (N := 16777216) (B := 100) _ rfl rfl rfl _ (places e) w b (fun p => bin (sim e (fst p) (snd p))) (places_apply e)
    (fun p => by have := bin_lt (sim e (fst p) (snd p)); omega)).trans ?_
  refine (congrArg (fun s : EReal => s + _) (show (broadcastInDim S100 ![] bcast_S_S100 (constant (F := Ideal) S_ .f32 0x00000000#32) (ix1 b) : EReal) = 0 from Ideal.ofBits_zero_f32)).trans ?_
  exact zero_add _

theorem hist_real (w : FVec Ideal S16777216 .f32) (f : Fin 4096 → Fin 4096 → ℝ) (h : ∀ p, w (ix1 p) = (f (fst p) (snd p) : EReal)) (b : Fin 100) :
    histOf e w (ix1 b) = ∑ i, ∑ j, if bin (sim e i j) = b.val then (f i j : EReal) else 0 := by
  rw [hist_apply, ← sum_pairs]
  exact Finset.sum_congr rfl fun p _ => by rw [h]

end Cert.Proof.Val.Ref
-- ==== Proof.ValueEq.lean ====
module

public import proofs.«01_k».proof.Proof.ValueChain
public import proofs.«01_k».proof.Proof.ValueRefHist

/-!
The kernel's result is the reference's: the two histograms and the sums of the two means agree.
-/

@[expose] public section

noncomputable section

namespace Cert.Proof.Val

open Cert.KernelIdeal Cert.KernelIdeal.Gen Cert.Proof.Run
open Idealize.ShloMosaic
open Idealize.ShloMosaic.TcCoe

/-! ## The histograms, pair by pair -/

section Pairs

variable (e : FVec Ideal S4096x128 .f32) (l : IVec S4096 32)

/-- A pair is counted among the pairs of one class exactly as the reference weighs it. -/
theorem pair_pos (b : ℕ) (hb : b < 100) (i j : Fin 4096) :
    (if code e (fun p => l (ix1 p)) i j = 100 + b then (1 : EReal) else 0) = if bin (sim e i j) = b then (Ref.wp l i j : EReal) else 0 := by
  have hs := bin_lt (sim e i j)
  unfold code Ref.wp
  by_cases h : i = j
  · subst h
    rw [if_pos rfl, if_neg (by omega)]
    simp
  · rw [if_neg h, if_neg h]
    by_cases hl : l (ix1 i) = l (ix1 j)
    · rw [if_pos hl, if_pos hl]
      by_cases hbin : bin (sim e i j) = b
      · rw [if_pos (by omega), if_pos hbin]; norm_num
      · rw [if_neg (by omega), if_neg hbin]
    · rw [if_neg hl, if_neg hl, if_neg (by omega)]
      norm_num

theorem pair_neg (b : ℕ) (hb : b < 100) (i j : Fin 4096) :
    (if code e (fun p => l (ix1 p)) i j = b then (1 : EReal) else 0) = if bin (sim e i j) = b then (Ref.wn l i j : EReal) else 0 := by
  have hs := bin_lt (sim e i j)
  unfold code Ref.wn
  by_cases h : i = j
  · subst h
    rw [if_pos rfl, if_neg (by omega), if_pos rfl]
    simp
  · rw [if_neg h]
    by_cases hl : l (ix1 i) = l (ix1 j)
    · rw [if_pos hl, if_pos hl, if_neg (by omega)]
      norm_num
    · rw [if_neg hl, if_neg hl]
      by_cases hbin : bin (sim e i j) = b
      · rw [if_pos (by omega), if_pos hbin]; norm_num
      · rw [if_neg (by omega), if_neg hbin]

/-! ## The means' sums -/

theorem sum_wp : ∑ i, ∑ j, Ref.wp l i j = (∑ i : Fin 4096, ∑ j : Fin 4096, (if l (ix1 i) = l (ix1 j) then 1 else 0 : ℝ)) - 4096 := by
  unfold Ref.wp
  simp only [Finset.sum_sub_distrib, Finset.sum_ite_eq, Finset.mem_univ, if_true, Finset.sum_const, Finset.card_univ, Fintype.card_fin, nsmul_eq_mul]
  norm_num
theorem sum_wn : ∑ i, ∑ j, Ref.wn l i j = 4096 * 4096 - (∑ i : Fin 4096, ∑ j : Fin 4096, (if l (ix1 i) = l (ix1 j) then 1 else 0 : ℝ)) := by
  have h : ∀ i j, Ref.wn l i j = 1 - (if l (ix1 i) = l (ix1 j) then 1 else 0 : ℝ) := by
    intro i j; unfold Ref.wn; split <;> norm_num
  simp only [h, Finset.sum_sub_distrib, Finset.sum_const, Finset.card_univ, Fintype.card_fin, nsmul_eq_mul]
  norm_num
theorem sum_sim_wp : ∑ i, ∑ j, sim e i j * Ref.wp l i j
    = (∑ i : Fin 4096, ∑ j : Fin 4096, (if l (ix1 i) = l (ix1 j) then sim e i j else 0 : ℝ)) - ∑ i, sim e i i := by
  unfold Ref.wp
  simp only [mul_sub, mul_ite, mul_one, mul_zero, Finset.sum_sub_distrib, Finset.sum_ite_eq, Finset.mem_univ, if_true]
theorem sum_sim_wn : ∑ i, ∑ j, sim e i j * Ref.wn l i j
    = (∑ i, ∑ j, sim e i j) - ∑ i : Fin 4096, ∑ j : Fin 4096, (if l (ix1 i) = l (ix1 j) then sim e i j else 0 : ℝ) := by
  have h : ∀ i j, sim e i j * Ref.wn l i j = sim e i j - (if l (ix1 i) = l (ix1 j) then sim e i j else 0 : ℝ) := by
    intro i j; unfold Ref.wn; split <;> simp
  simp only [h, Finset.sum_sub_distrib]

theorem lane0_apply (T : FVec Ideal S8x128 .f32) (x : S_.Idx) : (lane0 (F := Ideal) T x : EReal) = T (ix2 0 0) := by
  unfold lane0; pointwise
theorem lane1_apply (T : FVec Ideal S8x128 .f32) (x : S_.Idx) : (lane1 (F := Ideal) T x : EReal) = T (ix2 0 1) := by
  unfold lane1; pointwise
theorem lane2_apply (T : FVec Ideal S8x128 .f32) (x : S_.Idx) : (lane2 (F := Ideal) T x : EReal) = T (ix2 0 2) := by
  unfold lane2; pointwise
theorem lane3_apply (T : FVec Ideal S8x128 .f32) (x : S_.Idx) : (lane3 (F := Ideal) T x : EReal) = T (ix2 0 3) := by
  unfold lane3; pointwise

variable (r : Vec Ideal S1x4096 .i32) (hr : ∀ p, r (ix2 0 p) = l (ix1 p)) (hl : ∀ p : Fin 4096, (l (ix1 p)).toNat < 128)

include hr hl in
theorem tab1 : (statsTable (F := Ideal) e r (ix2 0 1) : EReal) = ((∑ i, ∑ j, (if l (ix1 i) = l (ix1 j) then sim e i j else 0) : ℝ) : EReal) := by
  unfold statsTable
  rw [table_1, seq_val e r (fun p => by rw [hr]; exact hl p)]
  simp only [hr]
include hr hl in
theorem tab2 : (statsTable (F := Ideal) e r (ix2 0 2) : EReal) = ((∑ i : Fin 4096, ∑ j : Fin 4096, (if l (ix1 i) = l (ix1 j) then 1 else 0) : ℝ) : EReal) := by
  unfold statsTable
  rw [table_2, neq_val r (fun p => by rw [hr]; exact hl p)]
  simp only [hr]
include hr hl in
theorem tab0 : (statsTable (F := Ideal) e r (ix2 0 0) : EReal) = ((∑ i, ∑ j, sim e i j : ℝ) : EReal) := by
  unfold statsTable
  rw [table_0, sall_val e r (fun p => by rw [hr]; exact hl p)]
theorem tab3 : (statsTable (F := Ideal) e r (ix2 0 3) : EReal) = ((∑ i, sim e i i : ℝ) : EReal) := by
  unfold statsTable
  rw [table_3, trace_val e]

theorem lit_at (b : BitVec 32) (x : S_.Idx) : (constant (F := Ideal) S_ .f32 b x : EReal) = Ideal.ofBits .f32 b := rfl
theorem sub_at (a b : FVec Ideal S_ .f32) (x : S_.Idx) (p q : EReal) (ha : a x = p) (hb : b x = q) : ((subf a b : FVec Ideal S_ .f32) x : EReal) = p - q := by
  rw [← ha, ← hb]; rfl
theorem mul_at (a b : FVec Ideal S_ .f32) (x : S_.Idx) (p q : EReal) (ha : a x = p) (hb : b x = q) : ((mulf a b : FVec Ideal S_ .f32) x : EReal) = p * q := by
  rw [← ha, ← hb]; rfl

include hr hl in
theorem mean_pn : (subf (lane1 (statsTable e r)) (lane3 (statsTable e r)) : FVec Ideal S_ .f32) = Ref.total (mulf (Ref.sims e) (Ref.wpos l)) := by
  funext x
  rw [Ref.total_real _ (fun i j => sim e i j * Ref.wp l i j) (fun p => by
    rw [EReal.coe_mul, ← Ref.sims_apply, ← Ref.wpos_apply]; rfl), sum_sim_wp, EReal.coe_sub]
  exact sub_at _ _ x _ _ ((lane1_apply _ x).trans (tab1 e l r hr hl)) ((lane3_apply _ x).trans (tab3 e r))
include hr hl in
theorem mean_pd : (subf (lane2 (statsTable e r)) (constant S_ .f32 0x45800000#32) : FVec Ideal S_ .f32) = Ref.total (Ref.wpos l) := by
  funext x
  rw [Ref.total_real _ (Ref.wp l) (Ref.wpos_apply l), sum_wp, EReal.coe_sub]
  exact sub_at _ _ x _ _ ((lane2_apply _ x).trans (tab2 e l r hr hl)) ((lit_at _ x).trans lit_4096)
include hr hl in
theorem mean_nn : (subf (lane0 (statsTable e r)) (lane1 (statsTable e r)) : FVec Ideal S_ .f32) = Ref.total (mulf (Ref.sims e) (Ref.wneg l)) := by
  funext x
  rw [Ref.total_real _ (fun i j => sim e i j * Ref.wn l i j) (fun p => by
    rw [EReal.coe_mul, ← Ref.sims_apply, ← Ref.wneg_apply]; rfl), sum_sim_wn, EReal.coe_sub]
  exact sub_at _ _ x _ _ ((lane0_apply _ x).trans (tab0 e l r hr hl)) ((lane1_apply _ x).trans (tab1 e l r hr hl))
include hr hl in
theorem mean_nd : (subf (mulf (constant S_ .f32 0x45800000#32) (constant S_ .f32 0x45800000#32)) (lane2 (statsTable e r)) : FVec Ideal S_ .f32) = Ref.total (Ref.wneg l) := by
  funext x
  rw [Ref.total_real _ (Ref.wn l) (Ref.wneg_apply l), sum_wn, EReal.coe_sub, EReal.coe_mul]
  exact sub_at _ _ x _ _ (mul_at _ _ x _ _ ((lit_at _ x).trans lit_4096) ((lit_at _ x).trans lit_4096)) ((lane2_apply _ x).trans (tab2 e l r hr hl))

variable (C : FVec Ideal S256 .f32) (hC : ∀ b : Fin 256, (C (ix1 b) : EReal) = ∑ i, ∑ j, if code e (fun p => l (ix1 p)) i j = b.val then (1 : EReal) else 0)

include hC in
theorem hist_pos : (extractStridedSlice S100 ![100] C slices_S256_S100_100 : FVec Ideal S100 .f32) = Ref.histOf e (Ref.wpos l) := by
  funext y
  obtain ⟨b, rfl⟩ : ∃ b : Fin 100, y = ix1 b := ⟨y 0, by funext a; match a with | 0 => rfl⟩
  have hb := b.isLt
  rw [Ref.hist_real e _ (Ref.wp l) (Ref.wpos_apply l) b]
  have e1 : (extractStridedSlice S100 ![100] C slices_S256_S100_100 : FVec Ideal S100 .f32) (ix1 b) = C (ix1 ⟨100 + b.val, by omega⟩) := by
    pointwise
  rw [e1, hC]
  exact Finset.sum_congr rfl fun i _ => Finset.sum_congr rfl fun j _ => pair_pos e l b.val hb i j

include hC in
theorem hist_neg : (extractStridedSlice S100 ![0] C slices_S256_S100_0 : FVec Ideal S100 .f32) = Ref.histOf e (Ref.wneg l) := by
  funext y
  obtain ⟨b, rfl⟩ : ∃ b : Fin 100, y = ix1 b := ⟨y 0, by funext a; match a with | 0 => rfl⟩
  have hb := b.isLt
  rw [Ref.hist_real e _ (Ref.wn l) (Ref.wneg_apply l) b]
  have e1 : (extractStridedSlice S100 ![0] C slices_S256_S100_0 : FVec Ideal S100 .f32) (ix1 b) = C (ix1 ⟨b.val, by omega⟩) := by
    pointwise
  rw [e1, hC]
  exact Finset.sum_congr rfl fun i _ => Finset.sum_congr rfl fun j _ => pair_neg e l b.val hb i j

end Pairs

/-! ## The result -/

section Result

variable (m : (ℓ : Loc nD τ sig) → Buf (Elt Ideal) ℓ) (d : Dev nD)

/-- The kernel's result as the reference's functions of the arguments. -/
theorem kernel_value (l : IVec S4096 32) (h1 : m ((d.tc : Thread nD τ).loc main_arg1) = l) (hl : ∀ p : Fin 4096, (l (ix1 p)).toNat < 128) :
    U15 m d (Proc.devRef .tc main_v51)
      = lossOf (F := Ideal) (Ref.histOf (E m d) (Ref.wpos l)) (Ref.histOf (E m d) (Ref.wneg l))
          (Ref.total (mulf (Ref.sims (E m d)) (Ref.wpos l))) (Ref.total (Ref.wpos l))
          (Ref.total (mulf (Ref.sims (E m d)) (Ref.wneg l))) (Ref.total (Ref.wneg l)) := by
  subst h1
  refine (tail_eq (F := Ideal) (U14 m d) _ _ _ rfl rfl (table_eq m d)).trans ?_
  rw [hist_pos (E m d) (m ((d.tc : Thread nD τ).loc main_arg1)) _ (counters_eq m d), hist_neg (E m d) (m ((d.tc : Thread nD τ).loc main_arg1)) _ (counters_eq m d),
    mean_pn (E m d) _ (lrow m d) (lrow_apply m d) hl, mean_pd (E m d) _ (lrow m d) (lrow_apply m d) hl,
    mean_nn (E m d) _ (lrow m d) (lrow_apply m d) hl, mean_nd (E m d) _ (lrow m d) (lrow_apply m d) hl]

end Result

end Cert.Proof.Val
-- ==== Proof.Algebraic.lean ====
module

public import proofs.«01_k».proof.Proof.Frames
public import proofs.«01_k».proof.Proof.ValueEq

/-!
The value claim: for labels that name classes, every run of the idealized kernel ends with the reference's result.
-/

@[expose] public section

noncomputable section

namespace Cert.Proof

open Idealize.ShloMosaic Idealize.SL.Sem

instance labelsFacts : Cert.Pre_labels_in_classes.Facts where
  bcast_S_S4096 := by decide

/-- A signed word from 0 to 127 is below 128 as a number. -/
theorem word_small (v : BitVec 32) (h : IntOp.andi (IntOp.cmpi .sge v 0#32) (IntOp.cmpi .slt v 128#32) = 1#1) : v.toNat < 128 := by
  have both (p q : Bool) : IntOp.andi (BitVec.ofBool p) (BitVec.ofBool q) = 1#1 → p = true ∧ q = true := by
    cases p <;> cases q <;> decide
  obtain ⟨h0, h1⟩ := both _ _ h
  simp only [BitVec.sle_eq_decide, BitVec.slt_eq_decide, decide_eq_true_eq, BitVec.toInt_eq_toNat_cond, BitVec.toNat_ofNat, Nat.reducePow, Nat.reduceMod] at h0 h1
  omega

/-- Every label is below 128. -/
theorem labels_small (m : (ℓ : Loc Cert.KernelIdeal.nD Cert.KernelIdeal.τ Cert.KernelIdeal.sig) → Buf (Elt Ideal) ℓ)
    (h : Cert.Pre_KernelIdeal_labels_in_classes m) (c : Dev Cert.KernelIdeal.nD) (l : IVec Cert.KernelIdeal.S4096 32)
    (hl : m ((c.tc : Thread Cert.KernelIdeal.nD Cert.KernelIdeal.τ).loc Cert.KernelIdeal.main_arg1) = l) (p : Fin 4096) : (l (ix1 p)).toNat < 128 := by
  have e := congrFun (h c) (ix1 p)
  rw [hl] at e
  exact word_small _ e

theorem frame_kernelIdeal_pre : Cert.quiescent_KernelIdeal_pre_labels_in_classes := fun m ρ _ => frame_run (F := Ideal) m ρ

theorem frame_reference_pre : Cert.quiescent_ReferenceIdeal_pre_labels_in_classes := fun m ρ _ =>
  (θ_run Cert.ReferenceIdeal.defs _ _).mono (fun r h => ⟨fun c => (h c).2, sem_eq_zero_of_no_sems (by rfl) _⟩) (Cert.ReferenceIdeal.Value.run m ρ)

/-- The kernel's last valuation holds the reference's result. -/
theorem result_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h : Cert.Pre_KernelIdeal_labels_in_classes m) :
    Cert.ReferenceIdeal.Value.res_main_v71 m' c = Run.U15 m c (Proc.devRef .tc Cert.KernelIdeal.main_v51) := by
  refine (Val.Ref.result_eq m' c).trans ?_
  rw [h0, h1]
  exact (Val.kernel_value m c _ rfl (labels_small m h c _ rfl)).symm

theorem values : Cert.algebraic_KernelIdeal_ReferenceIdeal_pre_labels_in_classes := fun m ρ m' ρ' h hm =>
  ⟨fun c => Run.U15 m c (Proc.devRef .tc Cert.KernelIdeal.main_v51),
    (θ_run Cert.KernelIdeal.defs _ _).mono (fun _ hr c => ⟨(hr.1 c).2.2, (hr.1 c).1, (hr.1 c).2.1⟩) (Run.run_main (F := Ideal) m ρ),
    (θ_run Cert.ReferenceIdeal.defs _ _).mono (fun _ hr c => ⟨(hr c).1.trans (result_same m m' c (hm c).1 (hm c).2 h), (hr c).2⟩) (Cert.ReferenceIdeal.Value.run m' ρ')⟩

end Cert.Proof
-- ==== Proof.lean ====
/- The claims of this certificate: the frames of the kernel (as printed and idealized) and of the reference, that idealizing the kernel rewrote nothing, and that the idealized kernel's result is the reference's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Algebraic

@[expose] public section

noncomputable section

namespace Cert.Proof

open Idealize.ShloMosaic Idealize.SL.Sem

theorem claim : Cert.Claim :=
  ⟨kernelFacts, kernelIdealFacts, referenceFacts, labelsFacts, frame_kernel, frame_kernelIdeal, frame_kernelIdeal_pre, frame_reference, frame_reference_pre, trivial, values⟩

end Cert.Proof

end
